-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rotary_tables [hPre_rotary_tables : Cert.Pre_rotary_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rotary_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rotary_tables [hPre_rotary_tables : Cert.Pre_rotary_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rotary_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_rotary_tables [hKernel2Ideal : Cert.Kernel2Ideal.Facts] [hPre_rotary_tables : Cert.Pre_rotary_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rotary_tables m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_rotary_tables [hReference2Ideal : Cert.Reference2Ideal.Facts] [hPre_rotary_tables : Cert.Pre_rotary_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rotary_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "neg_log2e" .f32 0xBFB8AA3B#32 ((-((Real.log 2)⁻¹) : ℝ) : EReal)

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "qscale" .f32 0x3E0293EE#32 ((((Real.sqrt 128) * (Real.log 2))⁻¹ : ℝ) : EReal)

def algebraic_Kernel2Ideal_Reference2Ideal_pre_rotary_tables [hKernel2Ideal : Cert.Kernel2Ideal.Facts] [hReference2Ideal : Cert.Reference2Ideal.Facts] [hPre_rotary_tables : Cert.Pre_rotary_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rotary_tables m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v97) = v3 c
          ∧ r.2.mem ((c.tc : Thread Cert.Reference2Ideal.nD Cert.Reference2Ideal.τ).loc Cert.Reference2Ideal.main_v44) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_with_ones : Cert.Pre_finite_with_ones.Facts) (hPre_rotary_tables : Cert.Pre_rotary_tables.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Kernel2Ideal_pre_rotary_tables (hKernel2Ideal := hKernel2Ideal) (hPre_rotary_tables := hPre_rotary_tables)
    ∧ quiescent_Reference2Ideal (hReference2Ideal := hReference2Ideal)
    ∧ quiescent_Reference2Ideal_pre_rotary_tables (hReference2Ideal := hReference2Ideal) (hPre_rotary_tables := hPre_rotary_tables)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal_pre_rotary_tables (hKernel2Ideal := hKernel2Ideal) (hReference2Ideal := hReference2Ideal) (hPre_rotary_tables := hPre_rotary_tables)
-- ==== Pre_finite_with_ones.lean ====
abbrev S32x8x2048x128 : Shape := ⟨4, ![32, 8, 2048, 128]⟩
abbrev S32x8x144x2048 : Shape := ⟨4, ![32, 8, 144, 2048]⟩
abbrev S32x8x8x128 : Shape := ⟨4, ![32, 8, 8, 128]⟩
abbrev S32x2048x1024 : Shape := ⟨3, ![32, 2048, 1024]⟩
abbrev S32x3072 : Shape := ⟨2, ![32, 3072]⟩
abbrev S1024x1024 : Shape := ⟨2, ![1024, 1024]⟩
abbrev S1024 : Shape := ⟨1, ![1024]⟩
abbrev S_ : Shape := ⟨0, ![]⟩
abbrev S32x8x1x2048 : Shape := ⟨4, ![32, 8, 1, 2048]⟩

class Facts : Prop where
  bitsLt_bf16_f32 : FTy.bits .bf16 < FTy.bits .f32
  bcast_S_S32x8x2048x128 : S_.BroadcastsInDim S32x8x2048x128 (![] : Fin 0 → Fin S32x8x2048x128.rank)
  reducesTo_S32x8x2048x128_S_d0_1_2_3 : S32x8x2048x128.ReducesTo [0, 1, 2, 3] S_
  h_S_ : 0 < S_.numel
  bcast_S_S32x8x8x128 : S_.BroadcastsInDim S32x8x8x128 (![] : Fin 0 → Fin S32x8x8x128.rank)
  reducesTo_S32x8x8x128_S_d0_1_2_3 : S32x8x8x128.ReducesTo [0, 1, 2, 3] S_
  slices_S32x8x144x2048_S32x8x1x2048_0_0_128_0 : S32x8x144x2048.Slices ![0, 0, 128, 0] S32x8x1x2048
  bcast_S_S32x8x1x2048 : S_.BroadcastsInDim S32x8x1x2048 (![] : Fin 0 → Fin S32x8x1x2048.rank)
  reducesTo_S32x8x1x2048_S_d0_1_2_3 : S32x8x1x2048.ReducesTo [0, 1, 2, 3] S_

variable [Facts]

def fn_part1 {F : FTy → Type} [FloatOps F] (main_v15 : IVec S_ 1) (main_v17 : FVec F S32x8x1x2048 .f32) : IVec S_ 1 :=
  let main_cst_4 : FVec F S_ .f32 := constant S_ .f32 0x3F800000#32
  let main_v18 : FVec F S32x8x1x2048 .f32 := broadcastInDim S32x8x1x2048 ![] bcast_S_S32x8x1x2048 main_cst_4
  let main_v19 : IVec S32x8x1x2048 1 := cmpf .oeq main_v17 main_v18
  let main_c_5 : IVec S_ 1 := constantI S_ 1 1#1
  let main_v20 : IVec S_ 1 := (fun x v => Host.reduce IntOp.andi x v reducesTo_S32x8x1x2048_S_d0_1_2_3 h_S_) main_v19 main_c_5
  let main_v21 : IVec S_ 1 := andi main_v15 main_v20
  main_v21

def fn {F : FTy → Type} [FloatOps F] (main_arg0 : FVec F S32x8x2048x128 .bf16) (main_arg1 : FVec F S32x8x2048x128 .bf16) (main_arg2 : FVec F S32x8x144x2048 .bf16) (main_arg3 : FVec F S32x8x8x128 .f32) (main_arg4 : FVec F S32x8x2048x128 .bf16) (main_arg5 : FVec F S32x2048x1024 .f32) (main_arg6 : FVec F S32x3072 .f32) (main_arg7 : FVec F S1024x1024 .bf16) (main_arg8 : FVec F S1024 .f32) : IVec S_ 1 :=
  let main_v0 : FVec F S32x8x2048x128 .f32 := (extf .f32 · bitsLt_bf16_f32) main_arg0
  let main_v1 : FVec F S32x8x2048x128 .f32 := Host.absf main_v0
  let main_cst : FVec F S_ .f32 := constant S_ .f32 0x7F800000#32
  let main_v2 : FVec F S32x8x2048x128 .f32 := broadcastInDim S32x8x2048x128 ![] bcast_S_S32x8x2048x128 main_cst
  let main_v3 : IVec S32x8x2048x128 1 := cmpf .olt main_v1 main_v2
  let main_c : IVec S_ 1 := constantI S_ 1 1#1
  let main_v4 : IVec S_ 1 := (fun x v => Host.reduce IntOp.andi x v reducesTo_S32x8x2048x128_S_d0_1_2_3 h_S_) main_v3 main_c
  let main_v5 : FVec F S32x8x2048x128 .f32 := (extf .f32 · bitsLt_bf16_f32) main_arg1
  let main_v6 : FVec F S32x8x2048x128 .f32 := Host.absf main_v5
  let main_cst_0 : FVec F S_ .f32 := constant S_ .f32 0x7F800000#32
  let main_v7 : FVec F S32x8x2048x128 .f32 := broadcastInDim S32x8x2048x128 ![] bcast_S_S32x8x2048x128 main_cst_0
  let main_v8 : IVec S32x8x2048x128 1 := cmpf .olt main_v6 main_v7
  let main_c_1 : IVec S_ 1 := constantI S_ 1 1#1
  let main_v9 : IVec S_ 1 := (fun x v => Host.reduce IntOp.andi x v reducesTo_S32x8x2048x128_S_d0_1_2_3 h_S_) main_v8 main_c_1
  let main_v10 : IVec S_ 1 := andi main_v4 main_v9
  let main_v11 : FVec F S32x8x8x128 .f32 := Host.absf main_arg3
  let main_cst_2 : FVec F S_ .f32 := constant S_ .f32 0x7F800000#32
  let main_v12 : FVec F S32x8x8x128 .f32 := broadcastInDim S32x8x8x128 ![] bcast_S_S32x8x8x128 main_cst_2
  let main_v13 : IVec S32x8x8x128 1 := cmpf .olt main_v11 main_v12
  let main_c_3 : IVec S_ 1 := constantI S_ 1 1#1
  let main_v14 : IVec S_ 1 := (fun x v => Host.reduce IntOp.andi x v reducesTo_S32x8x8x128_S_d0_1_2_3 h_S_) main_v13 main_c_3
  let main_v15 : IVec S_ 1 := andi main_v10 main_v14
  let main_v16 : FVec F S32x8x1x2048 .bf16 := (extractStridedSlice S32x8x1x2048 ![0, 0, 128, 0] · slices_S32x8x144x2048_S32x8x1x2048_0_0_128_0) main_arg2
  let main_v17 : FVec F S32x8x1x2048 .f32 := (extf .f32 · bitsLt_bf16_f32) main_v16
  fn_part1 (F := F) main_v15 main_v17
-- ==== Pre_rotary_tables.lean ====
abbrev S32x2048x1024 : Shape := ⟨3, ![32, 2048, 1024]⟩
abbrev S32x3072 : Shape := ⟨2, ![32, 3072]⟩
abbrev S1024 : Shape := ⟨1, ![1024]⟩
abbrev S1024x1024 : Shape := ⟨2, ![1024, 1024]⟩
abbrev S1024x2048 : Shape := ⟨2, ![1024, 2048]⟩
abbrev S32x2048x128 : Shape := ⟨3, ![32, 2048, 128]⟩
abbrev S32x2048x64 : Shape := ⟨3, ![32, 2048, 64]⟩
abbrev S_ : Shape := ⟨0, ![]⟩

class Facts : Prop where
  slices_S32x2048x128_S32x2048x64_0_0_0 : S32x2048x128.Slices ![0, 0, 0] S32x2048x64
  slices_S32x2048x128_S32x2048x64_0_0_64 : S32x2048x128.Slices ![0, 0, 64] S32x2048x64
  reducesTo_S32x2048x64_S_d0_1_2 : S32x2048x64.ReducesTo [0, 1, 2] S_
  h_S_ : 0 < S_.numel

variable [Facts]

def fn {F : FTy → Type} [FloatOps F] (main_arg0 : FVec F S32x2048x1024 .f32) (main_arg1 : FVec F S32x3072 .f32) (main_arg2 : FVec F S1024 .f32) (main_arg3 : FVec F S1024 .f32) (main_arg4 : FVec F S1024x1024 .bf16) (main_arg5 : FVec F S1024x1024 .bf16) (main_arg6 : FVec F S1024x2048 .bf16) (main_arg7 : FVec F S32x2048x128 .f32) (main_arg8 : FVec F S32x2048x128 .f32) : IVec S_ 1 :=
  let main_v0 : FVec F S32x2048x64 .f32 := (extractStridedSlice S32x2048x64 ![0, 0, 0] · slices_S32x2048x128_S32x2048x64_0_0_0) main_arg7
  let main_v1 : FVec F S32x2048x64 .f32 := (extractStridedSlice S32x2048x64 ![0, 0, 64] · slices_S32x2048x128_S32x2048x64_0_0_64) main_arg7
  let main_v2 : FVec F S32x2048x64 .f32 := (extractStridedSlice S32x2048x64 ![0, 0, 0] · slices_S32x2048x128_S32x2048x64_0_0_0) main_arg8
  let main_v3 : FVec F S32x2048x64 .f32 := (extractStridedSlice S32x2048x64 ![0, 0, 64] · slices_S32x2048x128_S32x2048x64_0_0_64) main_arg8
  let main_v4 : IVec S32x2048x64 1 := cmpf .oeq main_v0 main_v1
  let main_c : IVec S_ 1 := constantI S_ 1 1#1
  let main_v5 : IVec S_ 1 := (fun x v => Host.reduce IntOp.andi x v reducesTo_S32x2048x64_S_d0_1_2 h_S_) main_v4 main_c
  let main_v6 : FVec F S32x2048x64 .f32 := Host.negf main_v3
  let main_v7 : IVec S32x2048x64 1 := cmpf .oeq main_v2 main_v6
  let main_c_0 : IVec S_ 1 := constantI S_ 1 1#1
  let main_v8 : IVec S_ 1 := (fun x v => Host.reduce IntOp.andi x v reducesTo_S32x2048x64_S_d0_1_2 h_S_) main_v7 main_c_0
  let main_v9 : IVec S_ 1 := andi main_v5 main_v8
  main_v9
-- ==== Kernel.lean ====
abbrev S32x8x2048x128 : Shape := ⟨4, ![32, 8, 2048, 128]⟩
abbrev S32x8x144x2048 : Shape := ⟨4, ![32, 8, 144, 2048]⟩
abbrev S32x8x8x128 : Shape := ⟨4, ![32, 8, 8, 128]⟩
abbrev S32x2048x1024 : Shape := ⟨3, ![32, 2048, 1024]⟩
abbrev S32x3072 : Shape := ⟨2, ![32, 3072]⟩
abbrev S1024x1024 : Shape := ⟨2, ![1024, 1024]⟩
abbrev S1024 : Shape := ⟨1, ![1024]⟩
abbrev S32x1x3072 : Shape := ⟨3, ![32, 1, 3072]⟩
abbrev S1x1024 : Shape := ⟨2, ![1, 1024]⟩
abbrev S1x8x512x128 : Shape := ⟨4, ![1, 8, 512, 128]⟩
abbrev S1x8x2048x128 : Shape := ⟨4, ![1, 8, 2048, 128]⟩
abbrev S1x8x144x2048 : Shape := ⟨4, ![1, 8, 144, 2048]⟩
abbrev S1x8x8x128 : Shape := ⟨4, ![1, 8, 8, 128]⟩
abbrev S1x512x1024 : Shape := ⟨3, ![1, 512, 1024]⟩
abbrev S1x1x3072 : Shape := ⟨3, ![1, 1, 3072]⟩
abbrev S8x256x256 : Shape := ⟨3, ![8, 256, 256]⟩
abbrev S8x512x128 : Shape := ⟨3, ![8, 512, 128]⟩
abbrev S256x256 : Shape := ⟨2, ![256, 256]⟩
abbrev S8x256 : Shape := ⟨2, ![8, 256]⟩
abbrev S1x1x256x128 : Shape := ⟨4, ![1, 1, 256, 128]⟩
abbrev S256x128 : Shape := ⟨2, ![256, 128]⟩
abbrev S1x256x256 : Shape := ⟨3, ![1, 256, 256]⟩
abbrev S32x8x256 : Shape := ⟨3, ![32, 8, 256]⟩
abbrev S256 : Shape := ⟨1, ![256]⟩
abbrev S1x256 : Shape := ⟨2, ![1, 256]⟩
abbrev S1x1x144x256 : Shape := ⟨4, ![1, 1, 144, 256]⟩
abbrev S144x256 : Shape := ⟨2, ![144, 256]⟩
abbrev S128x256 : Shape := ⟨2, ![128, 256]⟩
abbrev S1x256x128 : Shape := ⟨3, ![1, 256, 128]⟩
abbrev S1x1x512x128 : Shape := ⟨4, ![1, 1, 512, 128]⟩
abbrev S512x128 : Shape := ⟨2, ![512, 128]⟩
abbrev S512x256 : Shape := ⟨2, ![512, 256]⟩
abbrev S1x1x144x512 : Shape := ⟨4, ![1, 1, 144, 512]⟩
abbrev S144x512 : Shape := ⟨2, ![144, 512]⟩
abbrev S1x1x768x128 : Shape := ⟨4, ![1, 1, 768, 128]⟩
abbrev S768x128 : Shape := ⟨2, ![768, 128]⟩
abbrev S768x256 : Shape := ⟨2, ![768, 256]⟩
abbrev S1x1x144x768 : Shape := ⟨4, ![1, 1, 144, 768]⟩
abbrev S144x768 : Shape := ⟨2, ![144, 768]⟩
abbrev S1x1x1024x128 : Shape := ⟨4, ![1, 1, 1024, 128]⟩
abbrev S1024x128 : Shape := ⟨2, ![1024, 128]⟩
abbrev S1024x256 : Shape := ⟨2, ![1024, 256]⟩
abbrev S1x1x144x1024 : Shape := ⟨4, ![1, 1, 144, 1024]⟩
abbrev S144x1024 : Shape := ⟨2, ![144, 1024]⟩
abbrev S1x1x1280x128 : Shape := ⟨4, ![1, 1, 1280, 128]⟩
abbrev S1280x128 : Shape := ⟨2, ![1280, 128]⟩
abbrev S1x8x1x128 : Shape := ⟨4, ![1, 8, 1, 128]⟩
abbrev S8x128 : Shape := ⟨2, ![8, 128]⟩
abbrev S16x128 : Shape := ⟨2, ![16, 128]⟩
abbrev S1296x128 : Shape := ⟨2, ![1296, 128]⟩
abbrev S1296x256 : Shape := ⟨2, ![1296, 256]⟩
abbrev S1280x256 : Shape := ⟨2, ![1280, 256]⟩
abbrev S1x1x144x1280 : Shape := ⟨4, ![1, 1, 144, 1280]⟩
abbrev S144x1280 : Shape := ⟨2, ![144, 1280]⟩
abbrev S1x1x1536x128 : Shape := ⟨4, ![1, 1, 1536, 128]⟩
abbrev S1536x128 : Shape := ⟨2, ![1536, 128]⟩
abbrev S1552x128 : Shape := ⟨2, ![1552, 128]⟩
abbrev S1552x256 : Shape := ⟨2, ![1552, 256]⟩
abbrev S1536x256 : Shape := ⟨2, ![1536, 256]⟩
abbrev S1x1x144x1536 : Shape := ⟨4, ![1, 1, 144, 1536]⟩
abbrev S144x1536 : Shape := ⟨2, ![144, 1536]⟩
abbrev S1x1x1792x128 : Shape := ⟨4, ![1, 1, 1792, 128]⟩
abbrev S1792x128 : Shape := ⟨2, ![1792, 128]⟩
abbrev S1808x128 : Shape := ⟨2, ![1808, 128]⟩
abbrev S1808x256 : Shape := ⟨2, ![1808, 256]⟩
abbrev S1792x256 : Shape := ⟨2, ![1792, 256]⟩
abbrev S1x1x144x1792 : Shape := ⟨4, ![1, 1, 144, 1792]⟩
abbrev S144x1792 : Shape := ⟨2, ![144, 1792]⟩
abbrev S1x1x2048x128 : Shape := ⟨4, ![1, 1, 2048, 128]⟩
abbrev S2048x128 : Shape := ⟨2, ![2048, 128]⟩
abbrev S2064x128 : Shape := ⟨2, ![2064, 128]⟩
abbrev S2064x256 : Shape := ⟨2, ![2064, 256]⟩
abbrev S2048x256 : Shape := ⟨2, ![2048, 256]⟩
abbrev S1x1x144x2048 : Shape := ⟨4, ![1, 1, 144, 2048]⟩
abbrev S144x2048 : Shape := ⟨2, ![144, 2048]⟩
abbrev S1x512x128 : Shape := ⟨3, ![1, 512, 128]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩

abbrev nBuf : Space → Nat
  | .hbm => 12
  | .vmem => 23
  | .smem => 0
  | _ => 0

abbrev bufTy : (tb : Table) → Fin (tcTables nBuf tb) → BufTy
  | .hbm, ⟨0, _⟩ => ⟨S32x8x2048x128, .bf16⟩
  | .hbm, ⟨1, _⟩ => ⟨S32x8x2048x128, .bf16⟩
  | .hbm, ⟨2, _⟩ => ⟨S32x8x144x2048, .bf16⟩
  | .hbm, ⟨3, _⟩ => ⟨S32x8x8x128, .f32⟩
  | .hbm, ⟨4, _⟩ => ⟨S32x8x2048x128, .bf16⟩
  | .hbm, ⟨5, _⟩ => ⟨S32x2048x1024, .f32⟩
  | .hbm, ⟨6, _⟩ => ⟨S32x3072, .f32⟩
  | .hbm, ⟨7, _⟩ => ⟨S1024x1024, .bf16⟩
  | .hbm, ⟨8, _⟩ => ⟨S1024, .f32⟩
  | .hbm, ⟨9, _⟩ => ⟨S32x1x3072, .f32⟩
  | .hbm, ⟨10, _⟩ => ⟨S1x1024, .f32⟩
  | .hbm, ⟨11, _⟩ => ⟨S32x2048x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x8x144x2048, .bf16⟩
  | .local _ .vmem, ⟨5, _⟩ => ⟨S1x8x144x2048, .bf16⟩
  | .local _ .vmem, ⟨6, _⟩ => ⟨S1x8x8x128, .f32⟩
  | .local _ .vmem, ⟨7, _⟩ => ⟨S1x8x8x128, .f32⟩
  | .local _ .vmem, ⟨8, _⟩ => ⟨S1x8x512x128, .bf16⟩
  | .local _ .vmem, ⟨9, _⟩ => ⟨S1x8x512x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x3072, .f32⟩
  | .local _ .vmem, ⟨13, _⟩ => ⟨S1x1x3072, .f32⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S8x256x256, .f32⟩
  | .local _ .vmem, ⟨19, _⟩ => ⟨S8x256x256, .f32⟩
  | .local _ .vmem, ⟨20, _⟩ => ⟨S8x256x256, .f32⟩
  | .local _ .vmem, ⟨21, _⟩ => ⟨S8x256x256, .f32⟩
  | .local _ .vmem, ⟨22, _⟩ => ⟨S8x512x128, .bf16⟩
  | _, _ => ⟨S32x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x144x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S32x8x2048x128 : Shape := ⟨4, ![32, 8, 2048, 128]⟩
abbrev S32x8x144x2048 : Shape := ⟨4, ![32, 8, 144, 2048]⟩
abbrev S32x8x8x128 : Shape := ⟨4, ![32, 8, 8, 128]⟩
abbrev S32x2048x1024 : Shape := ⟨3, ![32, 2048, 1024]⟩
abbrev S32x3072 : Shape := ⟨2, ![32, 3072]⟩
abbrev S1024x1024 : Shape := ⟨2, ![1024, 1024]⟩
abbrev S1024 : Shape := ⟨1, ![1024]⟩
abbrev S32x8x8x256x128 : Shape := ⟨5, ![32, 8, 8, 256, 128]⟩
abbrev S32x8x128x2048 : Shape := ⟨4, ![32, 8, 128, 2048]⟩
abbrev S2048 : Shape := ⟨1, ![2048]⟩
abbrev S_ : Shape := ⟨0, ![]⟩
abbrev S4 : Shape := ⟨1, ![4]⟩
abbrev S32x8x2048x8 : Shape := ⟨4, ![32, 8, 2048, 8]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S32x8x2048x3 : Shape := ⟨4, ![32, 8, 2048, 3]⟩
abbrev S32x8x2048x1 : Shape := ⟨4, ![32, 8, 2048, 1]⟩
abbrev S32x8x2048x4 : Shape := ⟨4, ![32, 8, 2048, 4]⟩
abbrev S32x8x2048x8x256 : Shape := ⟨5, ![32, 8, 2048, 8, 256]⟩
abbrev S32x8x2048x4x1 : Shape := ⟨5, ![32, 8, 2048, 4, 1]⟩
abbrev S1 : Shape := ⟨1, ![1]⟩
abbrev S1x1x1x1x1 : Shape := ⟨5, ![1, 1, 1, 1, 1]⟩
abbrev S32x8x2048x4x256 : Shape := ⟨5, ![32, 8, 2048, 4, 256]⟩
abbrev S256 : Shape := ⟨1, ![256]⟩
abbrev S1x1x1x1x256 : Shape := ⟨5, ![1, 1, 1, 1, 256]⟩
abbrev S2048x1x1 : Shape := ⟨3, ![2048, 1, 1]⟩
abbrev S1x1x2048x1x1 : Shape := ⟨5, ![1, 1, 2048, 1, 1]⟩
abbrev S4x1 : Shape := ⟨2, ![4, 1]⟩
abbrev S1x1x2048x1 : Shape := ⟨4, ![1, 1, 2048, 1]⟩
abbrev S1x1x1x4x1 : Shape := ⟨5, ![1, 1, 1, 4, 1]⟩
abbrev S32x8x2048x1024 : Shape := ⟨4, ![32, 8, 2048, 1024]⟩
abbrev S32x8x2048 : Shape := ⟨3, ![32, 8, 2048]⟩
abbrev S1x1x1x1x8 : Shape := ⟨5, ![1, 1, 1, 1, 8]⟩
abbrev S32x8x2048x4x8 : Shape := ⟨5, ![32, 8, 2048, 4, 8]⟩
abbrev S32x2048x8x128 : Shape := ⟨4, ![32, 2048, 8, 128]⟩
abbrev S32x2048 : Shape := ⟨2, ![32, 2048]⟩
abbrev S32x2048x1 : Shape := ⟨3, ![32, 2048, 1]⟩
abbrev S1x1x1024 : Shape := ⟨3, ![1, 1, 1024]⟩
abbrev S32x1024 : Shape := ⟨2, ![32, 1024]⟩
abbrev S32x1x1024 : Shape := ⟨3, ![32, 1, 1024]⟩

abbrev nBuf : Space → Nat
  | .hbm => 159
  | .vmem => 0
  | .smem => 0
  | _ => 0

abbrev hbmTy0_0 (i : Nat) : BufTy := match i % 128 with
  | 0 => ⟨S32x8x2048x128, .bf16⟩
  | 1 => ⟨S32x8x2048x128, .bf16⟩
  | 2 => ⟨S32x8x144x2048, .bf16⟩
  | 3 => ⟨S32x8x8x128, .f32⟩
  | 4 => ⟨S32x8x2048x128, .bf16⟩
  | 5 => ⟨S32x2048x1024, .f32⟩
  | 6 => ⟨S32x3072, .f32⟩
  | 7 => ⟨S1024x1024, .bf16⟩
  | 8 => ⟨S1024, .f32⟩
  | 9 => ⟨S32x8x2048x128, .f32⟩
  | 10 => ⟨S32x8x2048x128, .f32⟩
  | 11 => ⟨S32x8x8x256x128, .f32⟩
  | 12 => ⟨S32x8x128x2048, .bf16⟩
  | 13 => ⟨S32x8x128x2048, .f32⟩
  | 14 => ⟨S32x8x2048x128, .f32⟩
  | 15 => ⟨S32x8x8x256x128, .f32⟩
  | 16 => ⟨S2048, .i32⟩
  | 17 => ⟨S_, .i32⟩
  | 18 => ⟨S2048, .i32⟩
  | 19 => ⟨S2048, .i32⟩
  | 20 => ⟨S4, .i32⟩
  | 21 => ⟨S_, .i32⟩
  | 22 => ⟨S4, .i32⟩
  | 23 => ⟨S4, .i1⟩
  | 24 => ⟨S32x8x2048x8, .f32⟩
  | 25 => ⟨S8, .i32⟩
  | 26 => ⟨S2048x1, .i32⟩
  | 27 => ⟨S1x8, .i32⟩
  | 28 => ⟨S2048x8, .i32⟩
  | 29 => ⟨S2048x8, .i32⟩
  | 30 => ⟨S2048x8, .i1⟩
  | 31 => ⟨S_, .f32⟩
  | 32 => ⟨S_, .f32⟩
  | 33 => ⟨S32x8x2048x8, .i1⟩
  | 34 => ⟨S32x8x2048x8, .f32⟩
  | 35 => ⟨S32x8x2048x8, .f32⟩
  | 36 => ⟨S32x8x2048x3, .f32⟩
  | 37 => ⟨S32x8x2048x3, .i32⟩
  | 38 => ⟨S2048x1, .i32⟩
  | 39 => ⟨S32x8x2048x1, .i32⟩
  | 40 => ⟨S32x8x2048x4, .i32⟩
  | 41 => ⟨S32x8x2048x8x256, .f32⟩
  | 42 => ⟨S_, .f32⟩
  | 43 => ⟨S_, .f32⟩
  | 44 => ⟨S32x8x2048x8x256, .f32⟩
  | 45 => ⟨S32x8x2048x8x256, .f32⟩
  | 46 => ⟨S32x8x2048x4x1, .i32⟩
  | 47 => ⟨S_, .i32⟩
  | 48 => ⟨S32x8x2048x4x1, .i32⟩
  | 49 => ⟨S32x8x2048x4x1, .i1⟩
  | 50 => ⟨S_, .i32⟩
  | 51 => ⟨S32x8x2048x4x1, .i32⟩
  | 52 => ⟨S32x8x2048x4x1, .i32⟩
  | 53 => ⟨S32x8x2048x4x1, .i32⟩
  | 54 => ⟨S1, .i32⟩
  | 55 => ⟨S_, .i32⟩
  | 56 => ⟨S32x8x2048x4x1, .i32⟩
  | 57 => ⟨S32x8x2048x4x1, .i1⟩
  | 58 => ⟨S1x1x1x1x1, .i32⟩
  | 59 => ⟨S32x8x2048x4x1, .i32⟩
  | 60 => ⟨S32x8x2048x4x1, .i1⟩
  | 61 => ⟨S32x8x2048x4x1, .i1⟩
  | 62 => ⟨S_, .i1⟩
  | 63 => ⟨S32x8x2048x4, .i1⟩
  | 64 => ⟨S32x8x2048x4x256, .f32⟩
  | 65 => ⟨S32x8x2048x4x256, .i1⟩
  | 66 => ⟨S_, .f32⟩
  | 67 => ⟨S32x8x2048x4x256, .f32⟩
  | 68 => ⟨S32x8x2048x4x256, .f32⟩
  | 69 => ⟨S32x8x2048x4x1, .i32⟩
  | 70 => ⟨S_, .i32⟩
  | 71 => ⟨S32x8x2048x4x1, .i32⟩
  | 72 => ⟨S32x8x2048x4x1, .i32⟩
  | 73 => ⟨S256, .i32⟩
  | 74 => ⟨S1x1x1x1x256, .i32⟩
  | 75 => ⟨S32x8x2048x4x256, .i32⟩
  | 76 => ⟨S32x8x2048x4x256, .i32⟩
  | 77 => ⟨S32x8x2048x4x256, .i32⟩
  | 78 => ⟨S2048x1x1, .i32⟩
  | 79 => ⟨S1x1x2048x1x1, .i32⟩
  | 80 => ⟨S32x8x2048x4x256, .i32⟩
  | 81 => ⟨S32x8x2048x4x256, .i1⟩
  | 82 => ⟨S4x1, .i1⟩
  | 83 => ⟨S2048x1, .i32⟩
  | 84 => ⟨S1x1x2048x1, .i32⟩
  | 85 => ⟨S32x8x2048x4, .i32⟩
  | 86 => ⟨S32x8x2048x4, .i1⟩
  | 87 => ⟨S32x8x2048x4x1, .i1⟩
  | 88 => ⟨S1x1x1x4x1, .i1⟩
  | 89 => ⟨S32x8x2048x4x1, .i1⟩
  | 90 => ⟨S32x8x2048x4x1, .i1⟩
  | 91 => ⟨S32x8x2048x4x256, .i1⟩
  | 92 => ⟨S32x8x2048x4x256, .i1⟩
  | 93 => ⟨S_, .f32⟩
  | 94 => ⟨S_, .f32⟩
  | 95 => ⟨S32x8x2048x4x256, .f32⟩
  | 96 => ⟨S32x8x2048x4x256, .f32⟩
  | 97 => ⟨S32x8x2048x1024, .f32⟩
  | 98 => ⟨S_, .f32⟩
  | 99 => ⟨S32x8x2048, .f32⟩
  | 100 => ⟨S_, .f32⟩
  | 101 => ⟨S32x8x2048, .f32⟩
  | 102 => ⟨S32x8x2048, .f32⟩
  | 103 => ⟨S32x8x2048x1, .f32⟩
  | 104 => ⟨S32x8x2048x1024, .f32⟩
  | 105 => ⟨S32x8x2048x1024, .f32⟩
  | 106 => ⟨S32x8x2048x1024, .f32⟩
  | 107 => ⟨S_, .f32⟩
  | 108 => ⟨S32x8x2048, .f32⟩
  | 109 => ⟨S32x8x2048x1, .f32⟩
  | 110 => ⟨S32x8x2048x1024, .f32⟩
  | 111 => ⟨S32x8x2048x1024, .f32⟩
  | 112 => ⟨S32x8x2048x4x256, .f32⟩
  | 113 => ⟨S32x8x2048x4x1, .i32⟩
  | 114 => ⟨S1x1x1x1x8, .i32⟩
  | 115 => ⟨S32x8x2048x4x8, .i32⟩
  | 116 => ⟨S32x8x2048x4x8, .i32⟩
  | 117 => ⟨S32x8x2048x4x8, .i1⟩
  | 118 => ⟨S32x8x2048x4x8, .f32⟩
  | 119 => ⟨S32x8x2048x8x256, .f32⟩
  | 120 => ⟨S32x8x2048x128, .f32⟩
  | 121 => ⟨S32x2048x8x128, .f32⟩
  | 122 => ⟨S32x2048x1024, .f32⟩
  | 123 => ⟨S32x8x2048x128, .f32⟩
  | 124 => ⟨S32x2048x8x128, .f32⟩
  | 125 => ⟨S32x2048x1024, .f32⟩
  | 126 => ⟨S32x2048x1024, .f32⟩
  | 127 => ⟨S32x2048x1024, .f32⟩
  | _ => ⟨S32x8x2048x128, .bf16⟩

abbrev hbmTy0_1 (i : Nat) : BufTy := match i % 128 with
  | 0 => ⟨S_, .f32⟩
  | 1 => ⟨S32x2048x1024, .f32⟩
  | 2 => ⟨S32x2048x1024, .f32⟩
  | 3 => ⟨S_, .f32⟩
  | 4 => ⟨S32x2048x1024, .f32⟩
  | 5 => ⟨S32x2048x1024, .f32⟩
  | 6 => ⟨S32x2048x1024, .f32⟩
  | 7 => ⟨S32x2048x1024, .f32⟩
  | 8 => ⟨S1024x1024, .f32⟩
  | 9 => ⟨S32x2048x1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x1024, .f32⟩
  | 27 => ⟨S32x1x1024, .f32⟩
  | 28 => ⟨S32x2048x1024, .f32⟩
  | 29 => ⟨S32x2048x1024, .f32⟩
  | 30 => ⟨S32x2048x1024, .f32⟩
  | _ => ⟨S32x8x2048x128, .bf16⟩

abbrev hbmTy (i : Nat) : BufTy := match i / 128 with
  | 0 => hbmTy0_0 i
  | 1 => hbmTy0_1 i
  | _ => ⟨S32x8x2048x128, .bf16⟩

abbrev bufTy : (tb : Table) → Fin (tcTables nBuf tb) → BufTy
  | .hbm, ⟨i, _⟩ => hbmTy i
  | _, _ => ⟨S32x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_values : Ref sig .tc := ⟨.hbm, 36, rfl⟩
abbrev main_indices : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_c_2 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v29 : Ref sig .tc := ⟨.hbm, 68, rfl⟩
abbrev main_v30 : Ref sig .tc := ⟨.hbm, 69, rfl⟩
abbrev main_c_2 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_3 : Ref sig .tc := ⟨.hbm, 93, rfl⟩
abbrev main_call2_v0 : Ref sig .tc := ⟨.hbm, 94, rfl⟩
abbrev main_call2_v1 : Ref sig .tc := ⟨.hbm, 95, rfl⟩
abbrev main_v53 : Ref sig .tc := ⟨.hbm, 96, rfl⟩
abbrev main_v54 : Ref sig .tc := ⟨.hbm, 97, rfl⟩
abbrev main_cst_4 : Ref sig .tc := ⟨.hbm, 98, rfl⟩
abbrev main_v55 : Ref sig .tc := ⟨.hbm, 99, rfl⟩
abbrev main_cst_5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_6 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_cst_7 : Ref sig .tc := ⟨.hbm, 139, rfl⟩
abbrev main_v80 : Ref sig .tc := ⟨.hbm, 140, rfl⟩
abbrev main_v81 : Ref sig .tc := ⟨.hbm, 141, rfl⟩
abbrev main_cst_8 : Ref sig .tc := ⟨.hbm, 142, rfl⟩
abbrev main_v82 : Ref sig .tc := ⟨.hbm, 143, rfl⟩
abbrev main_v83 : Ref sig .tc := ⟨.hbm, 144, rfl⟩
abbrev main_cst_9 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x3072 : Shape := ⟨2, ![32, 3072]⟩
abbrev S1024 : Shape := ⟨1, ![1024]⟩
abbrev S1024x1024 : Shape := ⟨2, ![1024, 1024]⟩
abbrev S1024x2048 : Shape := ⟨2, ![1024, 2048]⟩
abbrev S32x2048x128 : Shape := ⟨3, ![32, 2048, 128]⟩
abbrev S32x1x3072 : Shape := ⟨3, ![32, 1, 3072]⟩
abbrev S1x1024 : Shape := ⟨2, ![1, 1024]⟩
abbrev S32x8x2048x128 : Shape := ⟨4, ![32, 8, 2048, 128]⟩
abbrev S32x8x144x2048 : Shape := ⟨4, ![32, 8, 144, 2048]⟩
abbrev S32x8x8x128 : Shape := ⟨4, ![32, 8, 8, 128]⟩
abbrev S1x512x1024 : Shape := ⟨3, ![1, 512, 1024]⟩
abbrev S1x1x3072 : Shape := ⟨3, ![1, 1, 3072]⟩
abbrev S1x512x128 : Shape := ⟨3, ![1, 512, 128]⟩
abbrev S1x8x512x128 : Shape := ⟨4, ![1, 8, 512, 128]⟩
abbrev S1x8x144x512 : Shape := ⟨4, ![1, 8, 144, 512]⟩
abbrev S1x2x8x128 : Shape := ⟨4, ![1, 2, 8, 128]⟩
abbrev S512x1024 : Shape := ⟨2, ![512, 1024]⟩
abbrev S512 : Shape := ⟨1, ![512]⟩
abbrev S512x1 : Shape := ⟨2, ![512, 1]⟩
abbrev S1x3072 : Shape := ⟨2, ![1, 3072]⟩
abbrev S512x128 : Shape := ⟨2, ![512, 128]⟩
abbrev S1024x512 : Shape := ⟨2, ![1024, 512]⟩
abbrev S16x512 : Shape := ⟨2, ![16, 512]⟩
abbrev S1x1x512x128 : Shape := ⟨4, ![1, 1, 512, 128]⟩
abbrev S256x128 : Shape := ⟨2, ![256, 128]⟩
abbrev S128 : Shape := ⟨1, ![128]⟩
abbrev S1x128 : Shape := ⟨2, ![1, 128]⟩
abbrev S1x1x1x128 : Shape := ⟨4, ![1, 1, 1, 128]⟩
abbrev S128x512 : Shape := ⟨2, ![128, 512]⟩
abbrev S1x1x128x512 : Shape := ⟨4, ![1, 1, 128, 512]⟩
abbrev S1x1x16x512 : Shape := ⟨4, ![1, 1, 16, 512]⟩

abbrev nBuf : Space → Nat
  | .hbm => 17
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024, .f32⟩
  | .hbm, ⟨4, _⟩ => ⟨S1024x1024, .bf16⟩
  | .hbm, ⟨5, _⟩ => ⟨S1024x1024, .bf16⟩
  | .hbm, ⟨6, _⟩ => ⟨S1024x2048, .bf16⟩
  | .hbm, ⟨7, _⟩ => ⟨S32x2048x128, .f32⟩
  | .hbm, ⟨8, _⟩ => ⟨S32x2048x128, .f32⟩
  | .hbm, ⟨9, _⟩ => ⟨S32x1x3072, .f32⟩
  | .hbm, ⟨10, _⟩ => ⟨S1x1024, .f32⟩
  | .hbm, ⟨11, _⟩ => ⟨S1x1024, .f32⟩
  | .hbm, ⟨12, _⟩ => ⟨S32x8x2048x128, .bf16⟩
  | .hbm, ⟨13, _⟩ => ⟨S32x8x144x2048, .bf16⟩
  | .hbm, ⟨14, _⟩ => ⟨S32x8x2048x128, .bf16⟩
  | .hbm, ⟨15, _⟩ => ⟨S32x8x2048x128, .bf16⟩
  | .hbm, ⟨16, _⟩ => ⟨S32x8x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x8x512x128, .bf16⟩
  | .local _ .vmem, ⟨14, _⟩ => ⟨S1x8x512x128, .bf16⟩
  | .local _ .vmem, ⟨15, _⟩ => ⟨S1x8x144x512, .bf16⟩
  | .local _ .vmem, ⟨16, _⟩ => ⟨S1x8x144x512, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x2x8x128, .f32⟩
  | .local _ .vmem, ⟨22, _⟩ => ⟨S1x2x8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x144x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2Ideal.lean ====
variable {F : FTy → Type} [FloatOps F] [Named F]
def κ : String → Option EReal := fun
  | "qscale" => some ((((Real.sqrt 128) * (Real.log 2))⁻¹ : ℝ) : EReal)
  | _ => none
-- ==== Reference2Ideal.lean ====
abbrev S32x2048x1024 : Shape := ⟨3, ![32, 2048, 1024]⟩
abbrev S32x3072 : Shape := ⟨2, ![32, 3072]⟩
abbrev S1024 : Shape := ⟨1, ![1024]⟩
abbrev S1024x1024 : Shape := ⟨2, ![1024, 1024]⟩
abbrev S1024x2048 : Shape := ⟨2, ![1024, 2048]⟩
abbrev S32x2048x128 : Shape := ⟨3, ![32, 2048, 128]⟩
abbrev S32x1x3072 : Shape := ⟨3, ![32, 1, 3072]⟩
abbrev S32x1x1024 : Shape := ⟨3, ![32, 1, 1024]⟩
abbrev S32x2048x64 : Shape := ⟨3, ![32, 2048, 64]⟩
abbrev S32x2048x1x64 : Shape := ⟨4, ![32, 2048, 1, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x8x128 : Shape := ⟨4, ![32, 2048, 8, 128]⟩
abbrev S32x2048x8x64 : Shape := ⟨4, ![32, 2048, 8, 64]⟩
abbrev S32x8x256x8x128 : Shape := ⟨5, ![32, 8, 256, 8, 128]⟩
abbrev S32x8x8x128 : Shape := ⟨4, ![32, 8, 8, 128]⟩
abbrev S32x2048x2048 : Shape := ⟨3, ![32, 2048, 2048]⟩
abbrev S32x8x128x2048 : Shape := ⟨4, ![32, 8, 128, 2048]⟩
abbrev S32x8x16x2048 : Shape := ⟨4, ![32, 8, 16, 2048]⟩
abbrev S32x8x144x2048 : Shape := ⟨4, ![32, 8, 144, 2048]⟩
abbrev S32x8x2048x128 : Shape := ⟨4, ![32, 8, 2048, 128]⟩

abbrev nBuf : Space → Nat
  | .hbm => 119
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S1024, .f32⟩
  | .hbm, ⟨3, _⟩ => ⟨S1024, .f32⟩
  | .hbm, ⟨4, _⟩ => ⟨S1024x1024, .bf16⟩
  | .hbm, ⟨5, _⟩ => ⟨S1024x1024, .bf16⟩
  | .hbm, ⟨6, _⟩ => ⟨S1024x2048, .bf16⟩
  | .hbm, ⟨7, _⟩ => ⟨S32x2048x128, .f32⟩
  | .hbm, ⟨8, _⟩ => ⟨S32x2048x128, .f32⟩
  | .hbm, ⟨9, _⟩ => ⟨S32x1x3072, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x64, .f32⟩
  | .hbm, ⟨14, _⟩ => ⟨S32x2048x1x64, .f32⟩
  | .hbm, ⟨15, _⟩ => ⟨S32x2048x64, .f32⟩
  | .hbm, ⟨16, _⟩ => ⟨S32x2048x1x64, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S1024x1024, .f32⟩
  | .hbm, ⟨34, _⟩ => ⟨S32x2048x1024, .f32⟩
  | .hbm, ⟨35, _⟩ => ⟨S32x2048x8x128, .f32⟩
  | .hbm, ⟨36, _⟩ => ⟨S32x2048x8x64, .f32⟩
  | .hbm, ⟨37, _⟩ => ⟨S32x2048x8x64, .f32⟩
  | .hbm, ⟨38, _⟩ => ⟨S32x2048x8x64, .f32⟩
  | .hbm, ⟨39, _⟩ => ⟨S32x2048x8x64, .f32⟩
  | .hbm, ⟨40, _⟩ => ⟨S32x2048x8x64, .f32⟩
  | .hbm, ⟨41, _⟩ => ⟨S32x2048x8x64, .f32⟩
  | .hbm, ⟨42, _⟩ => ⟨S32x2048x8x64, .f32⟩
  | .hbm, ⟨43, _⟩ => ⟨S32x2048x8x64, .f32⟩
  | .hbm, ⟨44, _⟩ => ⟨S32x2048x8x64, .f32⟩
  | .hbm, ⟨45, _⟩ => ⟨S32x2048x8x64, .f32⟩
  | .hbm, ⟨46, _⟩ => ⟨S32x2048x8x64, .f32⟩
  | .hbm, ⟨47, _⟩ => ⟨S32x2048x8x64, .f32⟩
  | .hbm, ⟨48, _⟩ => ⟨S32x2048x8x128, .f32⟩
  | .hbm, ⟨49, _⟩ => ⟨S1024x1024, .f32⟩
  | .hbm, ⟨50, _⟩ => ⟨S1024x1024, .f32⟩
  | .hbm, ⟨51, _⟩ => ⟨S32x2048x1024, .f32⟩
  | .hbm, ⟨52, _⟩ => ⟨S32x2048x8x128, .f32⟩
  | .hbm, ⟨53, _⟩ => ⟨S32x8x256x8x128, .f32⟩
  | .hbm, ⟨54, _⟩ => ⟨S_, .f32⟩
  | .hbm, ⟨55, _⟩ => ⟨S32x8x8x128, .f32⟩
  | .hbm, ⟨56, _⟩ => ⟨S_, .f32⟩
  | .hbm, ⟨57, _⟩ => ⟨S32x8x8x128, .f32⟩
  | .hbm, ⟨58, _⟩ => ⟨S32x8x8x128, .f32⟩
  | .hbm, ⟨59, _⟩ => ⟨S32x2048x1024, .f32⟩
  | .hbm, ⟨60, _⟩ => ⟨S_, .f32⟩
  | .hbm, ⟨61, _⟩ => ⟨S32x2048, .f32⟩
  | .hbm, ⟨62, _⟩ => ⟨S32x2048x1, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S32x2048x1, .f32⟩
  | .hbm, ⟨70, _⟩ => ⟨S32x2048x1024, .f32⟩
  | .hbm, ⟨71, _⟩ => ⟨S32x2048x1024, .f32⟩
  | .hbm, ⟨72, _⟩ => ⟨S1x1x1024, .f32⟩
  | .hbm, ⟨73, _⟩ => ⟨S32x2048x1024, .f32⟩
  | .hbm, ⟨74, _⟩ => ⟨S32x2048x1024, .f32⟩
  | .hbm, ⟨75, _⟩ => ⟨S_, .f32⟩
  | .hbm, ⟨76, _⟩ => ⟨S32x1x1024, .f32⟩
  | .hbm, ⟨77, _⟩ => ⟨S32x1x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S1024x2048, .f32⟩
  | .hbm, ⟨83, _⟩ => ⟨S32x2048x2048, .f32⟩
  | .hbm, ⟨84, _⟩ => ⟨S32x2048x1024, .f32⟩
  | .hbm, ⟨85, _⟩ => ⟨S32x2048x1024, .f32⟩
  | .hbm, ⟨86, _⟩ => ⟨S32x2048x8x128, .f32⟩
  | .hbm, ⟨87, _⟩ => ⟨S32x2048x8x64, .f32⟩
  | .hbm, ⟨88, _⟩ => ⟨S32x2048x8x64, .f32⟩
  | .hbm, ⟨89, _⟩ => ⟨S32x2048x8x64, .f32⟩
  | .hbm, ⟨90, _⟩ => ⟨S32x2048x8x64, .f32⟩
  | .hbm, ⟨91, _⟩ => ⟨S32x2048x8x64, .f32⟩
  | .hbm, ⟨92, _⟩ => ⟨S32x2048x8x64, .f32⟩
  | .hbm, ⟨93, _⟩ => ⟨S32x2048x8x64, .f32⟩
  | .hbm, ⟨94, _⟩ => ⟨S32x2048x8x64, .f32⟩
  | .hbm, ⟨95, _⟩ => ⟨S32x2048x8x64, .f32⟩
  | .hbm, ⟨96, _⟩ => ⟨S32x2048x8x64, .f32⟩
  | .hbm, ⟨97, _⟩ => ⟨S32x2048x8x64, .f32⟩
  | .hbm, ⟨98, _⟩ => ⟨S32x2048x8x64, .f32⟩
  | .hbm, ⟨99, _⟩ => ⟨S32x2048x8x128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S32x2048x8x128, .f32⟩
  | .hbm, ⟨106, _⟩ => ⟨S32x2048x8x128, .f32⟩
  | .hbm, ⟨107, _⟩ => ⟨S32x8x128x2048, .f32⟩
  | .hbm, ⟨108, _⟩ => ⟨S_, .f32⟩
  | .hbm, ⟨109, _⟩ => ⟨S32x8x16x2048, .f32⟩
  | .hbm, ⟨110, _⟩ => ⟨S32x8x144x2048, .f32⟩
  | .hbm, ⟨111, _⟩ => ⟨S32x8x2048x128, .f32⟩
  | .hbm, ⟨112, _⟩ => ⟨S32x8x2048x128, .bf16⟩
  | .hbm, ⟨113, _⟩ => ⟨S32x8x144x2048, .bf16⟩
  | .hbm, ⟨114, _⟩ => ⟨S32x8x2048x128, .f32⟩
  | .hbm, ⟨115, _⟩ => ⟨S32x8x2048x128, .bf16⟩
  | .hbm, ⟨116, _⟩ => ⟨S32x2048x8x128, .f32⟩
  | .hbm, ⟨117, _⟩ => ⟨S32x8x2048x128, .f32⟩
  | .hbm, ⟨118, _⟩ => ⟨S32x8x2048x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_8 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_10 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Proof.Frames.lean ====
/-
  The claims about the programs one at a time: the frames, from the generated certificates, and the ledger of the named
  constants.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

noncomputable section

namespace Moba

open Idealize.ShloMosaic Idealize.SL.Sem

/-- The printed kernel runs, keeps its arguments and ends with its counters at zero. -/
theorem frame_kernel : Cert.quiescent_Kernel := fun m ρ _ => Cert.Kernel.Gen.frame m ρ

/-- So does the ideal kernel. -/
theorem frame_ideal : Cert.quiescent_KernelIdeal := fun m ρ _ => Cert.KernelIdeal.Gen.frame m ρ

/-- The ideal reference runs and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants have the values that their names state: the mask is −∞ and the exponent's rate is −1/log 2. -/
theorem preserves : Cert.preserves_Kernel_KernelIdeal :=
  ⟨IdealRules.named_const.statement Cert.KernelIdeal.κ "mask" .f32 0xF149F2CA#32 ⊥ rfl,
    IdealRules.named_const.statement Cert.KernelIdeal.κ "neg_log2e" .f32 0xBFB8AA3B#32 ((-((Real.log 2)⁻¹) : ℝ) : EReal) rfl⟩

end Moba

end
-- ==== Proof.Unit.lean ====
/-
  One unit of the attention kernel: a tile of 256 queries of one head against its own key block and the `n - 1` blocks
  before it, as vector operations on loaded blocks. `unit1` … `unit8` are the units with one to eight key blocks; up to
  four blocks the selection keeps every past block, from five on the gates' ranks choose three.
-/
module

public import proofs.«01_k».proof.Proof.Gen.KernelIdeal

@[expose] public section

noncomputable section

namespace Moba

open Idealize.ShloMosaic Cert.KernelIdeal Cert.KernelIdeal.Gen

/-- A tensor of 32-bit floats. -/
abbrev V (s : Shape) := FVec Ideal s .f32

/-- A tensor of 16-bit floats. -/
abbrev B (s : Shape) := FVec Ideal s .bf16

/-- The causal mask of a tile's own key block: key at or before query. -/
def causal : IVec S256x256 1 :=
  cmpi .sle (iota .tc S256x256 32 [0] iota_S256x256_d0_w32) (iota .tc S256x256 32 [1] iota_S256x256_d1_w32)

/-- The block index of each row of a table of gates. -/
def blocks : IVec S8x256 32 := iota .tc S8x256 32 [0] iota_S8x256_d0_w32

/-- Scores with the keys after the query removed. -/
def msk (s : V S256x256) : V S256x256 :=
  select causal s (broadcast S256x256 (Named.named κ "mask" 0xF149F2CA#32))

/-- The maxima of a block's scores over its 32 groups of eight keys. -/
def colmax (s : V S256x256) : V S8x256 :=
  multiReduction .maximumf [0] S8x256 (shapeCast S32x8x256 s shapeCasts_S256x256_S32x8x256) 0xFF800000#32
    reduces_S32x8x256_S8x256 (.inl rfl) rfl

/-- The maxima over the last eight rows: one per query. -/
def rowmax (m : V S8x256) : V S1x256 :=
  shapeCast S1x256 (multiReduction .maximumf [0] S256 m 0xFF800000#32 reduces_S8x256_S256 (.inl rfl) rfl)
    shapeCasts_S256_S1x256

/-- A block's scores as they are kept in scratch memory. -/
def kept (s : V S256x256) : V S1x256x256 := shapeCast S1x256x256 s shapeCasts_S256x256_S1x256x256

/-- The powers of two of a block's kept scores less the queries' maxima. -/
def weights (m : V S1x256) (s : V S1x256x256) : B S256x256 :=
  truncf .bf16 (exp2 (subf (shapeCast S256x256 s shapeCasts_S1x256x256_S256x256)
    (broadcastTo S256x256 m broadcasts_S1x256_S256x256))) bitsLt_bf16_f32

/-- The queries' (or the gate inputs') rows. -/
def rows (q : B S1x1x256x128) : B S256x128 := shapeCast S256x128 q shapeCasts_S1x1x256x128_S256x128

/-- `z · 1 / (1 + 2 ^ (z · -log₂ e))`. -/
def gateOf (z : B S1x1x256x128) : V S256x128 :=
  mulf (extf .f32 (rows z) bitsLt_bf16_f32)
    (divf (broadcast S256x128 (Scalar.ofBits .f32 0x3F800000#32))
      (addf (broadcast S256x128 (Scalar.ofBits .f32 0x3F800000#32))
        (exp2 (mulf (extf .f32 (rows z) bitsLt_bf16_f32)
          (broadcast S256x128 (Named.named κ "neg_log2e" 0xBFB8AA3B#32))))))

/-- The weighted sums over the keys, divided by the weights' own sum (row 128) and turned to rows of queries. -/
def normed (acc : V S144x256) : V S256x128 :=
  transpose S256x128 [1, 0] (mulf (extractStridedSlice S128x256 ![0, 0] acc slices_S144x256_o0_0_S128x256)
    (broadcastTo S128x256 (divf (broadcast S1x256 (Scalar.ofBits .f32 0x3F800000#32))
      (extractStridedSlice S1x256 ![128, 0] acc slices_S144x256_o128_0_S1x256)) broadcasts_S1x256_S128x256))
    transposes_S128x256_p1_0_S256x128

/-- The unit's result: the attention output times the gate. -/
def gated (acc : V S144x256) (z : B S1x1x256x128) : B S1x256x128 :=
  shapeCast S1x256x128 (truncf .bf16 (mulf (normed acc) (gateOf z)) bitsLt_bf16_f32) shapeCasts_S256x128_S1x256x128

/-- The key means in two parts, the rounded mean and the rest, over each other. -/
def means (km : V S1x8x1x128) : B S16x128 :=
  truncf .bf16 (concatenate S16x128 0
    [⟨S8x128, extf .f32 (truncf .bf16 (shapeCast S8x128 km shapeCasts_S1x8x1x128_S8x128) bitsLt_bf16_f32) bitsLt_bf16_f32⟩,
     ⟨S8x128, subf (shapeCast S8x128 km shapeCasts_S1x8x1x128_S8x128)
       (extf .f32 (truncf .bf16 (shapeCast S8x128 km shapeCasts_S1x8x1x128_S8x128) bitsLt_bf16_f32) bitsLt_bf16_f32)⟩]
    concatenates_S8x128_S8x128_S16x128_d0) bitsLt_bf16_f32

/-- The gates of the blocks before block `j`, minus infinity elsewhere. -/
def gates (j : BitVec 32) (hi lo : V S8x256) : V S8x256 :=
  select (cmpi .slt blocks (broadcast S8x256 j)) (addf hi lo) (broadcast S8x256 (Scalar.ofBits .f32 0xFF800000#32))

/-- One step of the rank: one more where block `m` comes before the row's block. -/
def rankStep (g : V S8x256) (m : Nat) (hm : S8x256.Slices ![m, 0] S1x256) (acc : IVec S8x256 32) : IVec S8x256 32 :=
  addi acc (extui 32 (ori
    (cmpf .ogt (broadcastTo S8x256 (extractStridedSlice S1x256 ![m, 0] g hm) broadcasts_S1x256_S8x256) g)
    (andi (cmpf .oeq (broadcastTo S8x256 (extractStridedSlice S1x256 ![m, 0] g hm) broadcasts_S1x256_S8x256) g)
      (cmpi .sgt blocks (broadcast S8x256 (BitVec.ofNat 32 m))))) natLt_1_32)

/-- Zero where the rank is below three, minus infinity elsewhere. -/
def biasOf (r : IVec S8x256 32) : V S8x256 :=
  select (cmpi .slt r (broadcast S8x256 3#32)) (broadcast S8x256 (Scalar.ofBits .f32 0x00000000#32))
    (broadcast S8x256 (Named.named κ "mask" 0xF149F2CA#32))

/-- A past block's scores plus its row of the bias. -/
def biased (b : V S8x256) (n : Nat) (hn : S8x256.Slices ![n, 0] S1x256) (s : V S256x256) : V S256x256 :=
  addf s (broadcastTo S256x256 (extractStridedSlice S1x256 ![n, 0] b hn) broadcasts_S1x256_S256x256)

/-- The values and the row of ones against the weights of one key block. -/
def acc1 (vt : B S1x1x144x256) (p0 : B S256x256) : V S144x256 :=
  matmul dot_S144x256_S256x256_S144x256_1_0_0_1_n_n none (shapeCast S144x256 vt shapeCasts_S1x1x144x256_S144x256)
    p0 (constant S144x256 .f32 0x00000000#32)

/-- All keys against all queries, one key block. -/
def all1 (q : B S1x1x256x128) (k : B S1x1x256x128) : V S256x256 :=
  matmul dot_S256x128_S256x128_S256x256_1_1_0_0_n_n none (shapeCast S256x128 k shapeCasts_S1x1x256x128_S256x128) (rows q)
    (constant S256x256 .f32 0x00000000#32)

/-- The scores of key block 0 of 1. -/
def sc1_0 (q : B S1x1x256x128) (k : B S1x1x256x128) : V S256x256 :=
  msk (all1 q k)

/-- The queries' maxima, one key block. -/
def max1 (q : B S1x1x256x128) (k : B S1x1x256x128) : V S1x256 :=
  rowmax (colmax (sc1_0 q k))

/-- The unit with one key block. -/
def unit1 (q : B S1x1x256x128) (k : B S1x1x256x128) (vt : B S1x1x144x256) (z : B S1x1x256x128) : B S1x256x128 :=
  gated (acc1 vt (weights (max1 q k) (kept (sc1_0 q k)))) z

/-- The values and the row of ones against the weights of two key blocks. -/
def acc2 (vt : B S1x1x144x512) (p0 p1 : B S256x256) : V S144x256 :=
  matmul dot_S144x512_S512x256_S144x256_1_0_0_1_n_n none (shapeCast S144x512 vt shapeCasts_S1x1x144x512_S144x512)
    (concatenate S512x256 0 [⟨S256x256, p0⟩, ⟨S256x256, p1⟩]
      concatenates_S256x256_S256x256_S512x256_d0) (constant S144x256 .f32 0x00000000#32)

/-- All keys against all queries, two key blocks. -/
def all2 (q : B S1x1x256x128) (k : B S1x1x512x128) : V S512x256 :=
  matmul dot_S512x128_S256x128_S512x256_1_1_0_0_n_n none (shapeCast S512x128 k shapeCasts_S1x1x512x128_S512x128) (rows q)
    (constant S512x256 .f32 0x00000000#32)

/-- The scores of key block 0 of 2. -/
def sc2_0 (q : B S1x1x256x128) (k : B S1x1x512x128) : V S256x256 :=
  extractStridedSlice S256x256 ![0, 0] (all2 q k) slices_S512x256_o0_0_S256x256

/-- The scores of key block 1 of 2. -/
def sc2_1 (q : B S1x1x256x128) (k : B S1x1x512x128) : V S256x256 :=
  msk (extractStridedSlice S256x256 ![256, 0] (all2 q k) slices_S512x256_o256_0_S256x256)

/-- The queries' maxima, two key blocks. -/
def max2 (q : B S1x1x256x128) (k : B S1x1x512x128) : V S1x256 :=
  rowmax (maximumf (colmax (sc2_0 q k)) (colmax (sc2_1 q k)))

/-- The unit with two key blocks. -/
def unit2 (q : B S1x1x256x128) (k : B S1x1x512x128) (vt : B S1x1x144x512) (z : B S1x1x256x128) : B S1x256x128 :=
  gated (acc2 vt (weights (max2 q k) (kept (sc2_0 q k)))
    (weights (max2 q k) (kept (sc2_1 q k)))) z

/-- The values and the row of ones against the weights of three key blocks. -/
def acc3 (vt : B S1x1x144x768) (p0 p1 p2 : B S256x256) : V S144x256 :=
  matmul dot_S144x768_S768x256_S144x256_1_0_0_1_n_n none (shapeCast S144x768 vt shapeCasts_S1x1x144x768_S144x768)
    (concatenate S768x256 0 [⟨S256x256, p0⟩, ⟨S256x256, p1⟩, ⟨S256x256, p2⟩]
      concatenates_S256x256_S256x256_S256x256_S768x256_d0) (constant S144x256 .f32 0x00000000#32)

/-- All keys against all queries, three key blocks. -/
def all3 (q : B S1x1x256x128) (k : B S1x1x768x128) : V S768x256 :=
  matmul dot_S768x128_S256x128_S768x256_1_1_0_0_n_n none (shapeCast S768x128 k shapeCasts_S1x1x768x128_S768x128) (rows q)
    (constant S768x256 .f32 0x00000000#32)

/-- The scores of key block 0 of 3. -/
def sc3_0 (q : B S1x1x256x128) (k : B S1x1x768x128) : V S256x256 :=
  extractStridedSlice S256x256 ![0, 0] (all3 q k) slices_S768x256_o0_0_S256x256

/-- The scores of key block 1 of 3. -/
def sc3_1 (q : B S1x1x256x128) (k : B S1x1x768x128) : V S256x256 :=
  extractStridedSlice S256x256 ![256, 0] (all3 q k) slices_S768x256_o256_0_S256x256

/-- The scores of key block 2 of 3. -/
def sc3_2 (q : B S1x1x256x128) (k : B S1x1x768x128) : V S256x256 :=
  msk (extractStridedSlice S256x256 ![512, 0] (all3 q k) slices_S768x256_o512_0_S256x256)

/-- The queries' maxima, three key blocks. -/
def max3 (q : B S1x1x256x128) (k : B S1x1x768x128) : V S1x256 :=
  rowmax (maximumf (maximumf (colmax (sc3_0 q k)) (colmax (sc3_1 q k))) (colmax (sc3_2 q k)))

/-- The unit with three key blocks. -/
def unit3 (q : B S1x1x256x128) (k : B S1x1x768x128) (vt : B S1x1x144x768) (z : B S1x1x256x128) : B S1x256x128 :=
  gated (acc3 vt (weights (max3 q k) (kept (sc3_0 q k)))
    (weights (max3 q k) (kept (sc3_1 q k)))
    (weights (max3 q k) (kept (sc3_2 q k)))) z

/-- The values and the row of ones against the weights of four key blocks. -/
def acc4 (vt : B S1x1x144x1024) (p0 p1 p2 p3 : B S256x256) : V S144x256 :=
  matmul dot_S144x1024_S1024x256_S144x256_1_0_0_1_n_n none (shapeCast S144x1024 vt shapeCasts_S1x1x144x1024_S144x1024)
    (concatenate S1024x256 0 [⟨S256x256, p0⟩, ⟨S256x256, p1⟩, ⟨S256x256, p2⟩, ⟨S256x256, p3⟩]
      concatenates_S256x256_S256x256_S256x256_S256x256_S1024x256_d0) (constant S144x256 .f32 0x00000000#32)

/-- All keys against all queries, four key blocks. -/
def all4 (q : B S1x1x256x128) (k : B S1x1x1024x128) : V S1024x256 :=
  matmul dot_S1024x128_S256x128_S1024x256_1_1_0_0_n_n none (shapeCast S1024x128 k shapeCasts_S1x1x1024x128_S1024x128) (rows q)
    (constant S1024x256 .f32 0x00000000#32)

/-- The scores of key block 0 of 4. -/
def sc4_0 (q : B S1x1x256x128) (k : B S1x1x1024x128) : V S256x256 :=
  extractStridedSlice S256x256 ![0, 0] (all4 q k) slices_S1024x256_o0_0_S256x256

/-- The scores of key block 1 of 4. -/
def sc4_1 (q : B S1x1x256x128) (k : B S1x1x1024x128) : V S256x256 :=
  extractStridedSlice S256x256 ![256, 0] (all4 q k) slices_S1024x256_o256_0_S256x256

/-- The scores of key block 2 of 4. -/
def sc4_2 (q : B S1x1x256x128) (k : B S1x1x1024x128) : V S256x256 :=
  extractStridedSlice S256x256 ![512, 0] (all4 q k) slices_S1024x256_o512_0_S256x256

/-- The scores of key block 3 of 4. -/
def sc4_3 (q : B S1x1x256x128) (k : B S1x1x1024x128) : V S256x256 :=
  msk (extractStridedSlice S256x256 ![768, 0] (all4 q k) slices_S1024x256_o768_0_S256x256)

/-- The queries' maxima, four key blocks. -/
def max4 (q : B S1x1x256x128) (k : B S1x1x1024x128) : V S1x256 :=
  rowmax (maximumf (maximumf (maximumf (colmax (sc4_0 q k)) (colmax (sc4_1 q k))) (colmax (sc4_2 q k))) (colmax (sc4_3 q k)))

/-- The unit with four key blocks. -/
def unit4 (q : B S1x1x256x128) (k : B S1x1x1024x128) (vt : B S1x1x144x1024) (z : B S1x1x256x128) : B S1x256x128 :=
  gated (acc4 vt (weights (max4 q k) (kept (sc4_0 q k)))
    (weights (max4 q k) (kept (sc4_1 q k)))
    (weights (max4 q k) (kept (sc4_2 q k)))
    (weights (max4 q k) (kept (sc4_3 q k)))) z

/-- The values and the row of ones against the weights of five key blocks. -/
def acc5 (vt : B S1x1x144x1280) (p0 p1 p2 p3 p4 : B S256x256) : V S144x256 :=
  matmul dot_S144x1280_S1280x256_S144x256_1_0_0_1_n_n none (shapeCast S144x1280 vt shapeCasts_S1x1x144x1280_S144x1280)
    (concatenate S1280x256 0 [⟨S256x256, p0⟩, ⟨S256x256, p1⟩, ⟨S256x256, p2⟩, ⟨S256x256, p3⟩, ⟨S256x256, p4⟩]
      concatenates_S256x256_S256x256_S256x256_S256x256_S256x256_S1280x256_d0) (constant S144x256 .f32 0x00000000#32)

/-- The key means and all keys against all queries, five key blocks. -/
def all5 (q : B S1x1x256x128) (k : B S1x1x1280x128) (km : V S1x8x1x128) : V S1296x256 :=
  matmul dot_S1296x128_S256x128_S1296x256_1_1_0_0_n_n none
    (concatenate S1296x128 0 [⟨S16x128, means km⟩, ⟨S1280x128, shapeCast S1280x128 k shapeCasts_S1x1x1280x128_S1280x128⟩]
      concatenates_S16x128_S1280x128_S1296x128_d0) (rows q) (constant S1296x256 .f32 0x00000000#32)

/-- The gates of the past blocks, five key blocks. -/
def gates5 (q : B S1x1x256x128) (k : B S1x1x1280x128) (km : V S1x8x1x128) : V S8x256 :=
  gates 4#32 (extractStridedSlice S8x256 ![0, 0] (all5 q k km) slices_S1296x256_o0_0_S8x256)
    (extractStridedSlice S8x256 ![8, 0] (all5 q k km) slices_S1296x256_o8_0_S8x256)

/-- The bias of the past blocks, five key blocks. -/
def bias5 (q : B S1x1x256x128) (k : B S1x1x1280x128) (km : V S1x8x1x128) : V S8x256 :=
  let g := gates5 q k km
  biasOf (rankStep g 3 slices_S8x256_o3_0_S1x256 (rankStep g 2 slices_S8x256_o2_0_S1x256 (rankStep g 1 slices_S8x256_o1_0_S1x256 (rankStep g 0 slices_S8x256_o0_0_S1x256 (broadcast S8x256 0#32)))))

/-- The scores of key block 0 of 5. -/
def sc5_0 (q : B S1x1x256x128) (k : B S1x1x1280x128) (km : V S1x8x1x128) : V S256x256 :=
  biased (bias5 q k km) 0 slices_S8x256_o0_0_S1x256 (extractStridedSlice S256x256 ![16, 0] (all5 q k km) slices_S1296x256_o16_0_S256x256)

/-- The scores of key block 1 of 5. -/
def sc5_1 (q : B S1x1x256x128) (k : B S1x1x1280x128) (km : V S1x8x1x128) : V S256x256 :=
  biased (bias5 q k km) 1 slices_S8x256_o1_0_S1x256 (extractStridedSlice S256x256 ![272, 0] (all5 q k km) slices_S1296x256_o272_0_S256x256)

/-- The scores of key block 2 of 5. -/
def sc5_2 (q : B S1x1x256x128) (k : B S1x1x1280x128) (km : V S1x8x1x128) : V S256x256 :=
  biased (bias5 q k km) 2 slices_S8x256_o2_0_S1x256 (extractStridedSlice S256x256 ![528, 0] (all5 q k km) slices_S1296x256_o528_0_S256x256)

/-- The scores of key block 3 of 5. -/
def sc5_3 (q : B S1x1x256x128) (k : B S1x1x1280x128) (km : V S1x8x1x128) : V S256x256 :=
  biased (bias5 q k km) 3 slices_S8x256_o3_0_S1x256 (extractStridedSlice S256x256 ![784, 0] (all5 q k km) slices_S1296x256_o784_0_S256x256)

/-- The scores of key block 4 of 5. -/
def sc5_4 (q : B S1x1x256x128) (k : B S1x1x1280x128) (km : V S1x8x1x128) : V S256x256 :=
  msk (extractStridedSlice S256x256 ![1040, 0] (all5 q k km) slices_S1296x256_o1040_0_S256x256)

/-- The queries' maxima, five key blocks. -/
def max5 (q : B S1x1x256x128) (k : B S1x1x1280x128) (km : V S1x8x1x128) : V S1x256 :=
  rowmax (maximumf (maximumf (maximumf (maximumf (colmax (sc5_0 q k km)) (colmax (sc5_1 q k km))) (colmax (sc5_2 q k km))) (colmax (sc5_3 q k km))) (colmax (sc5_4 q k km)))

/-- The unit with five key blocks. -/
def unit5 (q : B S1x1x256x128) (k : B S1x1x1280x128) (km : V S1x8x1x128) (vt : B S1x1x144x1280) (z : B S1x1x256x128) : B S1x256x128 :=
  gated (acc5 vt (weights (max5 q k km) (kept (sc5_0 q k km)))
    (weights (max5 q k km) (kept (sc5_1 q k km)))
    (weights (max5 q k km) (kept (sc5_2 q k km)))
    (weights (max5 q k km) (kept (sc5_3 q k km)))
    (weights (max5 q k km) (kept (sc5_4 q k km)))) z

/-- The values and the row of ones against the weights of six key blocks. -/
def acc6 (vt : B S1x1x144x1536) (p0 p1 p2 p3 p4 p5 : B S256x256) : V S144x256 :=
  matmul dot_S144x1536_S1536x256_S144x256_1_0_0_1_n_n none (shapeCast S144x1536 vt shapeCasts_S1x1x144x1536_S144x1536)
    (concatenate S1536x256 0 [⟨S256x256, p0⟩, ⟨S256x256, p1⟩, ⟨S256x256, p2⟩, ⟨S256x256, p3⟩, ⟨S256x256, p4⟩, ⟨S256x256, p5⟩]
      concatenates_S256x256_S256x256_S256x256_S256x256_S256x256_S256x256_S1536x256_d0) (constant S144x256 .f32 0x00000000#32)

/-- The key means and all keys against all queries, six key blocks. -/
def all6 (q : B S1x1x256x128) (k : B S1x1x1536x128) (km : V S1x8x1x128) : V S1552x256 :=
  matmul dot_S1552x128_S256x128_S1552x256_1_1_0_0_n_n none
    (concatenate S1552x128 0 [⟨S16x128, means km⟩, ⟨S1536x128, shapeCast S1536x128 k shapeCasts_S1x1x1536x128_S1536x128⟩]
      concatenates_S16x128_S1536x128_S1552x128_d0) (rows q) (constant S1552x256 .f32 0x00000000#32)

/-- The gates of the past blocks, six key blocks. -/
def gates6 (q : B S1x1x256x128) (k : B S1x1x1536x128) (km : V S1x8x1x128) : V S8x256 :=
  gates 5#32 (extractStridedSlice S8x256 ![0, 0] (all6 q k km) slices_S1552x256_o0_0_S8x256)
    (extractStridedSlice S8x256 ![8, 0] (all6 q k km) slices_S1552x256_o8_0_S8x256)

/-- The bias of the past blocks, six key blocks. -/
def bias6 (q : B S1x1x256x128) (k : B S1x1x1536x128) (km : V S1x8x1x128) : V S8x256 :=
  let g := gates6 q k km
  biasOf (rankStep g 4 slices_S8x256_o4_0_S1x256 (rankStep g 3 slices_S8x256_o3_0_S1x256 (rankStep g 2 slices_S8x256_o2_0_S1x256 (rankStep g 1 slices_S8x256_o1_0_S1x256 (rankStep g 0 slices_S8x256_o0_0_S1x256 (broadcast S8x256 0#32))))))

/-- The scores of key block 0 of 6. -/
def sc6_0 (q : B S1x1x256x128) (k : B S1x1x1536x128) (km : V S1x8x1x128) : V S256x256 :=
  biased (bias6 q k km) 0 slices_S8x256_o0_0_S1x256 (extractStridedSlice S256x256 ![16, 0] (all6 q k km) slices_S1552x256_o16_0_S256x256)

/-- The scores of key block 1 of 6. -/
def sc6_1 (q : B S1x1x256x128) (k : B S1x1x1536x128) (km : V S1x8x1x128) : V S256x256 :=
  biased (bias6 q k km) 1 slices_S8x256_o1_0_S1x256 (extractStridedSlice S256x256 ![272, 0] (all6 q k km) slices_S1552x256_o272_0_S256x256)

/-- The scores of key block 2 of 6. -/
def sc6_2 (q : B S1x1x256x128) (k : B S1x1x1536x128) (km : V S1x8x1x128) : V S256x256 :=
  biased (bias6 q k km) 2 slices_S8x256_o2_0_S1x256 (extractStridedSlice S256x256 ![528, 0] (all6 q k km) slices_S1552x256_o528_0_S256x256)

/-- The scores of key block 3 of 6. -/
def sc6_3 (q : B S1x1x256x128) (k : B S1x1x1536x128) (km : V S1x8x1x128) : V S256x256 :=
  biased (bias6 q k km) 3 slices_S8x256_o3_0_S1x256 (extractStridedSlice S256x256 ![784, 0] (all6 q k km) slices_S1552x256_o784_0_S256x256)

/-- The scores of key block 4 of 6. -/
def sc6_4 (q : B S1x1x256x128) (k : B S1x1x1536x128) (km : V S1x8x1x128) : V S256x256 :=
  biased (bias6 q k km) 4 slices_S8x256_o4_0_S1x256 (extractStridedSlice S256x256 ![1040, 0] (all6 q k km) slices_S1552x256_o1040_0_S256x256)

/-- The scores of key block 5 of 6. -/
def sc6_5 (q : B S1x1x256x128) (k : B S1x1x1536x128) (km : V S1x8x1x128) : V S256x256 :=
  msk (extractStridedSlice S256x256 ![1296, 0] (all6 q k km) slices_S1552x256_o1296_0_S256x256)

/-- The queries' maxima, six key blocks. -/
def max6 (q : B S1x1x256x128) (k : B S1x1x1536x128) (km : V S1x8x1x128) : V S1x256 :=
  rowmax (maximumf (maximumf (maximumf (maximumf (maximumf (colmax (sc6_0 q k km)) (colmax (sc6_1 q k km))) (colmax (sc6_2 q k km))) (colmax (sc6_3 q k km))) (colmax (sc6_4 q k km))) (colmax (sc6_5 q k km)))

/-- The unit with six key blocks. -/
def unit6 (q : B S1x1x256x128) (k : B S1x1x1536x128) (km : V S1x8x1x128) (vt : B S1x1x144x1536) (z : B S1x1x256x128) : B S1x256x128 :=
  gated (acc6 vt (weights (max6 q k km) (kept (sc6_0 q k km)))
    (weights (max6 q k km) (kept (sc6_1 q k km)))
    (weights (max6 q k km) (kept (sc6_2 q k km)))
    (weights (max6 q k km) (kept (sc6_3 q k km)))
    (weights (max6 q k km) (kept (sc6_4 q k km)))
    (weights (max6 q k km) (kept (sc6_5 q k km)))) z

/-- The values and the row of ones against the weights of seven key blocks. -/
def acc7 (vt : B S1x1x144x1792) (p0 p1 p2 p3 p4 p5 p6 : B S256x256) : V S144x256 :=
  matmul dot_S144x1792_S1792x256_S144x256_1_0_0_1_n_n none (shapeCast S144x1792 vt shapeCasts_S1x1x144x1792_S144x1792)
    (concatenate S1792x256 0 [⟨S256x256, p0⟩, ⟨S256x256, p1⟩, ⟨S256x256, p2⟩, ⟨S256x256, p3⟩, ⟨S256x256, p4⟩, ⟨S256x256, p5⟩, ⟨S256x256, p6⟩]
      concatenates_S256x256_S256x256_S256x256_S256x256_S256x256_S256x256_S256x256_S1792x256_d0) (constant S144x256 .f32 0x00000000#32)

/-- The key means and all keys against all queries, seven key blocks. -/
def all7 (q : B S1x1x256x128) (k : B S1x1x1792x128) (km : V S1x8x1x128) : V S1808x256 :=
  matmul dot_S1808x128_S256x128_S1808x256_1_1_0_0_n_n none
    (concatenate S1808x128 0 [⟨S16x128, means km⟩, ⟨S1792x128, shapeCast S1792x128 k shapeCasts_S1x1x1792x128_S1792x128⟩]
      concatenates_S16x128_S1792x128_S1808x128_d0) (rows q) (constant S1808x256 .f32 0x00000000#32)

/-- The gates of the past blocks, seven key blocks. -/
def gates7 (q : B S1x1x256x128) (k : B S1x1x1792x128) (km : V S1x8x1x128) : V S8x256 :=
  gates 6#32 (extractStridedSlice S8x256 ![0, 0] (all7 q k km) slices_S1808x256_o0_0_S8x256)
    (extractStridedSlice S8x256 ![8, 0] (all7 q k km) slices_S1808x256_o8_0_S8x256)

/-- The bias of the past blocks, seven key blocks. -/
def bias7 (q : B S1x1x256x128) (k : B S1x1x1792x128) (km : V S1x8x1x128) : V S8x256 :=
  let g := gates7 q k km
  biasOf (rankStep g 5 slices_S8x256_o5_0_S1x256 (rankStep g 4 slices_S8x256_o4_0_S1x256 (rankStep g 3 slices_S8x256_o3_0_S1x256 (rankStep g 2 slices_S8x256_o2_0_S1x256 (rankStep g 1 slices_S8x256_o1_0_S1x256 (rankStep g 0 slices_S8x256_o0_0_S1x256 (broadcast S8x256 0#32)))))))

/-- The scores of key block 0 of 7. -/
def sc7_0 (q : B S1x1x256x128) (k : B S1x1x1792x128) (km : V S1x8x1x128) : V S256x256 :=
  biased (bias7 q k km) 0 slices_S8x256_o0_0_S1x256 (extractStridedSlice S256x256 ![16, 0] (all7 q k km) slices_S1808x256_o16_0_S256x256)

/-- The scores of key block 1 of 7. -/
def sc7_1 (q : B S1x1x256x128) (k : B S1x1x1792x128) (km : V S1x8x1x128) : V S256x256 :=
  biased (bias7 q k km) 1 slices_S8x256_o1_0_S1x256 (extractStridedSlice S256x256 ![272, 0] (all7 q k km) slices_S1808x256_o272_0_S256x256)

/-- The scores of key block 2 of 7. -/
def sc7_2 (q : B S1x1x256x128) (k : B S1x1x1792x128) (km : V S1x8x1x128) : V S256x256 :=
  biased (bias7 q k km) 2 slices_S8x256_o2_0_S1x256 (extractStridedSlice S256x256 ![528, 0] (all7 q k km) slices_S1808x256_o528_0_S256x256)

/-- The scores of key block 3 of 7. -/
def sc7_3 (q : B S1x1x256x128) (k : B S1x1x1792x128) (km : V S1x8x1x128) : V S256x256 :=
  biased (bias7 q k km) 3 slices_S8x256_o3_0_S1x256 (extractStridedSlice S256x256 ![784, 0] (all7 q k km) slices_S1808x256_o784_0_S256x256)

/-- The scores of key block 4 of 7. -/
def sc7_4 (q : B S1x1x256x128) (k : B S1x1x1792x128) (km : V S1x8x1x128) : V S256x256 :=
  biased (bias7 q k km) 4 slices_S8x256_o4_0_S1x256 (extractStridedSlice S256x256 ![1040, 0] (all7 q k km) slices_S1808x256_o1040_0_S256x256)

/-- The scores of key block 5 of 7. -/
def sc7_5 (q : B S1x1x256x128) (k : B S1x1x1792x128) (km : V S1x8x1x128) : V S256x256 :=
  biased (bias7 q k km) 5 slices_S8x256_o5_0_S1x256 (extractStridedSlice S256x256 ![1296, 0] (all7 q k km) slices_S1808x256_o1296_0_S256x256)

/-- The scores of key block 6 of 7. -/
def sc7_6 (q : B S1x1x256x128) (k : B S1x1x1792x128) (km : V S1x8x1x128) : V S256x256 :=
  msk (extractStridedSlice S256x256 ![1552, 0] (all7 q k km) slices_S1808x256_o1552_0_S256x256)

/-- The queries' maxima, seven key blocks. -/
def max7 (q : B S1x1x256x128) (k : B S1x1x1792x128) (km : V S1x8x1x128) : V S1x256 :=
  rowmax (maximumf (maximumf (maximumf (maximumf (maximumf (maximumf (colmax (sc7_0 q k km)) (colmax (sc7_1 q k km))) (colmax (sc7_2 q k km))) (colmax (sc7_3 q k km))) (colmax (sc7_4 q k km))) (colmax (sc7_5 q k km))) (colmax (sc7_6 q k km)))

/-- The unit with seven key blocks. -/
def unit7 (q : B S1x1x256x128) (k : B S1x1x1792x128) (km : V S1x8x1x128) (vt : B S1x1x144x1792) (z : B S1x1x256x128) : B S1x256x128 :=
  gated (acc7 vt (weights (max7 q k km) (kept (sc7_0 q k km)))
    (weights (max7 q k km) (kept (sc7_1 q k km)))
    (weights (max7 q k km) (kept (sc7_2 q k km)))
    (weights (max7 q k km) (kept (sc7_3 q k km)))
    (weights (max7 q k km) (kept (sc7_4 q k km)))
    (weights (max7 q k km) (kept (sc7_5 q k km)))
    (weights (max7 q k km) (kept (sc7_6 q k km)))) z

/-- The values and the row of ones against the weights of eight key blocks. -/
def acc8 (vt : B S1x1x144x2048) (p0 p1 p2 p3 p4 p5 p6 p7 : B S256x256) : V S144x256 :=
  matmul dot_S144x2048_S2048x256_S144x256_1_0_0_1_n_n none (shapeCast S144x2048 vt shapeCasts_S1x1x144x2048_S144x2048)
    (concatenate S2048x256 0 [⟨S256x256, p0⟩, ⟨S256x256, p1⟩, ⟨S256x256, p2⟩, ⟨S256x256, p3⟩, ⟨S256x256, p4⟩, ⟨S256x256, p5⟩, ⟨S256x256, p6⟩, ⟨S256x256, p7⟩]
      concatenates_S256x256_S256x256_S256x256_S256x256_S256x256_S256x256_S256x256_S256x256_S2048x256_d0) (constant S144x256 .f32 0x00000000#32)

/-- The key means and all keys against all queries, eight key blocks. -/
def all8 (q : B S1x1x256x128) (k : B S1x1x2048x128) (km : V S1x8x1x128) : V S2064x256 :=
  matmul dot_S2064x128_S256x128_S2064x256_1_1_0_0_n_n none
    (concatenate S2064x128 0 [⟨S16x128, means km⟩, ⟨S2048x128, shapeCast S2048x128 k shapeCasts_S1x1x2048x128_S2048x128⟩]
      concatenates_S16x128_S2048x128_S2064x128_d0) (rows q) (constant S2064x256 .f32 0x00000000#32)

/-- The gates of the past blocks, eight key blocks. -/
def gates8 (q : B S1x1x256x128) (k : B S1x1x2048x128) (km : V S1x8x1x128) : V S8x256 :=
  gates 7#32 (extractStridedSlice S8x256 ![0, 0] (all8 q k km) slices_S2064x256_o0_0_S8x256)
    (extractStridedSlice S8x256 ![8, 0] (all8 q k km) slices_S2064x256_o8_0_S8x256)

/-- The bias of the past blocks, eight key blocks. -/
def bias8 (q : B S1x1x256x128) (k : B S1x1x2048x128) (km : V S1x8x1x128) : V S8x256 :=
  let g := gates8 q k km
  biasOf (rankStep g 6 slices_S8x256_o6_0_S1x256 (rankStep g 5 slices_S8x256_o5_0_S1x256 (rankStep g 4 slices_S8x256_o4_0_S1x256 (rankStep g 3 slices_S8x256_o3_0_S1x256 (rankStep g 2 slices_S8x256_o2_0_S1x256 (rankStep g 1 slices_S8x256_o1_0_S1x256 (rankStep g 0 slices_S8x256_o0_0_S1x256 (broadcast S8x256 0#32))))))))

/-- The scores of key block 0 of 8. -/
def sc8_0 (q : B S1x1x256x128) (k : B S1x1x2048x128) (km : V S1x8x1x128) : V S256x256 :=
  biased (bias8 q k km) 0 slices_S8x256_o0_0_S1x256 (extractStridedSlice S256x256 ![16, 0] (all8 q k km) slices_S2064x256_o16_0_S256x256)

/-- The scores of key block 1 of 8. -/
def sc8_1 (q : B S1x1x256x128) (k : B S1x1x2048x128) (km : V S1x8x1x128) : V S256x256 :=
  biased (bias8 q k km) 1 slices_S8x256_o1_0_S1x256 (extractStridedSlice S256x256 ![272, 0] (all8 q k km) slices_S2064x256_o272_0_S256x256)

/-- The scores of key block 2 of 8. -/
def sc8_2 (q : B S1x1x256x128) (k : B S1x1x2048x128) (km : V S1x8x1x128) : V S256x256 :=
  biased (bias8 q k km) 2 slices_S8x256_o2_0_S1x256 (extractStridedSlice S256x256 ![528, 0] (all8 q k km) slices_S2064x256_o528_0_S256x256)

/-- The scores of key block 3 of 8. -/
def sc8_3 (q : B S1x1x256x128) (k : B S1x1x2048x128) (km : V S1x8x1x128) : V S256x256 :=
  biased (bias8 q k km) 3 slices_S8x256_o3_0_S1x256 (extractStridedSlice S256x256 ![784, 0] (all8 q k km) slices_S2064x256_o784_0_S256x256)

/-- The scores of key block 4 of 8. -/
def sc8_4 (q : B S1x1x256x128) (k : B S1x1x2048x128) (km : V S1x8x1x128) : V S256x256 :=
  biased (bias8 q k km) 4 slices_S8x256_o4_0_S1x256 (extractStridedSlice S256x256 ![1040, 0] (all8 q k km) slices_S2064x256_o1040_0_S256x256)

/-- The scores of key block 5 of 8. -/
def sc8_5 (q : B S1x1x256x128) (k : B S1x1x2048x128) (km : V S1x8x1x128) : V S256x256 :=
  biased (bias8 q k km) 5 slices_S8x256_o5_0_S1x256 (extractStridedSlice S256x256 ![1296, 0] (all8 q k km) slices_S2064x256_o1296_0_S256x256)

/-- The scores of key block 6 of 8. -/
def sc8_6 (q : B S1x1x256x128) (k : B S1x1x2048x128) (km : V S1x8x1x128) : V S256x256 :=
  biased (bias8 q k km) 6 slices_S8x256_o6_0_S1x256 (extractStridedSlice S256x256 ![1552, 0] (all8 q k km) slices_S2064x256_o1552_0_S256x256)

/-- The scores of key block 7 of 8. -/
def sc8_7 (q : B S1x1x256x128) (k : B S1x1x2048x128) (km : V S1x8x1x128) : V S256x256 :=
  msk (extractStridedSlice S256x256 ![1808, 0] (all8 q k km) slices_S2064x256_o1808_0_S256x256)

/-- The queries' maxima, eight key blocks. -/
def max8 (q : B S1x1x256x128) (k : B S1x1x2048x128) (km : V S1x8x1x128) : V S1x256 :=
  rowmax (maximumf (maximumf (maximumf (maximumf (maximumf (maximumf (maximumf (colmax (sc8_0 q k km)) (colmax (sc8_1 q k km))) (colmax (sc8_2 q k km))) (colmax (sc8_3 q k km))) (colmax (sc8_4 q k km))) (colmax (sc8_5 q k km))) (colmax (sc8_6 q k km))) (colmax (sc8_7 q k km)))

/-- The unit with eight key blocks. -/
def unit8 (q : B S1x1x256x128) (k : B S1x1x2048x128) (km : V S1x8x1x128) (vt : B S1x1x144x2048) (z : B S1x1x256x128) : B S1x256x128 :=
  gated (acc8 vt (weights (max8 q k km) (kept (sc8_0 q k km)))
    (weights (max8 q k km) (kept (sc8_1 q k km)))
    (weights (max8 q k km) (kept (sc8_2 q k km)))
    (weights (max8 q k km) (kept (sc8_3 q k km)))
    (weights (max8 q k km) (kept (sc8_4 q k km)))
    (weights (max8 q k km) (kept (sc8_5 q k km)))
    (weights (max8 q k km) (kept (sc8_6 q k km)))
    (weights (max8 q k km) (kept (sc8_7 q k km)))) z

end Moba

end
-- ==== Proof.Softmax.lean ====
/-
  The softmax weights over a set of keys with real scores, and the two ways of computing them: powers of two of the scores
  less their maximum and a product with the sum's inverse at the end; exponentials and a division of each weight.
-/
module

public import Idealize.ShloMosaic.PureOps.Ideal

@[expose] public section

noncomputable section

namespace Moba

open Idealize.ShloMosaic

variable {ι : Type} [Fintype ι]

/-- Two to the score at the keys that take part, zero elsewhere. -/
def pw (act : ι → Prop) [DecidablePred act] (S : ι → ℝ) (i : ι) : ℝ := if act i then Real.rpow 2 (S i) else 0

/-- The softmax weight of a key: two to its score over the sum of these powers. -/
def wt (act : ι → Prop) [DecidablePred act] (S : ι → ℝ) (i : ι) : ℝ := pw act S i / ∑ i', pw act S i'

theorem pw_nonneg (act : ι → Prop) [DecidablePred act] (S : ι → ℝ) (i : ι) : 0 ≤ pw act S i := by
  unfold pw; split
  · exact (Real.rpow_pos_of_pos two_pos _).le
  · exact le_rfl

theorem sum_pw_pos (act : ι → Prop) [DecidablePred act] (S : ι → ℝ) (h : ∃ i, act i) : 0 < ∑ i, pw act S i := by
  obtain ⟨i, hi⟩ := h
  refine Finset.sum_pos' (fun i _ => pw_nonneg act S i) ⟨i, Finset.mem_univ i, ?_⟩
  rw [pw, if_pos hi]
  exact Real.rpow_pos_of_pos two_pos _

theorem coe_sum (f : ι → ℝ) (s : Finset ι) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product with a nonnegative real distributes over a sum of extended reals. -/
theorem sum_mul_coe (f : ι → EReal) (c : ℝ) (hc : 0 ≤ c) (s : Finset ι) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.mpr hc) (EReal.coe_ne_top c), mul_comm _ (f a),
      mul_comm (c : EReal) (∑ i ∈ s, f i)]

/-- The kernel's order: powers of two of the masked scores less a real `m`, summed against the values, then times the
    inverse of their own sum. -/
theorem exp2_form (act : ι → Prop) [DecidablePred act] (S : ι → ℝ) (m : ℝ) (v one : ι → EReal) (h1 : ∀ i, one i = 1)
    (hex : ∃ i, act i) :
    (∑ i, v i * Ideal.exp2 ((if act i then (S i : EReal) else ⊥) - (m : EReal)))
        * Ideal.div 1 (∑ i, one i * Ideal.exp2 ((if act i then (S i : EReal) else ⊥) - (m : EReal)))
      = ∑ i, v i * (wt act S i : EReal) := by
  have hp : ∀ i, Ideal.exp2 ((if act i then (S i : EReal) else ⊥) - (m : EReal))
      = ((pw act S i * Real.rpow 2 (-m) : ℝ) : EReal) := fun i => by
    unfold pw
    by_cases h : act i
    · rw [if_pos h, if_pos h, ← EReal.coe_sub, Ideal.exp2_coe]
      congr 1
      rw [sub_eq_add_neg]
      exact Real.rpow_add two_pos _ _
    · rw [if_neg h, if_neg h, zero_mul, EReal.bot_sub, Ideal.exp2_bot, EReal.coe_zero]
  have hc : 0 < Real.rpow 2 (-m) := Real.rpow_pos_of_pos two_pos _
  have hZ := sum_pw_pos act S hex
  simp only [hp, h1, one_mul]
  rw [← coe_sum, ← Finset.sum_mul, Ideal.div_coe (mul_pos hZ hc).ne', one_mul, sum_mul_coe _ _ (by positivity)]
  refine Finset.sum_congr rfl fun i _ => ?_
  rw [mul_assoc, ← EReal.coe_mul, wt]
  congr 2
  field_simp

/-- The reference's order: exponentials of the masked logits less a real `m`, each divided by their sum. -/
theorem exp_form (act : ι → Prop) [DecidablePred act] (S : ι → ℝ) (m : ℝ) (hex : ∃ i, act i) (i : ι) :
    Ideal.div (Ideal.exp ((if act i then ((S i * Real.log 2 : ℝ) : EReal) else ⊥) - (m : EReal)))
        (∑ i', Ideal.exp ((if act i' then ((S i' * Real.log 2 : ℝ) : EReal) else ⊥) - (m : EReal)))
      = (wt act S i : EReal) := by
  have hp : ∀ i, Ideal.exp ((if act i then ((S i * Real.log 2 : ℝ) : EReal) else ⊥) - (m : EReal))
      = ((pw act S i * Real.exp (-m) : ℝ) : EReal) := fun i => by
    unfold pw
    by_cases h : act i
    · rw [if_pos h, if_pos h, ← EReal.coe_sub, Ideal.exp_coe]
      congr 1
      rw [sub_eq_add_neg, Real.exp_add, mul_comm (S i)]
      congr 1
      exact (Real.rpow_def_of_pos two_pos _).symm
    · rw [if_neg h, if_neg h, zero_mul, EReal.bot_sub, Ideal.exp_bot, EReal.coe_zero]
  have hc : 0 < Real.exp (-m) := Real.exp_pos _
  have hZ := sum_pw_pos act S hex
  simp only [hp]
  rw [← coe_sum, ← Finset.sum_mul, Ideal.div_coe (mul_pos hZ hc).ne', ← EReal.coe_mul, wt]
  congr 1
  field_simp

/-- Weights over slots that name blocks, gathered by block: if every active key of a block is named by exactly one active
    slot and no other key by any, the gathered weights are the weights over the blocks. -/
theorem gather_wt {σ ν κ : Type} [Fintype σ] [Fintype ν] [Fintype κ] [DecidableEq ν] (idx : σ → ν)
    (act' : σ × κ → Prop) [DecidablePred act'] (act : ν × κ → Prop) [DecidablePred act] (S : ν × κ → ℝ)
    (H : ∀ n k, (∑ s, if idx s = n ∧ act' (s, k) then (1 : ℝ) else 0) = if act (n, k) then 1 else 0) (n : ν) (k : κ) :
    (∑ s, (if idx s = n then (1 : ℝ) else 0) * wt act' (fun p => S (idx p.1, p.2)) (s, k)) = wt act S (n, k) := by
  have hn : ∀ n k, (∑ s, (if idx s = n then (1 : ℝ) else 0) * pw act' (fun p => S (idx p.1, p.2)) (s, k))
      = pw act S (n, k) := fun n k => by
    have : ∀ s, (if idx s = n then (1 : ℝ) else 0) * pw act' (fun p => S (idx p.1, p.2)) (s, k)
        = (if idx s = n ∧ act' (s, k) then (1 : ℝ) else 0) * Real.rpow 2 (S (n, k)) := fun s => by
      unfold pw
      by_cases h : idx s = n
      · subst h; by_cases h' : act' (s, k) <;> simp [h']
      · simp [h]
    simp only [this]
    rw [← Finset.sum_mul, H, pw]
    split <;> simp
  have hZ : (∑ p, pw act' (fun p => S (idx p.1, p.2)) p) = ∑ p, pw act S p := by
    rw [Fintype.sum_prod_type, Fintype.sum_prod_type, Finset.sum_comm]
    conv_rhs => rw [Finset.sum_comm]
    refine Finset.sum_congr rfl fun k _ => ?_
    simp only [← hn]
    rw [Finset.sum_comm]
    refine Finset.sum_congr rfl fun s _ => ?_
    rw [← Finset.sum_mul]
    simp
  unfold wt
  rw [hZ]
  simp only [← mul_div_assoc]
  rw [← Finset.sum_div, hn]

end Moba

end
-- ==== Proof.Rank.lean ====
/-
  The three best of the past key blocks, by rank and by a stable sort.

  A top-k keeps the blocks at the first three positions of a stable sort of the gates, greater first. A count of the blocks
  that come before a block (a greater gate, or an equal gate at a lower index) selects the same blocks: those of rank below
  three.
-/
module

public import Idealize.ShloMosaic.Lib.SortFacts
public import Idealize.ShloMosaic.Lib.SortPrefix
public import Idealize.ShloMosaic.PureOps.Ideal

@[expose] public section

noncomputable section

namespace Moba

open Idealize.ShloMosaic

/-- Two comparators that agree on every pair whose second member comes first in the list sort it alike. -/
theorem stableSort_eq_of_agree {n : Nat} (R R' : Fin n → Fin n → Bool) (h : ∀ a b : Fin n, a < b → R b a = R' b a) :
    ∀ l : List (Fin n), l.Pairwise (· < ·) → stableSort R l = stableSort R' l
  | [], _ => rfl
  | a :: l, hl => by
    rw [List.pairwise_cons] at hl
    rw [stableSort, stableSort, stableSort_eq_of_agree R R' h l hl.2]
    exact insertBefore_congr R R' a _ fun b hb => h a b (hl.1 b ((perm_stableSort R' l).mem_iff.mp hb))

/-- … and so give every position the same source. -/
theorem sortedFrom_eq_of_agree {n : Nat} (R R' : Fin n → Fin n → Bool) (h : ∀ a b : Fin n, a < b → R b a = R' b a)
    (k : Fin n) : sortedFrom R k = sortedFrom R' k := by
  have e : sortPositions n R = sortPositions n R' :=
    stableSort_eq_of_agree R R' h _ (by simpa using List.pairwise_lt_finRange n)
  unfold sortedFrom
  simp only [List.get_eq_getElem, Fin.val_cast, e]

/-- Under a strict total order the position a sort puts at `k` has exactly the `k` earlier ones before it. -/
theorem card_before_sortedFrom {n : Nat} {B : Fin n → Fin n → Bool} (hB : StrictTotalBefore B) (k : Fin n) :
    (Finset.univ.filter fun m => B m (sortedFrom B k) = true).card = k.val := by
  have hs : ∀ i i' : Fin n, i < i' → B (sortedFrom B i) (sortedFrom B i') = true := fun i i' hlt => by
    have h1 : B (sortedFrom B i') (sortedFrom B i) = false := by
      have hp := hB.sorted_stableSort (List.finRange n)
      have := List.pairwise_iff_getElem.mp hp i.val i'.val (by simp [length_stableSort]) (by simp [length_stableSort]) hlt
      exact this
    rcases hB.total (sortedFrom B i) (sortedFrom B i') (fun e => hlt.ne (sortedFrom_injective B e)) with h | h
    · exact h
    · rw [h1] at h; exact absurd h (by decide)
  have e : (Finset.univ.filter fun m => B m (sortedFrom B k) = true)
      = (Finset.univ.filter fun i : Fin n => i < k).image (sortedFrom B) := by
    ext m
    simp only [Finset.mem_filter, Finset.mem_univ, true_and, Finset.mem_image]
    constructor
    · intro hm
      obtain ⟨i, rfl⟩ := sortedFrom_surjective B m
      refine ⟨i, ?_, rfl⟩
      rcases lt_trichotomy i k with h | h | h
      · exact h
      · rw [h, hB.irrefl] at hm; exact absurd hm (by decide)
      · rw [hB.asymm _ _ (hs k i h)] at hm; exact absurd hm (by decide)
    · rintro ⟨i, hi, rfl⟩
      exact hs i k hi
  rw [e, Finset.card_image_of_injective _ (sortedFrom_injective B)]
  have : (Finset.univ.filter fun i : Fin n => i < k) = Finset.Iio k := by ext; simp
  rw [this, Fin.card_Iio]

/-- The gate of a block, minus infinity at the blocks from `j` on. -/
def masked (g : Fin 8 → EReal) (j : Nat) (n : Fin 8) : EReal := if n.val < j then g n else ⊥

/-- How many past blocks come before block `n`: a greater gate, or an equal gate at a lower index. -/
def rank (g : Fin 8 → EReal) (j : Nat) (n : Fin 8) : Nat :=
  (Finset.univ.filter fun m : Fin 8 => m.val < j ∧ (g n < g m ∨ (g n = g m ∧ m < n))).card

/-- The source of a position under the stable sort of the masked gates, greater first. -/
def source (g : Fin 8 → EReal) (j : Nat) (s : Fin 8) : Fin 8 :=
  sortedFrom (fun k k' => Ideal.cmpTotal .gt (masked g j k) (masked g j k') == 1#1) s

/-- The sort's comparator, refined by the position: a strict total order. -/
def before (g : Fin 8 → EReal) (k k' : Fin 8) : Bool :=
  decide (g k' < g k) || (decide (g k = g k') && decide (k < k'))

theorem before_strict (g : Fin 8 → EReal) : StrictTotalBefore (before g) :=
  StrictTotalBefore.of_key_then_position (fun a b : EReal => decide (b < a)) g (fun a => by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

theorem source_eq (g : Fin 8 → EReal) (j : Nat) (s : Fin 8) : source g j s = sortedFrom (before (masked g j)) s := by
  refine sortedFrom_eq_of_agree _ _ (fun a b hab => ?_) s
  have : ¬ b < a := hab.not_gt
  by_cases h : masked g j a < masked g j b <;>
    simp [Ideal.cmpTotal, Ideal.cmp, CmpDirection.ordered, before, this, h]

theorem source_injective (g : Fin 8 → EReal) (j : Nat) : Function.Injective (source g j) := fun a b h => by
  rw [source_eq, source_eq] at h
  exact sortedFrom_injective _ h

/-- A past block is among the first three of the sort exactly if its rank is below three. -/
theorem mem_top_iff (g : Fin 8 → EReal) (j : Nat) (hg : ∀ n, g n ≠ ⊥) (n : Fin 8) (hn : n.val < j) :
    (∃ s : Fin 8, s.val < 3 ∧ source g j s = n) ↔ rank g j n < 3 := by
  have hr : rank g j n = (Finset.univ.filter fun m => before (masked g j) m n = true).card := by
    unfold rank
    congr 1
    ext m
    have hbot : ⊥ < g n := bot_lt_iff_ne_bot.mpr (hg n)
    have hmn : masked g j n = g n := if_pos hn
    simp only [Finset.mem_filter, Finset.mem_univ, true_and, before, Bool.or_eq_true, Bool.and_eq_true, decide_eq_true_eq, hmn]
    by_cases hm : m.val < j
    · have hmm : masked g j m = g m := if_pos hm
      rw [hmm]
      exact ⟨fun h => h.2.imp_right fun h => ⟨h.1.symm, h.2⟩, fun h => ⟨hm, h.imp_right fun h => ⟨h.1.symm, h.2⟩⟩⟩
    · have hmm : masked g j m = ⊥ := if_neg hm
      rw [hmm]
      exact ⟨fun h => absurd h.1 hm, fun h => (h.elim (fun h => absurd h not_lt_bot) fun h => absurd h.1.symm (hg n))⟩
  obtain ⟨s, rfl⟩ := sortedFrom_surjective (before (masked g j)) n
  rw [hr, card_before_sortedFrom (before_strict _)]
  constructor
  · rintro ⟨s', h3, e⟩
    rw [source_eq] at e
    rwa [← sortedFrom_injective _ e]
  · intro h
    exact ⟨s, h, source_eq _ _ _⟩

end Moba

end
-- ==== Proof.UnitRead.lean ====
/-
  What the parts of a unit compute, over the extended reals: scores as real numbers or minus infinity, the rank of a past
  block as a count, the maxima as real numbers, and the gated result as a weighted sum of the values.
-/
module

public import proofs.«01_k».proof.Proof.Unit
public import proofs.«01_k».proof.Proof.Softmax
public import proofs.«01_k».proof.Proof.Rank
public import Idealize.ShloMosaic.Lib.Pointwise
public import Idealize.ShloMosaic.Lib.WordCmp

@[expose] public section

set_option maxRecDepth 16384

noncomputable section

namespace Moba

open Idealize.ShloMosaic Cert.KernelIdeal Cert.KernelIdeal.Gen Idealize.ShloMosaic.WordCmp

/-- The word the kernel's masks are written with stands for minus infinity. -/
theorem mask_eq : (Named.named κ "mask" 0xF149F2CA#32 : Ideal .f32) = (⊥ : EReal) :=
  IdealRules.named_const.ideal_named_scalar _ _ _ _ rfl

/-- The constant of the kernel's gate stands for `-(log 2)⁻¹`. -/
theorem rate_eq : (Named.named κ "neg_log2e" 0xBFB8AA3B#32 : Ideal .f32) = ((-((Real.log 2)⁻¹) : ℝ) : EReal) :=
  IdealRules.named_const.ideal_named_scalar _ _ _ _ rfl

theorem ofBits_bot : (Ideal.ofBits FTy.f32 0xFF800000#32 : EReal) = ⊥ := by simp [Ideal.ofBits, Ideal.ieee]

/-! ### The mathematics of a unit -/

/-- A key's score against a query. -/
def score (Q : Fin 128 → ℝ) (K : Fin 8 → Fin 256 → Fin 128 → ℝ) (p : Fin 8 × Fin 256) : ℝ := ∑ d, K p.1 p.2 d * Q d

/-- A block's gate: the query against the mean of the block's keys. -/
def gate (Q : Fin 128 → ℝ) (M : Fin 8 → Fin 128 → ℝ) (n : Fin 8) : EReal := ((∑ d, M n d * Q d : ℝ) : EReal)

/-- The keys a query of block `j` at position `r` attends to: its own block's up to itself, and the past blocks of rank
    below three. -/
def act (g : Fin 8 → EReal) (j r : Nat) (p : Fin 8 × Fin 256) : Prop :=
  (p.1.val = j ∧ p.2.val ≤ r) ∨ (p.1.val < j ∧ rank g j p.1 < 3)

instance (g : Fin 8 → EReal) (j r : Nat) : DecidablePred (act g j r) := fun p =>
  inferInstanceAs (Decidable ((p.1.val = j ∧ p.2.val ≤ r) ∨ (p.1.val < j ∧ rank g j p.1 < 3)))

/-- The masked score. -/
def cell (Q : Fin 128 → ℝ) (K : Fin 8 → Fin 256 → Fin 128 → ℝ) (g : Fin 8 → EReal) (j r : Nat) (n : Fin 8)
    (k : Fin 256) : EReal :=
  if act g j r (n, k) then (score Q K (n, k) : EReal) else ⊥

/-- `z / (1 + e⁻ᶻ)`. -/
def silu (z : EReal) : EReal := z * Ideal.div 1 (1 + Ideal.exp (-z))

/-- The attention output. -/
def attn (Q : Fin 128 → ℝ) (K : Fin 8 → Fin 256 → Fin 128 → ℝ) (g : Fin 8 → EReal) (j r : Nat)
    (w : Fin 8 → Fin 256 → EReal) : EReal :=
  ∑ p : Fin 8 × Fin 256, w p.1 p.2 * (wt (act g j r) (score Q K) p : EReal)

theorem exp2_rate (z : EReal) : Ideal.exp2 (z * ((-((Real.log 2)⁻¹) : ℝ) : EReal)) = Ideal.exp (-z) := by
  have hl : 0 < Real.log 2 := Real.log_pos one_lt_two
  have hn : (-((Real.log 2)⁻¹) : ℝ) < 0 := by simpa using hl
  induction z with
  | bot => rw [EReal.bot_mul_coe_of_neg hn, EReal.neg_bot]; rfl
  | top => rw [EReal.top_mul_coe_of_neg hn, EReal.neg_top]; rfl
  | coe x =>
    rw [← EReal.coe_mul, Ideal.exp2_coe, ← EReal.coe_neg, Ideal.exp_coe]
    congr 1
    rw [show Real.rpow 2 (x * -(Real.log 2)⁻¹) = Real.exp (Real.log 2 * (x * -(Real.log 2)⁻¹)) from
      Real.rpow_def_of_pos two_pos _]
    congr 1
    field_simp

/-! ### Ranks -/

theorem rank_succ (g : Fin 8 → EReal) (m : Nat) (hm : m < 8) (n : Fin 8) :
    rank g (m + 1) n = rank g m n + if g n < g ⟨m, hm⟩ ∨ (g ⟨m, hm⟩ = g n ∧ m < n.val) then 1 else 0 := by
  have key : ∀ C : Fin 8 → Prop, [DecidablePred C] →
      (Finset.univ.filter fun x : Fin 8 => x.val < m + 1 ∧ C x).card
        = (Finset.univ.filter fun x : Fin 8 => x.val < m ∧ C x).card + if C ⟨m, hm⟩ then 1 else 0 := fun C _ => by
    rw [Finset.card_filter, Finset.card_filter,
      ← Finset.sum_ite_eq' Finset.univ (⟨m, hm⟩ : Fin 8) (fun x => if C x then 1 else 0) |>.trans (if_pos (Finset.mem_univ _)),
      ← Finset.sum_add_distrib]
    refine Finset.sum_congr rfl fun x _ => ?_
    by_cases hx : x = ⟨m, hm⟩
    · subst hx
      by_cases h : C ⟨m, hm⟩ <;> simp [h]
    · have hv : x.val ≠ m := fun h => hx (Fin.ext h)
      have hl : x.val < m + 1 ↔ x.val < m := by omega
      simp [hl, hx]
  unfold rank
  rw [key fun x => g n < g x ∨ (g n = g x ∧ x < n)]
  congr 1
  exact if_congr (or_congr Iff.rfl (and_congr eq_comm Iff.rfl)) rfl rfl

theorem rank_zero (g : Fin 8 → EReal) (n : Fin 8) : rank g 0 n = 0 := by simp [rank]

theorem rank_le (g : Fin 8 → EReal) (j : Nat) (hj : j ≤ 8) (n : Fin 8) : rank g j n ≤ 8 :=
  (Finset.card_le_univ _).trans (by simp)

/-- Where at most three blocks are past, each is among the best three. -/
theorem rank_lt_three (g : Fin 8 → EReal) (j : Nat) (hj : j ≤ 3) (n : Fin 8) (hn : n.val < j) : rank g j n < 3 := by
  have : (Finset.univ.filter fun m : Fin 8 => m.val < j ∧ (g n < g m ∨ (g n = g m ∧ m < n)))
      ⊆ (Finset.univ.filter fun m : Fin 8 => m.val < 3).erase n := fun x hx => by
    simp only [Finset.mem_filter, Finset.mem_univ, true_and, Finset.mem_erase] at hx ⊢
    refine ⟨fun e => ?_, by omega⟩
    subst e
    exact hx.2.elim (lt_irrefl _) fun h => lt_irrefl _ h.2
  refine (Finset.card_le_card this).trans_lt ?_
  rw [Finset.card_erase_of_mem (by simp; omega)]
  decide

/-- One step of the kernel's rank is one step of the count. -/
theorem rankStep_value (g : Fin 8 → EReal) (G : V S8x256) (m : Nat) (hs : S8x256.Slices ![m, 0] S1x256) (hm : m < 8)
    (acc : IVec S8x256 32) (n : Fin 8) (r : Fin 256) (hGm : G (ix2 ⟨m, hm⟩ r) = g ⟨m, hm⟩) (hGn : G (ix2 n r) = g n)
    (ha : acc (ix2 n r) = BitVec.ofNat 32 (rank g m n)) :
    rankStep G m hs acc (ix2 n r) = BitVec.ofNat 32 (rank g (m + 1) n) := by
  pointwise [rankStep, blocks]
  rw [ha, hGm, hGn, cmpi_sgt_ofNat (w := 32) (by have := n.isLt; omega) (by omega), rank_succ g m hm]
  by_cases h1 : g n < g ⟨m, hm⟩ <;> by_cases h2 : g ⟨m, hm⟩ = g n <;> by_cases h3 : m < n.val <;>
    simp [h1, h2, h3, IntOp.addi, IntOp.ori, IntOp.andi, BitVec.ofNat_add]

theorem biasOf_value (acc : IVec S8x256 32) (n : Fin 8) (r : Fin 256) (c : Nat) (hc : c ≤ 8)
    (ha : acc (ix2 n r) = BitVec.ofNat 32 c) : biasOf acc (ix2 n r) = if c < 3 then 0 else ⊥ := by
  pointwise [biasOf]
  rw [ha, show (3#32 : BitVec 32) = BitVec.ofNat 32 3 from rfl, cmpi_slt_ofNat (w := 32) (by omega) (by omega), mask_eq]
  by_cases h : c < 3 <;> simp [h, Scalar.select]

/-! ### Scores -/

/-- A sum of products of real numbers. -/
theorem dot_coe (f g : Fin 128 → EReal) (a b : Fin 128 → ℝ) (hf : ∀ d, f d = a d) (hg : ∀ d, g d = b d) :
    ∑ d, f d * g d = ((∑ d, a d * b d : ℝ) : EReal) := by
  rw [coe_sum]
  exact Finset.sum_congr rfl fun d _ => by rw [hf, hg, EReal.coe_mul]

/-- A past block's cell where at most three blocks are past. -/
theorem cell_few (Q K g) (j r : Nat) (hj : j ≤ 3) (n : Fin 8) (hn : n.val < j) (k : Fin 256) :
    cell Q K g j r n k = (score Q K (n, k) : EReal) := if_pos (.inr ⟨hn, rank_lt_three g j hj n hn⟩)

/-- A past block's cell: the score plus the bias. -/
theorem cell_past (Q K g) (j r : Nat) (n : Fin 8) (hn : n.val < j) (k : Fin 256) :
    cell Q K g j r n k = (score Q K (n, k) : EReal) + if rank g j n < 3 then 0 else ⊥ := by
  by_cases h : rank g j n < 3
  · have ha : act g j r (n, k) := .inr ⟨hn, h⟩
    rw [cell, if_pos ha, if_pos h, add_zero]
  · have ha : ¬ act g j r (n, k) := fun h' => h'.elim (fun h' => absurd h'.1 hn.ne) fun h' => h h'.2
    rw [cell, if_neg ha, if_neg h, EReal.add_bot]

/-- An own key's cell: the score where the key is at or before the query. -/
theorem cell_own (Q K g) (j r : Nat) (n : Fin 8) (hn : n.val = j) (k : Fin 256) :
    cell Q K g j r n k = if k.val ≤ r then (score Q K (n, k) : EReal) else ⊥ := by
  by_cases h : k.val ≤ r
  · have ha : act g j r (n, k) := .inl ⟨hn, h⟩
    rw [cell, if_pos ha, if_pos h]
  · have ha : ¬ act g j r (n, k) := fun h' => h'.elim (fun h' => h h'.2) fun h' => absurd hn h'.1.ne
    rw [cell, if_neg ha, if_neg h]

/-- A later block's cells are all masked. -/
theorem cell_later (Q K g) (j r : Nat) (n : Fin 8) (hn : j < n.val) (k : Fin 256) : cell Q K g j r n k = ⊥ :=
  if_neg (c := act g j r (n, k)) fun h => h.elim (fun h => absurd h.1 hn.ne') fun h => absurd h.1 hn.le.not_gt

theorem cell_ne_top (Q K g) (j r : Nat) (n : Fin 8) (k : Fin 256) : cell Q K g j r n k ≠ ⊤ := by
  unfold cell; split
  · exact EReal.coe_ne_top _
  · exact bot_ne_top

/-- The kernel's causal mask over scores. -/
theorem msk_value (s : V S256x256) (k r : Fin 256) : msk s (ix2 k r) = if k.val ≤ r.val then s (ix2 k r) else ⊥ := by
  pointwise [msk, causal]
  rw [cmpi_sle_ofNat (w := 32) (by have := k.isLt; omega) (by have := r.isLt; omega), mask_eq]
  by_cases h : k.val ≤ r.val <;> simp [h, Scalar.select]

theorem biased_value (b : V S8x256) (n : Nat) (hs : S8x256.Slices ![n, 0] S1x256) (hn : n < 8) (s : V S256x256)
    (k r : Fin 256) : biased b n hs s (ix2 k r) = s (ix2 k r) + b (ix2 ⟨n, hn⟩ r) := by
  pointwise [biased]

/-! ### Maxima -/

theorem fold_max_ne_top {ι : Type} (s : Finset ι) (f : ι → EReal) (h : ∀ i ∈ s, f i ≠ ⊤) : s.fold max ⊥ f ≠ ⊤ :=
  ((Finset.fold_max_lt ⊤).mpr ⟨bot_lt_top, fun i hi => lt_top_iff_ne_top.mpr (h i hi)⟩).ne

theorem fold_max_ne_bot {ι : Type} (s : Finset ι) (f : ι → EReal) (i : ι) (hi : i ∈ s) (h : f i ≠ ⊥) :
    s.fold max ⊥ f ≠ ⊥ := fun e =>
  h (le_bot_iff.mp (e ▸ (Finset.le_fold_max (f i)).mpr (.inr ⟨i, hi, le_rfl⟩)))

/-- No entry of a column is plus infinity. -/
def Low {n : Nat} (c : Fin n → EReal) : Prop := ∀ a, c a ≠ ⊤

/-- Some entry of a column is not minus infinity. -/
def Up {n : Nat} (c : Fin n → EReal) : Prop := ∃ a, c a ≠ ⊥

theorem colmax_low (s : V S256x256) (r : Fin 256) (h : Low fun k : Fin 256 => s (ix2 k r)) :
    Low fun a : Fin 8 => colmax s (ix2 a r) := fun a => by
  pointwise [colmax]
  rw [ofBits_bot]
  exact fold_max_ne_top _ _ fun x _ => h _

theorem colmax_up (s : V S256x256) (r : Fin 256) (h : Up fun k : Fin 256 => s (ix2 k r)) :
    Up fun a : Fin 8 => colmax s (ix2 a r) := by
  obtain ⟨k, hk⟩ := h
  have := k.isLt
  refine ⟨⟨k.val % 8, by omega⟩, ?_⟩
  show colmax s (ix2 _ r) ≠ ⊥
  pointwise [colmax]
  rw [ofBits_bot]
  refine fold_max_ne_bot _ _ (⟨k.val / 8, by omega⟩ : Fin 32) (Finset.mem_univ _) ?_
  have e : ∀ h, (⟨k.val / 8 * 8 + k.val % 8, h⟩ : Fin 256) = k := fun h => Fin.ext (Nat.div_add_mod' k.val 8)
  show s (ix2 ⟨k.val / 8 * 8 + k.val % 8, _⟩ r) ≠ ⊥
  rw [e]
  exact hk

theorem max_low (a b : V S8x256) (r : Fin 256) (ha : Low fun i : Fin 8 => a (ix2 i r))
    (hb : Low fun i : Fin 8 => b (ix2 i r)) : Low fun i : Fin 8 => maximumf a b (ix2 i r) := fun i => by
  show max (a (ix2 i r)) (b (ix2 i r)) ≠ ⊤
  rcases max_choice (a (ix2 i r)) (b (ix2 i r)) with h | h <;> rw [h]
  exacts [ha i, hb i]

theorem max_up (a b : V S8x256) (r : Fin 256) (hb : Up fun i : Fin 8 => b (ix2 i r)) :
    Up fun i : Fin 8 => maximumf a b (ix2 i r) := by
  obtain ⟨i, hi⟩ := hb
  refine ⟨i, ?_⟩
  show max (a (ix2 i r)) (b (ix2 i r)) ≠ ⊥
  exact fun e => hi (le_bot_iff.mp (e ▸ le_max_right _ _))

theorem rowmax_real (c : V S8x256) (r : Fin 256) (hl : Low fun i : Fin 8 => c (ix2 i r))
    (hu : Up fun i : Fin 8 => c (ix2 i r)) : ∃ x : ℝ, rowmax c (ix2 0 r) = (x : EReal) := by
  have e : rowmax c (ix2 0 r) = Finset.univ.fold max ⊥ fun i : Fin 8 => c (ix2 i r) := by
    pointwise [rowmax]
    rw [ofBits_bot]
  obtain ⟨i, hi⟩ := hu
  rw [e]
  exact ⟨_, (EReal.coe_toReal (fold_max_ne_top _ _ fun i _ => hl i)
    (fold_max_ne_bot _ _ i (Finset.mem_univ _) hi)).symm⟩

/-- A column of cells is below plus infinity. -/
theorem low_of_cells (Q K g) (j : Nat) (n : Fin 8) (s : V S256x256) (r : Fin 256)
    (h : ∀ k, s (ix2 k r) = cell Q K g j r.val n k) : Low fun k : Fin 256 => s (ix2 k r) := fun k =>
  (h k).trans_ne (cell_ne_top Q K g j r.val n k)

/-- The query's own key keeps its own block's column above minus infinity. -/
theorem up_of_cells (Q K g) (j : Nat) (n : Fin 8) (hn : n.val = j) (s : V S256x256) (r : Fin 256)
    (h : ∀ k, s (ix2 k r) = cell Q K g j r.val n k) : Up fun k : Fin 256 => s (ix2 k r) :=
  ⟨r, by
    show s (ix2 r r) ≠ ⊥
    rw [h, cell_own Q K g j r.val n hn, if_pos le_rfl]
    exact EReal.coe_ne_bot _⟩

/-! ### The result -/

theorem weights_value (m : V S1x256) (s : V S256x256) (k r : Fin 256) :
    weights m (kept s) (ix2 k r) = Ideal.exp2 (s (ix2 k r) - m (ix2 0 r)) := by
  pointwise [weights, kept]
  rfl

theorem gated_eq (acc : V S144x256) (z : B S1x1x256x128) (r : Fin 256) (d : Fin 128) :
    gated acc z (ix3 0 r d)
      = acc (ix2 ⟨d.val, by have := d.isLt; omega⟩ r) * Ideal.div 1 (acc (ix2 128 r)) * silu (z (ix4 0 0 r d)) := by
  pointwise [gated, normed, gateOf, rows]
  rw [rate_eq, silu]
  congr 3
  exact congrArg _ (exp2_rate _)

/-- The unit's result from its accumulated columns. -/
theorem gated_value (Q K g) (j : Nat) (hj : j < 8) (W : Fin 144 → Fin 8 → Fin 256 → EReal) (h1 : ∀ n k, W 128 n k = 1)
    (acc : V S144x256) (z : B S1x1x256x128) (r : Fin 256) (x : ℝ)
    (ha : ∀ e, acc (ix2 e r) = ∑ p : Fin 8 × Fin 256, W e p.1 p.2 * Ideal.exp2 (cell Q K g j r.val p.1 p.2 - (x : EReal)))
    (d : Fin 128) :
    gated acc z (ix3 0 r d)
      = attn Q K g j r.val (W ⟨d.val, by have := d.isLt; omega⟩) * silu (z (ix4 0 0 r d)) := by
  rw [gated_eq, ha, ha]
  congr 1
  exact exp2_form (act g j r.val) (score Q K) x (fun p => W _ p.1 p.2) (fun p => W 128 p.1 p.2) (fun p => h1 _ _)
    ⟨(⟨j, hj⟩, r), .inl ⟨rfl, le_rfl⟩⟩

/-- A sum over the keys of the first blocks is a sum over all blocks and keys of terms that vanish at later blocks. -/
theorem sum_keys {w : Nat} (nb : Nat) (hw : w = 256 * nb) (hnb : nb ≤ 8) (f : Fin w → EReal) (G : Fin 8 → Fin 256 → EReal)
    (hf : ∀ (x : Fin w) (n : Fin 8) (k : Fin 256), x.val = 256 * n.val + k.val → f x = G n k)
    (hG : ∀ (n : Fin 8) (k : Fin 256), nb ≤ n.val → G n k = 0) : ∑ x, f x = ∑ p : Fin 8 × Fin 256, G p.1 p.2 := by
  subst hw
  refine Finset.sum_of_injOn (fun x : Fin (256 * nb) => ((⟨x.val / 256, by have := x.isLt; omega⟩ : Fin 8),
    (⟨x.val % 256, by omega⟩ : Fin 256))) (fun x _ y _ h => ?_) (fun x _ => Finset.mem_coe.mpr (Finset.mem_univ _))
    (fun p _ hp => ?_) fun x _ => ?_
  · have h1 : x.val / 256 = y.val / 256 := congrArg (fun p : Fin 8 × Fin 256 => p.1.val) h
    have h2 : x.val % 256 = y.val % 256 := congrArg (fun p : Fin 8 × Fin 256 => p.2.val) h
    exact Fin.ext (by omega)
  · refine hG _ _ (Nat.le_of_not_lt fun hlt => hp ?_)
    have := p.2.isLt
    refine ⟨⟨256 * p.1.val + p.2.val, by omega⟩, Finset.mem_coe.mpr (Finset.mem_univ _), ?_⟩
    exact Prod.ext (Fin.ext (by show (256 * p.1.val + p.2.val) / 256 = p.1.val; omega))
      (Fin.ext (by show (256 * p.1.val + p.2.val) % 256 = p.2.val; omega))
  · exact hf x _ _ (by show x.val = 256 * (x.val / 256) + x.val % 256; omega)

end Moba

end
-- ==== Proof.Pre.lean ====
/-
  What the precondition says of the arguments: the queries, keys and key means are finite, and row 128 of the values
  holds ones.
-/
module

public import proofs.«01_k».proof.Pre_finite_with_ones
public import proofs.«01_k».proof.Proof.UnitRead
public import Idealize.ShloMosaic.Lib.Pointwise
public import Idealize.ShloMosaic.Lib.WordCmp
public import Idealize.ShloMosaic.Lib.ReduceAll

@[expose] public section

set_option maxRecDepth 16384

noncomputable section

namespace Moba

open Idealize.ShloMosaic Cert.Pre_finite_with_ones

/-- The side conditions of the precondition's operations. -/
instance preFacts : Facts where
  bitsLt_bf16_f32 := by decide
  bcast_S_S32x8x2048x128 := by decide
  reducesTo_S32x8x2048x128_S_d0_1_2_3 := by decide
  h_S_ := by decide
  bcast_S_S32x8x8x128 := by decide
  reducesTo_S32x8x8x128_S_d0_1_2_3 := by decide
  slices_S32x8x144x2048_S32x8x1x2048_0_0_128_0 := by decide
  bcast_S_S32x8x1x2048 := by decide
  reducesTo_S32x8x1x2048_S_d0_1_2_3 := by decide

/-- Two bits whose conjunction is one are one. -/
theorem both {x y : BitVec 1} (h : IntOp.andi x y = 1#1) : x = 1#1 ∧ y = 1#1 := by
  revert h
  revert x y
  decide

/-- The word of plus infinity. -/
theorem ofBits_top : (Ideal.ofBits FTy.f32 0x7F800000#32 : EReal) = ⊤ := by simp [Ideal.ofBits, Ideal.ieee]

/-- A magnitude below plus infinity is a real's. -/
theorem real_of_abs (x : EReal) (h : Ideal.cmp .olt (max x (-x)) (Ideal.ofBits .f32 0x7F800000#32) = 1#1) :
    x = ((x.toReal : ℝ) : EReal) := by
  rw [ofBits_top] at h
  have h' : max x (-x) < ⊤ := by
    by_contra hn
    simp [Ideal.cmp, hn] at h
  refine (EReal.coe_toReal (fun e => ?_) fun e => ?_).symm <;> subst e <;> simp at h'

/-- The precondition, read. -/
theorem pre_read (q k : FVec Ideal S32x8x2048x128 .bf16) (v : FVec Ideal S32x8x144x2048 .bf16)
    (km : FVec Ideal S32x8x8x128 .f32) (z : FVec Ideal S32x8x2048x128 .bf16) (h : FVec Ideal S32x2048x1024 .f32)
    (md : FVec Ideal S32x3072 .f32) (w : FVec Ideal S1024x1024 .bf16) (pg : FVec Ideal S1024 .f32)
    (e : fn (F := Ideal) q k v km z h md w pg = fun _ => 1#1) :
    (∀ i, q i = (((q i : EReal).toReal : ℝ) : EReal)) ∧ (∀ i, k i = (((k i : EReal).toReal : ℝ) : EReal))
      ∧ (∀ i, km i = (((km i : EReal).toReal : ℝ) : EReal)) ∧ ∀ b h x, v (ix4 b h 128 x) = (1 : EReal) := by
  have e0 := congrFun e ix0
  dsimp only [fn, fn_part1] at e0
  obtain ⟨e1, ev⟩ := both e0
  obtain ⟨e2, ekm⟩ := both e1
  obtain ⟨eq, ek⟩ := both e2
  have hs : Subsingleton S_.Idx := ⟨fun a b => funext fun i => i.elim0⟩
  refine ⟨fun i => real_of_abs _ (Host.reduce_andi_all _ _ _ _ _ eq i),
    fun i => real_of_abs _ (Host.reduce_andi_all _ _ _ _ _ ek i),
    fun i => real_of_abs _ (Host.reduce_andi_all _ _ _ _ _ ekm i), fun b h x => ?_⟩
  have hv := Host.reduce_andi_all _ _ _ _ _ ev (ix4 b h 0 x)
  pointwise at hv
  exact (WordCmp.ofBool_decide_eq_one_iff _).mp hv

end Moba

end
-- ==== Proof.UnitValue.lean ====
/-
  Each unit's result: with queries `Q`, keys `K`, key means `M` and values `W`, the unit with `j + 1` key blocks computes the
  attention output of block `j`'s queries times the gate.
-/
module

public import proofs.«01_k».proof.Proof.UnitRead

@[expose] public section

set_option maxRecDepth 16384

noncomputable section

namespace Moba

open Idealize.ShloMosaic Cert.KernelIdeal Cert.KernelIdeal.Gen Idealize.ShloMosaic.WordCmp

/-- The queries' block holds `Q`. -/
def IsRows (q : B S1x1x256x128) (Q : Fin 256 → Fin 128 → ℝ) : Prop := ∀ r d, q (ix4 0 0 r d) = (Q r d : EReal)

/-- The first `w` keys are those of `K`. -/
def IsKeys {w : Nat} (k : Fin w → Fin 128 → EReal) (K : Fin 8 → Fin 256 → Fin 128 → ℝ) : Prop :=
  ∀ (x : Fin w) (n : Fin 8) (i : Fin 256) (d : Fin 128), x.val = 256 * n.val + i.val → k x d = (K n i d : EReal)

/-- The key means are `M`. -/
def IsMeans (km : V S1x8x1x128) (M : Fin 8 → Fin 128 → ℝ) : Prop := ∀ n d, km (ix4 0 n 0 d) = (M n d : EReal)

/-- The values of the first `w` keys are those of `W`. -/
def IsValues {w : Nat} (v : Fin 144 → Fin w → EReal) (W : Fin 144 → Fin 8 → Fin 256 → EReal) : Prop :=
  ∀ (e : Fin 144) (x : Fin w) (n : Fin 8) (i : Fin 256), x.val = 256 * n.val + i.val → v e x = W e n i

/-- A row of keys against a query. -/
theorem key_dot {w : Nat} (k : Fin w → Fin 128 → EReal) (K Q) (q : B S1x1x256x128) (hk : IsKeys k K) (hq : IsRows q Q)
    (x : Fin w) (n : Fin 8) (i r : Fin 256) (h : x.val = 256 * n.val + i.val) :
    ∑ d, k x d * q (ix4 0 0 r d) = (score (Q r) K (n, i) : EReal) :=
  dot_coe _ _ _ _ (fun d => hk x n i d h) fun d => hq r d

/-- A gate from the two parts of the key means: the second part, a finite mean less itself, adds nothing. -/
theorem gate_dot (km : V S1x8x1x128) (M Q) (q : B S1x1x256x128) (hm : IsMeans km M) (hq : IsRows q Q) (n : Fin 8)
    (r : Fin 256) :
    (∑ d, km (ix4 0 n 0 d) * q (ix4 0 0 r d)) + (∑ d, (km (ix4 0 n 0 d) - km (ix4 0 n 0 d)) * q (ix4 0 0 r d))
      = gate (Q r) M n := by
  rw [dot_coe _ _ _ _ (fun d => hm n d) fun d => hq r d,
    dot_coe _ _ (fun _ => 0) _ (fun d => by rw [hm n d, ← EReal.coe_sub, sub_self]) fun d => hq r d, ← EReal.coe_add]
  simp [gate]

/-- The gates' table: past blocks' gates, minus infinity from block `j` on. -/
theorem gates_value (G hi lo : V S8x256) (j : Nat) (hj : j < 8) (g : Fin 8 → EReal) (r : Fin 256) (n : Fin 8)
    (hn : n.val < j) (h : hi (ix2 n r) + lo (ix2 n r) = g n) : gates (BitVec.ofNat 32 j) hi lo (ix2 n r) = g n := by
  pointwise [gates, blocks]
  rw [cmpi_slt_ofNat (w := 32) (by omega) (by omega), ← h]
  simp [hn, Scalar.select]

/-- Two names of one key. -/
theorem key_congr (P : Fin 8 → Fin 256 → EReal) {n n' : Fin 8} {k k' : Fin 256} (hn : n.val = n'.val) (hk : k.val = k'.val) :
    P n k = P n' k' := congrArg₂ P (Fin.ext hn) (Fin.ext hk)

/-- The weighted sums of the values, one key block. -/
theorem acc1_value (vt : B S1x1x144x256) (p0 : B S256x256) (W : Fin 144 → Fin 8 → Fin 256 → EReal)
    (P : Fin 8 → Fin 256 → EReal)
    (hv : IsValues (fun e (x : Fin 256) => vt (ix4 0 0 e x)) W) (r : Fin 256) (h0 : ∀ k, p0 (ix2 k r) = P 0 k)
    (hz : ∀ (n : Fin 8) (k : Fin 256), 1 ≤ n.val → P n k = 0) (e : Fin 144) :
    acc1 vt p0 (ix2 e r) = ∑ p : Fin 8 × Fin 256, W e p.1 p.2 * P p.1 p.2 := by
  pointwise [acc1]
  refine sum_keys 1 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0]
  exact key_congr P (by (try simp); omega) (by (try simp); omega)

/-- The weighted sums of the values, two key blocks. -/
theorem acc2_value (vt : B S1x1x144x512) (p0 p1 : B S256x256) (W : Fin 144 → Fin 8 → Fin 256 → EReal)
    (P : Fin 8 → Fin 256 → EReal)
    (hv : IsValues (fun e (x : Fin 512) => vt (ix4 0 0 e x)) W) (r : Fin 256) (h0 : ∀ k, p0 (ix2 k r) = P 0 k) (h1 : ∀ k, p1 (ix2 k r) = P 1 k)
    (hz : ∀ (n : Fin 8) (k : Fin 256), 2 ≤ n.val → P n k = 0) (e : Fin 144) :
    acc2 vt p0 p1 (ix2 e r) = ∑ p : Fin 8 × Fin 256, W e p.1 p.2 * P p.1 p.2 := by
  pointwise [acc2]
  rw [Fintype.sum_prod_type, Fin.sum_univ_eight]
  have z : ∀ n : Fin 8, 2 ≤ n.val → ∑ k, W e n k * P n k = 0 := fun n hn =>
    Finset.sum_eq_zero fun k _ => by rw [hz n k hn, mul_zero]
  dsimp only
  rw [z 2 (by decide), z 3 (by decide), z 4 (by decide), z 5 (by decide), z 6 (by decide), z 7 (by decide)]
  simp only [add_zero]
  refine congrArg₂ (· + ·) (Finset.sum_congr rfl fun x _ => ?_) (Finset.sum_congr rfl fun x _ => ?_)
  · rw [h0, ← hv e ⟨x.val, _⟩ 0 x (by simp)]
  · rw [h1, ← hv e ⟨256 + x.val, _⟩ 1 x (by simp)]

/-- The weighted sums of the values, three key blocks. -/
theorem acc3_value (vt : B S1x1x144x768) (p0 p1 p2 : B S256x256) (W : Fin 144 → Fin 8 → Fin 256 → EReal)
    (P : Fin 8 → Fin 256 → EReal)
    (hv : IsValues (fun e (x : Fin 768) => vt (ix4 0 0 e x)) W) (r : Fin 256) (h0 : ∀ k, p0 (ix2 k r) = P 0 k) (h1 : ∀ k, p1 (ix2 k r) = P 1 k) (h2 : ∀ k, p2 (ix2 k r) = P 2 k)
    (hz : ∀ (n : Fin 8) (k : Fin 256), 3 ≤ n.val → P n k = 0) (e : Fin 144) :
    acc3 vt p0 p1 p2 (ix2 e r) = ∑ p : Fin 8 × Fin 256, W e p.1 p.2 * P p.1 p.2 := by
  pointwise [acc3]
  refine sum_keys 3 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2]
  split_ifs
  all_goals exact key_congr P (by (try simp); omega) (by (try simp); omega)

/-- The weighted sums of the values, four key blocks. -/
theorem acc4_value (vt : B S1x1x144x1024) (p0 p1 p2 p3 : B S256x256) (W : Fin 144 → Fin 8 → Fin 256 → EReal)
    (P : Fin 8 → Fin 256 → EReal)
    (hv : IsValues (fun e (x : Fin 1024) => vt (ix4 0 0 e x)) W) (r : Fin 256) (h0 : ∀ k, p0 (ix2 k r) = P 0 k) (h1 : ∀ k, p1 (ix2 k r) = P 1 k) (h2 : ∀ k, p2 (ix2 k r) = P 2 k) (h3 : ∀ k, p3 (ix2 k r) = P 3 k)
    (hz : ∀ (n : Fin 8) (k : Fin 256), 4 ≤ n.val → P n k = 0) (e : Fin 144) :
    acc4 vt p0 p1 p2 p3 (ix2 e r) = ∑ p : Fin 8 × Fin 256, W e p.1 p.2 * P p.1 p.2 := by
  pointwise [acc4]
  refine sum_keys 4 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2, h3]
  split_ifs
  all_goals exact key_congr P (by (try simp); omega) (by (try simp); omega)

/-- The weighted sums of the values, five key blocks. -/
theorem acc5_value (vt : B S1x1x144x1280) (p0 p1 p2 p3 p4 : B S256x256) (W : Fin 144 → Fin 8 → Fin 256 → EReal)
    (P : Fin 8 → Fin 256 → EReal)
    (hv : IsValues (fun e (x : Fin 1280) => vt (ix4 0 0 e x)) W) (r : Fin 256) (h0 : ∀ k, p0 (ix2 k r) = P 0 k) (h1 : ∀ k, p1 (ix2 k r) = P 1 k) (h2 : ∀ k, p2 (ix2 k r) = P 2 k) (h3 : ∀ k, p3 (ix2 k r) = P 3 k) (h4 : ∀ k, p4 (ix2 k r) = P 4 k)
    (hz : ∀ (n : Fin 8) (k : Fin 256), 5 ≤ n.val → P n k = 0) (e : Fin 144) :
    acc5 vt p0 p1 p2 p3 p4 (ix2 e r) = ∑ p : Fin 8 × Fin 256, W e p.1 p.2 * P p.1 p.2 := by
  pointwise [acc5]
  refine sum_keys 5 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2, h3, h4]
  split_ifs
  all_goals exact key_congr P (by (try simp); omega) (by (try simp); omega)

/-- The weighted sums of the values, six key blocks. -/
theorem acc6_value (vt : B S1x1x144x1536) (p0 p1 p2 p3 p4 p5 : B S256x256) (W : Fin 144 → Fin 8 → Fin 256 → EReal)
    (P : Fin 8 → Fin 256 → EReal)
    (hv : IsValues (fun e (x : Fin 1536) => vt (ix4 0 0 e x)) W) (r : Fin 256) (h0 : ∀ k, p0 (ix2 k r) = P 0 k) (h1 : ∀ k, p1 (ix2 k r) = P 1 k) (h2 : ∀ k, p2 (ix2 k r) = P 2 k) (h3 : ∀ k, p3 (ix2 k r) = P 3 k) (h4 : ∀ k, p4 (ix2 k r) = P 4 k) (h5 : ∀ k, p5 (ix2 k r) = P 5 k)
    (hz : ∀ (n : Fin 8) (k : Fin 256), 6 ≤ n.val → P n k = 0) (e : Fin 144) :
    acc6 vt p0 p1 p2 p3 p4 p5 (ix2 e r) = ∑ p : Fin 8 × Fin 256, W e p.1 p.2 * P p.1 p.2 := by
  pointwise [acc6]
  refine sum_keys 6 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2, h3, h4, h5]
  split_ifs
  all_goals exact key_congr P (by (try simp); omega) (by (try simp); omega)

/-- The weighted sums of the values, seven key blocks. -/
theorem acc7_value (vt : B S1x1x144x1792) (p0 p1 p2 p3 p4 p5 p6 : B S256x256) (W : Fin 144 → Fin 8 → Fin 256 → EReal)
    (P : Fin 8 → Fin 256 → EReal)
    (hv : IsValues (fun e (x : Fin 1792) => vt (ix4 0 0 e x)) W) (r : Fin 256) (h0 : ∀ k, p0 (ix2 k r) = P 0 k) (h1 : ∀ k, p1 (ix2 k r) = P 1 k) (h2 : ∀ k, p2 (ix2 k r) = P 2 k) (h3 : ∀ k, p3 (ix2 k r) = P 3 k) (h4 : ∀ k, p4 (ix2 k r) = P 4 k) (h5 : ∀ k, p5 (ix2 k r) = P 5 k) (h6 : ∀ k, p6 (ix2 k r) = P 6 k)
    (hz : ∀ (n : Fin 8) (k : Fin 256), 7 ≤ n.val → P n k = 0) (e : Fin 144) :
    acc7 vt p0 p1 p2 p3 p4 p5 p6 (ix2 e r) = ∑ p : Fin 8 × Fin 256, W e p.1 p.2 * P p.1 p.2 := by
  pointwise [acc7]
  refine sum_keys 7 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2, h3, h4, h5, h6]
  split_ifs
  all_goals exact key_congr P (by (try simp); omega) (by (try simp); omega)

/-- The weighted sums of the values, eight key blocks. -/
theorem acc8_value (vt : B S1x1x144x2048) (p0 p1 p2 p3 p4 p5 p6 p7 : B S256x256) (W : Fin 144 → Fin 8 → Fin 256 → EReal)
    (P : Fin 8 → Fin 256 → EReal)
    (hv : IsValues (fun e (x : Fin 2048) => vt (ix4 0 0 e x)) W) (r : Fin 256) (h0 : ∀ k, p0 (ix2 k r) = P 0 k) (h1 : ∀ k, p1 (ix2 k r) = P 1 k) (h2 : ∀ k, p2 (ix2 k r) = P 2 k) (h3 : ∀ k, p3 (ix2 k r) = P 3 k) (h4 : ∀ k, p4 (ix2 k r) = P 4 k) (h5 : ∀ k, p5 (ix2 k r) = P 5 k) (h6 : ∀ k, p6 (ix2 k r) = P 6 k) (h7 : ∀ k, p7 (ix2 k r) = P 7 k)
    (hz : ∀ (n : Fin 8) (k : Fin 256), 8 ≤ n.val → P n k = 0) (e : Fin 144) :
    acc8 vt p0 p1 p2 p3 p4 p5 p6 p7 (ix2 e r) = ∑ p : Fin 8 × Fin 256, W e p.1 p.2 * P p.1 p.2 := by
  pointwise [acc8]
  refine sum_keys 8 rfl (by decide) _ (fun n k => W e n k * P n k) (fun x n k hx => ?_)
    fun n k hn => by rw [hz n k hn, mul_zero]
  have hx8 := x.isLt
  have hk8 := k.isLt
  rw [← hv e x n k hx]
  refine congrArg (vt (ix4 0 0 e x) * ·) ?_
  simp only [h0, h1, h2, h3, h4, h5, h6, h7]
  split_ifs
  all_goals exact key_congr P (by (try simp); omega) (by (try simp); omega)

/-- A weight from its score's cell and the maximum. -/
theorem weight_cell (Q K g) (j : Nat) (m : V S1x256) (s : V S256x256) (n : Fin 8) (k r : Fin 256) (x : ℝ)
    (hm : m (ix2 0 r) = (x : EReal)) (hs : ∀ k, s (ix2 k r) = cell Q K g j r.val n k) :
    weights m (kept s) (ix2 k r) = Ideal.exp2 (cell Q K g j r.val n k - (x : EReal)) := by
  rw [weights_value, hs, hm]

/-- A later block's keys have weight zero. -/
theorem weight_later (Q K g) (j r : Nat) (x : ℝ) (n : Fin 8) (k : Fin 256) (hn : j + 1 ≤ n.val) :
    Ideal.exp2 (cell Q K g j r n k - (x : EReal)) = 0 := by
  rw [cell_later Q K g j r n (by omega), EReal.bot_sub, Ideal.exp2_bot]

variable (Q : Fin 256 → Fin 128 → ℝ) (K : Fin 8 → Fin 256 → Fin 128 → ℝ) (M : Fin 8 → Fin 128 → ℝ)
  (W : Fin 144 → Fin 8 → Fin 256 → EReal)

/-- The unit with one key block. -/
theorem unit1_value (q : B S1x1x256x128) (k : B S1x1x256x128) (vt : B S1x1x144x256) (z : B S1x1x256x128)
    (hq : IsRows q Q) (hk : IsKeys (fun (x : Fin 256) d => k (ix4 0 0 x d)) K)
    (hv : IsValues (fun e (x : Fin 256) => vt (ix4 0 0 e x)) W) (h1 : ∀ n k, W 128 n k = 1) (r : Fin 256) (d : Fin 128) :
    unit1 q k vt z (ix3 0 r d) = attn (Q r) K (gate (Q r) M) 0 r.val (W ⟨d.val, by have := d.isLt; omega⟩)
      * silu (z (ix4 0 0 r d)) := by
  have c0 : ∀ a, sc1_0 q k (ix2 a r) = cell (Q r) K (gate (Q r) M) 0 r.val 0 a := fun a => by
    rw [sc1_0, msk_value, cell_own _ _ _ _ _ _ (by rfl)]
    refine if_congr Iff.rfl ?_ rfl
    pointwise [all1, rows]
    exact key_dot (fun (x : Fin 256) d => k (ix4 0 0 x d)) K Q q hk hq _ 0 a r (by simp)
  obtain ⟨x, hx⟩ := rowmax_real _ r (colmax_low _ r (low_of_cells _ _ _ _ _ _ r c0))
    (colmax_up _ r (up_of_cells _ _ _ _ _ (by rfl) _ r c0))
  refine gated_value _ _ _ 0 (by decide) W h1 _ z r x (fun e => ?_) d
  exact acc1_value vt _ W _ hv r
    (fun k => weight_cell _ _ _ _ _ _ _ k r x hx c0)
    (fun n k hn => weight_later _ _ _ _ _ x n k hn) e

/-- The unit with two key blocks. -/
theorem unit2_value (q : B S1x1x256x128) (k : B S1x1x512x128) (vt : B S1x1x144x512) (z : B S1x1x256x128)
    (hq : IsRows q Q) (hk : IsKeys (fun (x : Fin 512) d => k (ix4 0 0 x d)) K)
    (hv : IsValues (fun e (x : Fin 512) => vt (ix4 0 0 e x)) W) (h1 : ∀ n k, W 128 n k = 1) (r : Fin 256) (d : Fin 128) :
    unit2 q k vt z (ix3 0 r d) = attn (Q r) K (gate (Q r) M) 1 r.val (W ⟨d.val, by have := d.isLt; omega⟩)
      * silu (z (ix4 0 0 r d)) := by
  have c0 : ∀ a, sc2_0 q k (ix2 a r) = cell (Q r) K (gate (Q r) M) 1 r.val 0 a := fun a => by
    rw [sc2_0, cell_few _ _ _ _ _ (by decide) _ (by decide)]
    pointwise [all2, rows]
    exact key_dot (fun (x : Fin 512) d => k (ix4 0 0 x d)) K Q q hk hq _ 0 a r (by simp)
  have c1 : ∀ a, sc2_1 q k (ix2 a r) = cell (Q r) K (gate (Q r) M) 1 r.val 1 a := fun a => by
    rw [sc2_1, msk_value, cell_own _ _ _ _ _ _ (by rfl)]
    refine if_congr Iff.rfl ?_ rfl
    pointwise [all2, rows]
    exact key_dot (fun (x : Fin 512) d => k (ix4 0 0 x d)) K Q q hk hq _ 1 a r (by simp)
  obtain ⟨x, hx⟩ := rowmax_real _ r (max_low _ _ r (colmax_low _ r (low_of_cells _ _ _ _ _ _ r c0))
    (colmax_low _ r (low_of_cells _ _ _ _ _ _ r c1)))
    (max_up _ _ r (colmax_up _ r (up_of_cells _ _ _ _ _ (by rfl) _ r c1)))
  refine gated_value _ _ _ 1 (by decide) W h1 _ z r x (fun e => ?_) d
  exact acc2_value vt _ _ W _ hv r
    (fun k => weight_cell _ _ _ _ _ _ _ k r x hx c0) (fun k => weight_cell _ _ _ _ _ _ _ k r x hx c1)
    (fun n k hn => weight_later _ _ _ _ _ x n k hn) e

/-- The unit with three key blocks. -/
theorem unit3_value (q : B S1x1x256x128) (k : B S1x1x768x128) (vt : B S1x1x144x768) (z : B S1x1x256x128)
    (hq : IsRows q Q) (hk : IsKeys (fun (x : Fin 768) d => k (ix4 0 0 x d)) K)
    (hv : IsValues (fun e (x : Fin 768) => vt (ix4 0 0 e x)) W) (h1 : ∀ n k, W 128 n k = 1) (r : Fin 256) (d : Fin 128) :
    unit3 q k vt z (ix3 0 r d) = attn (Q r) K (gate (Q r) M) 2 r.val (W ⟨d.val, by have := d.isLt; omega⟩)
      * silu (z (ix4 0 0 r d)) := by
  have c0 : ∀ a, sc3_0 q k (ix2 a r) = cell (Q r) K (gate (Q r) M) 2 r.val 0 a := fun a => by
    rw [sc3_0, cell_few _ _ _ _ _ (by decide) _ (by decide)]
    pointwise [all3, rows]
    exact key_dot (fun (x : Fin 768) d => k (ix4 0 0 x d)) K Q q hk hq _ 0 a r (by simp)
  have c1 : ∀ a, sc3_1 q k (ix2 a r) = cell (Q r) K (gate (Q r) M) 2 r.val 1 a := fun a => by
    rw [sc3_1, cell_few _ _ _ _ _ (by decide) _ (by decide)]
    pointwise [all3, rows]
    exact key_dot (fun (x : Fin 768) d => k (ix4 0 0 x d)) K Q q hk hq _ 1 a r (by simp)
  have c2 : ∀ a, sc3_2 q k (ix2 a r) = cell (Q r) K (gate (Q r) M) 2 r.val 2 a := fun a => by
    rw [sc3_2, msk_value, cell_own _ _ _ _ _ _ (by rfl)]
    refine if_congr Iff.rfl ?_ rfl
    pointwise [all3, rows]
    exact key_dot (fun (x : Fin 768) d => k (ix4 0 0 x d)) K Q q hk hq _ 2 a r (by simp)
  obtain ⟨x, hx⟩ := rowmax_real _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (max_up _ _ r (colmax_up _ r (up_of_cells _ _ _ _ _ (by rfl) _ r c2)))
  refine gated_value _ _ _ 2 (by decide) W h1 _ z r x (fun e => ?_) d
  exact acc3_value vt _ _ _ W _ hv r
    (fun k => weight_cell _ _ _ _ _ _ _ k r x hx c0) (fun k => weight_cell _ _ _ _ _ _ _ k r x hx c1) (fun k => weight_cell _ _ _ _ _ _ _ k r x hx c2)
    (fun n k hn => weight_later _ _ _ _ _ x n k hn) e

/-- The unit with four key blocks. -/
theorem unit4_value (q : B S1x1x256x128) (k : B S1x1x1024x128) (vt : B S1x1x144x1024) (z : B S1x1x256x128)
    (hq : IsRows q Q) (hk : IsKeys (fun (x : Fin 1024) d => k (ix4 0 0 x d)) K)
    (hv : IsValues (fun e (x : Fin 1024) => vt (ix4 0 0 e x)) W) (h1 : ∀ n k, W 128 n k = 1) (r : Fin 256) (d : Fin 128) :
    unit4 q k vt z (ix3 0 r d) = attn (Q r) K (gate (Q r) M) 3 r.val (W ⟨d.val, by have := d.isLt; omega⟩)
      * silu (z (ix4 0 0 r d)) := by
  have c0 : ∀ a, sc4_0 q k (ix2 a r) = cell (Q r) K (gate (Q r) M) 3 r.val 0 a := fun a => by
    rw [sc4_0, cell_few _ _ _ _ _ (by decide) _ (by decide)]
    pointwise [all4, rows]
    exact key_dot (fun (x : Fin 1024) d => k (ix4 0 0 x d)) K Q q hk hq _ 0 a r (by simp)
  have c1 : ∀ a, sc4_1 q k (ix2 a r) = cell (Q r) K (gate (Q r) M) 3 r.val 1 a := fun a => by
    rw [sc4_1, cell_few _ _ _ _ _ (by decide) _ (by decide)]
    pointwise [all4, rows]
    exact key_dot (fun (x : Fin 1024) d => k (ix4 0 0 x d)) K Q q hk hq _ 1 a r (by simp)
  have c2 : ∀ a, sc4_2 q k (ix2 a r) = cell (Q r) K (gate (Q r) M) 3 r.val 2 a := fun a => by
    rw [sc4_2, cell_few _ _ _ _ _ (by decide) _ (by decide)]
    pointwise [all4, rows]
    exact key_dot (fun (x : Fin 1024) d => k (ix4 0 0 x d)) K Q q hk hq _ 2 a r (by simp)
  have c3 : ∀ a, sc4_3 q k (ix2 a r) = cell (Q r) K (gate (Q r) M) 3 r.val 3 a := fun a => by
    rw [sc4_3, msk_value, cell_own _ _ _ _ _ _ (by rfl)]
    refine if_congr Iff.rfl ?_ rfl
    pointwise [all4, rows]
    exact key_dot (fun (x : Fin 1024) d => k (ix4 0 0 x d)) K Q q hk hq _ 3 a r (by simp)
  obtain ⟨x, hx⟩ := rowmax_real _ r (max_low _ _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (colmax_low _ r (low_of_cells _ _ _ _ _ _ r c3)))
    (max_up _ _ r (colmax_up _ r (up_of_cells _ _ _ _ _ (by rfl) _ r c3)))
  refine gated_value _ _ _ 3 (by decide) W h1 _ z r x (fun e => ?_) d
  exact acc4_value vt _ _ _ _ W _ hv r
    (fun k => weight_cell _ _ _ _ _ _ _ k r x hx c0) (fun k => weight_cell _ _ _ _ _ _ _ k r x hx c1) (fun k => weight_cell _ _ _ _ _ _ _ k r x hx c2) (fun k => weight_cell _ _ _ _ _ _ _ k r x hx c3)
    (fun n k hn => weight_later _ _ _ _ _ x n k hn) e

theorem gates5_value (q : B S1x1x256x128) (k : B S1x1x1280x128) (km : V S1x8x1x128)
    (hq : IsRows q Q) (hm : IsMeans km M) (n : Fin 8) (hn : n.val < 4) (r : Fin 256) :
    gates5 q k km (ix2 n r) = gate (Q r) M n := by
  refine gates_value (gates5 q k km) _ _ 4 (by decide) (gate (Q r) M) r n hn ?_
  pointwise [all5, rows, means]
  simp only [show n.val < 16 by omega, show 8 + n.val < 16 by omega, dite_true]
  exact gate_dot km M Q q hm hq n r

theorem bias5_value (q : B S1x1x256x128) (k : B S1x1x1280x128) (km : V S1x8x1x128)
    (hq : IsRows q Q) (hm : IsMeans km M) (n : Fin 8) (hn : n.val < 4) (r : Fin 256) :
    bias5 q k km (ix2 n r) = if rank (gate (Q r) M) 4 n < 3 then 0 else ⊥ := by
  have hg : ∀ n : Fin 8, n.val < 4 → gates5 q k km (ix2 n r) = gate (Q r) M n := fun n hn =>
    gates5_value Q M q k km hq hm n hn r
  exact biasOf_value _ n r _ (rank_le _ 4 (by decide) n)
    (rankStep_value _ _ 3 _ (by decide) _ n r (hg 3 (by decide)) (hg n hn)
      (rankStep_value _ _ 2 _ (by decide) _ n r (hg 2 (by decide)) (hg n hn)
      (rankStep_value _ _ 1 _ (by decide) _ n r (hg 1 (by decide)) (hg n hn)
      (rankStep_value _ _ 0 _ (by decide) _ n r (hg 0 (by decide)) (hg n hn)
      (by rw [rank_zero]; rfl)))))

/-- The unit with five key blocks. -/
theorem unit5_value (q : B S1x1x256x128) (k : B S1x1x1280x128) (km : V S1x8x1x128) (vt : B S1x1x144x1280) (z : B S1x1x256x128)
    (hq : IsRows q Q) (hk : IsKeys (fun (x : Fin 1280) d => k (ix4 0 0 x d)) K) (hm : IsMeans km M)
    (hv : IsValues (fun e (x : Fin 1280) => vt (ix4 0 0 e x)) W) (h1 : ∀ n k, W 128 n k = 1) (r : Fin 256) (d : Fin 128) :
    unit5 q k km vt z (ix3 0 r d) = attn (Q r) K (gate (Q r) M) 4 r.val (W ⟨d.val, by have := d.isLt; omega⟩)
      * silu (z (ix4 0 0 r d)) := by
  have c0 : ∀ a, sc5_0 q k km (ix2 a r) = cell (Q r) K (gate (Q r) M) 4 r.val 0 a := fun a => by
    rw [sc5_0, biased_value _ 0 _ (by decide), cell_past _ _ _ _ _ _ (by decide)]
    refine congrArg₂ (· + ·) ?_ (bias5_value Q M q k km hq hm 0 (by decide) r)
    pointwise [all5, rows]
    try simp only [show ¬ 16 + a.val < 16 by omega, dite_false]
    exact key_dot (fun (x : Fin 1280) d => k (ix4 0 0 x d)) K Q q hk hq _ 0 a r (by have := a.isLt; simp <;> omega)
  have c1 : ∀ a, sc5_1 q k km (ix2 a r) = cell (Q r) K (gate (Q r) M) 4 r.val 1 a := fun a => by
    rw [sc5_1, biased_value _ 1 _ (by decide), cell_past _ _ _ _ _ _ (by decide)]
    refine congrArg₂ (· + ·) ?_ (bias5_value Q M q k km hq hm 1 (by decide) r)
    pointwise [all5, rows]
    try simp only [show ¬ 272 + a.val < 16 by omega, dite_false]
    exact key_dot (fun (x : Fin 1280) d => k (ix4 0 0 x d)) K Q q hk hq _ 1 a r (by have := a.isLt; simp <;> omega)
  have c2 : ∀ a, sc5_2 q k km (ix2 a r) = cell (Q r) K (gate (Q r) M) 4 r.val 2 a := fun a => by
    rw [sc5_2, biased_value _ 2 _ (by decide), cell_past _ _ _ _ _ _ (by decide)]
    refine congrArg₂ (· + ·) ?_ (bias5_value Q M q k km hq hm 2 (by decide) r)
    pointwise [all5, rows]
    try simp only [show ¬ 528 + a.val < 16 by omega, dite_false]
    exact key_dot (fun (x : Fin 1280) d => k (ix4 0 0 x d)) K Q q hk hq _ 2 a r (by have := a.isLt; simp <;> omega)
  have c3 : ∀ a, sc5_3 q k km (ix2 a r) = cell (Q r) K (gate (Q r) M) 4 r.val 3 a := fun a => by
    rw [sc5_3, biased_value _ 3 _ (by decide), cell_past _ _ _ _ _ _ (by decide)]
    refine congrArg₂ (· + ·) ?_ (bias5_value Q M q k km hq hm 3 (by decide) r)
    pointwise [all5, rows]
    try simp only [show ¬ 784 + a.val < 16 by omega, dite_false]
    exact key_dot (fun (x : Fin 1280) d => k (ix4 0 0 x d)) K Q q hk hq _ 3 a r (by have := a.isLt; simp <;> omega)
  have c4 : ∀ a, sc5_4 q k km (ix2 a r) = cell (Q r) K (gate (Q r) M) 4 r.val 4 a := fun a => by
    rw [sc5_4, msk_value, cell_own _ _ _ _ _ _ (by rfl)]
    refine if_congr Iff.rfl ?_ rfl
    pointwise [all5, rows]
    try simp only [show ¬ 1040 + a.val < 16 by omega, dite_false]
    exact key_dot (fun (x : Fin 1280) d => k (ix4 0 0 x d)) K Q q hk hq _ 4 a r (by have := a.isLt; simp <;> omega)
  obtain ⟨x, hx⟩ := rowmax_real _ r (max_low _ _ r (max_low _ _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (colmax_low _ r (low_of_cells _ _ _ _ _ _ r c3)))
    (colmax_low _ r (low_of_cells _ _ _ _ _ _ r c4)))
    (max_up _ _ r (colmax_up _ r (up_of_cells _ _ _ _ _ (by rfl) _ r c4)))
  refine gated_value _ _ _ 4 (by decide) W h1 _ z r x (fun e => ?_) d
  exact acc5_value vt _ _ _ _ _ W _ hv r
    (fun k => weight_cell _ _ _ _ _ _ _ k r x hx c0) (fun k => weight_cell _ _ _ _ _ _ _ k r x hx c1) (fun k => weight_cell _ _ _ _ _ _ _ k r x hx c2) (fun k => weight_cell _ _ _ _ _ _ _ k r x hx c3) (fun k => weight_cell _ _ _ _ _ _ _ k r x hx c4)
    (fun n k hn => weight_later _ _ _ _ _ x n k hn) e

theorem gates6_value (q : B S1x1x256x128) (k : B S1x1x1536x128) (km : V S1x8x1x128)
    (hq : IsRows q Q) (hm : IsMeans km M) (n : Fin 8) (hn : n.val < 5) (r : Fin 256) :
    gates6 q k km (ix2 n r) = gate (Q r) M n := by
  refine gates_value (gates6 q k km) _ _ 5 (by decide) (gate (Q r) M) r n hn ?_
  pointwise [all6, rows, means]
  simp only [show n.val < 16 by omega, show 8 + n.val < 16 by omega, dite_true]
  exact gate_dot km M Q q hm hq n r

theorem bias6_value (q : B S1x1x256x128) (k : B S1x1x1536x128) (km : V S1x8x1x128)
    (hq : IsRows q Q) (hm : IsMeans km M) (n : Fin 8) (hn : n.val < 5) (r : Fin 256) :
    bias6 q k km (ix2 n r) = if rank (gate (Q r) M) 5 n < 3 then 0 else ⊥ := by
  have hg : ∀ n : Fin 8, n.val < 5 → gates6 q k km (ix2 n r) = gate (Q r) M n := fun n hn =>
    gates6_value Q M q k km hq hm n hn r
  exact biasOf_value _ n r _ (rank_le _ 5 (by decide) n)
    (rankStep_value _ _ 4 _ (by decide) _ n r (hg 4 (by decide)) (hg n hn)
      (rankStep_value _ _ 3 _ (by decide) _ n r (hg 3 (by decide)) (hg n hn)
      (rankStep_value _ _ 2 _ (by decide) _ n r (hg 2 (by decide)) (hg n hn)
      (rankStep_value _ _ 1 _ (by decide) _ n r (hg 1 (by decide)) (hg n hn)
      (rankStep_value _ _ 0 _ (by decide) _ n r (hg 0 (by decide)) (hg n hn)
      (by rw [rank_zero]; rfl))))))

/-- The unit with six key blocks. -/
theorem unit6_value (q : B S1x1x256x128) (k : B S1x1x1536x128) (km : V S1x8x1x128) (vt : B S1x1x144x1536) (z : B S1x1x256x128)
    (hq : IsRows q Q) (hk : IsKeys (fun (x : Fin 1536) d => k (ix4 0 0 x d)) K) (hm : IsMeans km M)
    (hv : IsValues (fun e (x : Fin 1536) => vt (ix4 0 0 e x)) W) (h1 : ∀ n k, W 128 n k = 1) (r : Fin 256) (d : Fin 128) :
    unit6 q k km vt z (ix3 0 r d) = attn (Q r) K (gate (Q r) M) 5 r.val (W ⟨d.val, by have := d.isLt; omega⟩)
      * silu (z (ix4 0 0 r d)) := by
  have c0 : ∀ a, sc6_0 q k km (ix2 a r) = cell (Q r) K (gate (Q r) M) 5 r.val 0 a := fun a => by
    rw [sc6_0, biased_value _ 0 _ (by decide), cell_past _ _ _ _ _ _ (by decide)]
    refine congrArg₂ (· + ·) ?_ (bias6_value Q M q k km hq hm 0 (by decide) r)
    pointwise [all6, rows]
    try simp only [show ¬ 16 + a.val < 16 by omega, dite_false]
    exact key_dot (fun (x : Fin 1536) d => k (ix4 0 0 x d)) K Q q hk hq _ 0 a r (by have := a.isLt; simp <;> omega)
  have c1 : ∀ a, sc6_1 q k km (ix2 a r) = cell (Q r) K (gate (Q r) M) 5 r.val 1 a := fun a => by
    rw [sc6_1, biased_value _ 1 _ (by decide), cell_past _ _ _ _ _ _ (by decide)]
    refine congrArg₂ (· + ·) ?_ (bias6_value Q M q k km hq hm 1 (by decide) r)
    pointwise [all6, rows]
    try simp only [show ¬ 272 + a.val < 16 by omega, dite_false]
    exact key_dot (fun (x : Fin 1536) d => k (ix4 0 0 x d)) K Q q hk hq _ 1 a r (by have := a.isLt; simp <;> omega)
  have c2 : ∀ a, sc6_2 q k km (ix2 a r) = cell (Q r) K (gate (Q r) M) 5 r.val 2 a := fun a => by
    rw [sc6_2, biased_value _ 2 _ (by decide), cell_past _ _ _ _ _ _ (by decide)]
    refine congrArg₂ (· + ·) ?_ (bias6_value Q M q k km hq hm 2 (by decide) r)
    pointwise [all6, rows]
    try simp only [show ¬ 528 + a.val < 16 by omega, dite_false]
    exact key_dot (fun (x : Fin 1536) d => k (ix4 0 0 x d)) K Q q hk hq _ 2 a r (by have := a.isLt; simp <;> omega)
  have c3 : ∀ a, sc6_3 q k km (ix2 a r) = cell (Q r) K (gate (Q r) M) 5 r.val 3 a := fun a => by
    rw [sc6_3, biased_value _ 3 _ (by decide), cell_past _ _ _ _ _ _ (by decide)]
    refine congrArg₂ (· + ·) ?_ (bias6_value Q M q k km hq hm 3 (by decide) r)
    pointwise [all6, rows]
    try simp only [show ¬ 784 + a.val < 16 by omega, dite_false]
    exact key_dot (fun (x : Fin 1536) d => k (ix4 0 0 x d)) K Q q hk hq _ 3 a r (by have := a.isLt; simp <;> omega)
  have c4 : ∀ a, sc6_4 q k km (ix2 a r) = cell (Q r) K (gate (Q r) M) 5 r.val 4 a := fun a => by
    rw [sc6_4, biased_value _ 4 _ (by decide), cell_past _ _ _ _ _ _ (by decide)]
    refine congrArg₂ (· + ·) ?_ (bias6_value Q M q k km hq hm 4 (by decide) r)
    pointwise [all6, rows]
    try simp only [show ¬ 1040 + a.val < 16 by omega, dite_false]
    exact key_dot (fun (x : Fin 1536) d => k (ix4 0 0 x d)) K Q q hk hq _ 4 a r (by have := a.isLt; simp <;> omega)
  have c5 : ∀ a, sc6_5 q k km (ix2 a r) = cell (Q r) K (gate (Q r) M) 5 r.val 5 a := fun a => by
    rw [sc6_5, msk_value, cell_own _ _ _ _ _ _ (by rfl)]
    refine if_congr Iff.rfl ?_ rfl
    pointwise [all6, rows]
    try simp only [show ¬ 1296 + a.val < 16 by omega, dite_false]
    exact key_dot (fun (x : Fin 1536) d => k (ix4 0 0 x d)) K Q q hk hq _ 5 a r (by have := a.isLt; simp <;> omega)
  obtain ⟨x, hx⟩ := rowmax_real _ r (max_low _ _ r (max_low _ _ r (max_low _ _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (colmax_low _ r (low_of_cells _ _ _ _ _ _ r c3)))
    (colmax_low _ r (low_of_cells _ _ _ _ _ _ r c4)))
    (colmax_low _ r (low_of_cells _ _ _ _ _ _ r c5)))
    (max_up _ _ r (colmax_up _ r (up_of_cells _ _ _ _ _ (by rfl) _ r c5)))
  refine gated_value _ _ _ 5 (by decide) W h1 _ z r x (fun e => ?_) d
  exact acc6_value vt _ _ _ _ _ _ W _ hv r
    (fun k => weight_cell _ _ _ _ _ _ _ k r x hx c0) (fun k => weight_cell _ _ _ _ _ _ _ k r x hx c1) (fun k => weight_cell _ _ _ _ _ _ _ k r x hx c2) (fun k => weight_cell _ _ _ _ _ _ _ k r x hx c3) (fun k => weight_cell _ _ _ _ _ _ _ k r x hx c4) (fun k => weight_cell _ _ _ _ _ _ _ k r x hx c5)
    (fun n k hn => weight_later _ _ _ _ _ x n k hn) e

theorem gates7_value (q : B S1x1x256x128) (k : B S1x1x1792x128) (km : V S1x8x1x128)
    (hq : IsRows q Q) (hm : IsMeans km M) (n : Fin 8) (hn : n.val < 6) (r : Fin 256) :
    gates7 q k km (ix2 n r) = gate (Q r) M n := by
  refine gates_value (gates7 q k km) _ _ 6 (by decide) (gate (Q r) M) r n hn ?_
  pointwise [all7, rows, means]
  simp only [show n.val < 16 by omega, show 8 + n.val < 16 by omega, dite_true]
  exact gate_dot km M Q q hm hq n r

theorem bias7_value (q : B S1x1x256x128) (k : B S1x1x1792x128) (km : V S1x8x1x128)
    (hq : IsRows q Q) (hm : IsMeans km M) (n : Fin 8) (hn : n.val < 6) (r : Fin 256) :
    bias7 q k km (ix2 n r) = if rank (gate (Q r) M) 6 n < 3 then 0 else ⊥ := by
  have hg : ∀ n : Fin 8, n.val < 6 → gates7 q k km (ix2 n r) = gate (Q r) M n := fun n hn =>
    gates7_value Q M q k km hq hm n hn r
  exact biasOf_value _ n r _ (rank_le _ 6 (by decide) n)
    (rankStep_value _ _ 5 _ (by decide) _ n r (hg 5 (by decide)) (hg n hn)
      (rankStep_value _ _ 4 _ (by decide) _ n r (hg 4 (by decide)) (hg n hn)
      (rankStep_value _ _ 3 _ (by decide) _ n r (hg 3 (by decide)) (hg n hn)
      (rankStep_value _ _ 2 _ (by decide) _ n r (hg 2 (by decide)) (hg n hn)
      (rankStep_value _ _ 1 _ (by decide) _ n r (hg 1 (by decide)) (hg n hn)
      (rankStep_value _ _ 0 _ (by decide) _ n r (hg 0 (by decide)) (hg n hn)
      (by rw [rank_zero]; rfl)))))))

/-- The unit with seven key blocks. -/
theorem unit7_value (q : B S1x1x256x128) (k : B S1x1x1792x128) (km : V S1x8x1x128) (vt : B S1x1x144x1792) (z : B S1x1x256x128)
    (hq : IsRows q Q) (hk : IsKeys (fun (x : Fin 1792) d => k (ix4 0 0 x d)) K) (hm : IsMeans km M)
    (hv : IsValues (fun e (x : Fin 1792) => vt (ix4 0 0 e x)) W) (h1 : ∀ n k, W 128 n k = 1) (r : Fin 256) (d : Fin 128) :
    unit7 q k km vt z (ix3 0 r d) = attn (Q r) K (gate (Q r) M) 6 r.val (W ⟨d.val, by have := d.isLt; omega⟩)
      * silu (z (ix4 0 0 r d)) := by
  have c0 : ∀ a, sc7_0 q k km (ix2 a r) = cell (Q r) K (gate (Q r) M) 6 r.val 0 a := fun a => by
    rw [sc7_0, biased_value _ 0 _ (by decide), cell_past _ _ _ _ _ _ (by decide)]
    refine congrArg₂ (· + ·) ?_ (bias7_value Q M q k km hq hm 0 (by decide) r)
    pointwise [all7, rows]
    try simp only [show ¬ 16 + a.val < 16 by omega, dite_false]
    exact key_dot (fun (x : Fin 1792) d => k (ix4 0 0 x d)) K Q q hk hq _ 0 a r (by have := a.isLt; simp <;> omega)
  have c1 : ∀ a, sc7_1 q k km (ix2 a r) = cell (Q r) K (gate (Q r) M) 6 r.val 1 a := fun a => by
    rw [sc7_1, biased_value _ 1 _ (by decide), cell_past _ _ _ _ _ _ (by decide)]
    refine congrArg₂ (· + ·) ?_ (bias7_value Q M q k km hq hm 1 (by decide) r)
    pointwise [all7, rows]
    try simp only [show ¬ 272 + a.val < 16 by omega, dite_false]
    exact key_dot (fun (x : Fin 1792) d => k (ix4 0 0 x d)) K Q q hk hq _ 1 a r (by have := a.isLt; simp <;> omega)
  have c2 : ∀ a, sc7_2 q k km (ix2 a r) = cell (Q r) K (gate (Q r) M) 6 r.val 2 a := fun a => by
    rw [sc7_2, biased_value _ 2 _ (by decide), cell_past _ _ _ _ _ _ (by decide)]
    refine congrArg₂ (· + ·) ?_ (bias7_value Q M q k km hq hm 2 (by decide) r)
    pointwise [all7, rows]
    try simp only [show ¬ 528 + a.val < 16 by omega, dite_false]
    exact key_dot (fun (x : Fin 1792) d => k (ix4 0 0 x d)) K Q q hk hq _ 2 a r (by have := a.isLt; simp <;> omega)
  have c3 : ∀ a, sc7_3 q k km (ix2 a r) = cell (Q r) K (gate (Q r) M) 6 r.val 3 a := fun a => by
    rw [sc7_3, biased_value _ 3 _ (by decide), cell_past _ _ _ _ _ _ (by decide)]
    refine congrArg₂ (· + ·) ?_ (bias7_value Q M q k km hq hm 3 (by decide) r)
    pointwise [all7, rows]
    try simp only [show ¬ 784 + a.val < 16 by omega, dite_false]
    exact key_dot (fun (x : Fin 1792) d => k (ix4 0 0 x d)) K Q q hk hq _ 3 a r (by have := a.isLt; simp <;> omega)
  have c4 : ∀ a, sc7_4 q k km (ix2 a r) = cell (Q r) K (gate (Q r) M) 6 r.val 4 a := fun a => by
    rw [sc7_4, biased_value _ 4 _ (by decide), cell_past _ _ _ _ _ _ (by decide)]
    refine congrArg₂ (· + ·) ?_ (bias7_value Q M q k km hq hm 4 (by decide) r)
    pointwise [all7, rows]
    try simp only [show ¬ 1040 + a.val < 16 by omega, dite_false]
    exact key_dot (fun (x : Fin 1792) d => k (ix4 0 0 x d)) K Q q hk hq _ 4 a r (by have := a.isLt; simp <;> omega)
  have c5 : ∀ a, sc7_5 q k km (ix2 a r) = cell (Q r) K (gate (Q r) M) 6 r.val 5 a := fun a => by
    rw [sc7_5, biased_value _ 5 _ (by decide), cell_past _ _ _ _ _ _ (by decide)]
    refine congrArg₂ (· + ·) ?_ (bias7_value Q M q k km hq hm 5 (by decide) r)
    pointwise [all7, rows]
    try simp only [show ¬ 1296 + a.val < 16 by omega, dite_false]
    exact key_dot (fun (x : Fin 1792) d => k (ix4 0 0 x d)) K Q q hk hq _ 5 a r (by have := a.isLt; simp <;> omega)
  have c6 : ∀ a, sc7_6 q k km (ix2 a r) = cell (Q r) K (gate (Q r) M) 6 r.val 6 a := fun a => by
    rw [sc7_6, msk_value, cell_own _ _ _ _ _ _ (by rfl)]
    refine if_congr Iff.rfl ?_ rfl
    pointwise [all7, rows]
    try simp only [show ¬ 1552 + a.val < 16 by omega, dite_false]
    exact key_dot (fun (x : Fin 1792) d => k (ix4 0 0 x d)) K Q q hk hq _ 6 a r (by have := a.isLt; simp <;> omega)
  obtain ⟨x, hx⟩ := rowmax_real _ r (max_low _ _ r (max_low _ _ r (max_low _ _ r (max_low _ _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (colmax_low _ r (low_of_cells _ _ _ _ _ _ r c3)))
    (colmax_low _ r (low_of_cells _ _ _ _ _ _ r c4)))
    (colmax_low _ r (low_of_cells _ _ _ _ _ _ r c5)))
    (colmax_low _ r (low_of_cells _ _ _ _ _ _ r c6)))
    (max_up _ _ r (colmax_up _ r (up_of_cells _ _ _ _ _ (by rfl) _ r c6)))
  refine gated_value _ _ _ 6 (by decide) W h1 _ z r x (fun e => ?_) d
  exact acc7_value vt _ _ _ _ _ _ _ W _ hv r
    (fun k => weight_cell _ _ _ _ _ _ _ k r x hx c0) (fun k => weight_cell _ _ _ _ _ _ _ k r x hx c1) (fun k => weight_cell _ _ _ _ _ _ _ k r x hx c2) (fun k => weight_cell _ _ _ _ _ _ _ k r x hx c3) (fun k => weight_cell _ _ _ _ _ _ _ k r x hx c4) (fun k => weight_cell _ _ _ _ _ _ _ k r x hx c5) (fun k => weight_cell _ _ _ _ _ _ _ k r x hx c6)
    (fun n k hn => weight_later _ _ _ _ _ x n k hn) e

theorem gates8_value (q : B S1x1x256x128) (k : B S1x1x2048x128) (km : V S1x8x1x128)
    (hq : IsRows q Q) (hm : IsMeans km M) (n : Fin 8) (hn : n.val < 7) (r : Fin 256) :
    gates8 q k km (ix2 n r) = gate (Q r) M n := by
  refine gates_value (gates8 q k km) _ _ 7 (by decide) (gate (Q r) M) r n hn ?_
  pointwise [all8, rows, means]
  simp only [show n.val < 16 by omega, show 8 + n.val < 16 by omega, dite_true]
  exact gate_dot km M Q q hm hq n r

theorem bias8_value (q : B S1x1x256x128) (k : B S1x1x2048x128) (km : V S1x8x1x128)
    (hq : IsRows q Q) (hm : IsMeans km M) (n : Fin 8) (hn : n.val < 7) (r : Fin 256) :
    bias8 q k km (ix2 n r) = if rank (gate (Q r) M) 7 n < 3 then 0 else ⊥ := by
  have hg : ∀ n : Fin 8, n.val < 7 → gates8 q k km (ix2 n r) = gate (Q r) M n := fun n hn =>
    gates8_value Q M q k km hq hm n hn r
  exact biasOf_value _ n r _ (rank_le _ 7 (by decide) n)
    (rankStep_value _ _ 6 _ (by decide) _ n r (hg 6 (by decide)) (hg n hn)
      (rankStep_value _ _ 5 _ (by decide) _ n r (hg 5 (by decide)) (hg n hn)
      (rankStep_value _ _ 4 _ (by decide) _ n r (hg 4 (by decide)) (hg n hn)
      (rankStep_value _ _ 3 _ (by decide) _ n r (hg 3 (by decide)) (hg n hn)
      (rankStep_value _ _ 2 _ (by decide) _ n r (hg 2 (by decide)) (hg n hn)
      (rankStep_value _ _ 1 _ (by decide) _ n r (hg 1 (by decide)) (hg n hn)
      (rankStep_value _ _ 0 _ (by decide) _ n r (hg 0 (by decide)) (hg n hn)
      (by rw [rank_zero]; rfl))))))))

/-- The unit with eight key blocks. -/
theorem unit8_value (q : B S1x1x256x128) (k : B S1x1x2048x128) (km : V S1x8x1x128) (vt : B S1x1x144x2048) (z : B S1x1x256x128)
    (hq : IsRows q Q) (hk : IsKeys (fun (x : Fin 2048) d => k (ix4 0 0 x d)) K) (hm : IsMeans km M)
    (hv : IsValues (fun e (x : Fin 2048) => vt (ix4 0 0 e x)) W) (h1 : ∀ n k, W 128 n k = 1) (r : Fin 256) (d : Fin 128) :
    unit8 q k km vt z (ix3 0 r d) = attn (Q r) K (gate (Q r) M) 7 r.val (W ⟨d.val, by have := d.isLt; omega⟩)
      * silu (z (ix4 0 0 r d)) := by
  have c0 : ∀ a, sc8_0 q k km (ix2 a r) = cell (Q r) K (gate (Q r) M) 7 r.val 0 a := fun a => by
    rw [sc8_0, biased_value _ 0 _ (by decide), cell_past _ _ _ _ _ _ (by decide)]
    refine congrArg₂ (· + ·) ?_ (bias8_value Q M q k km hq hm 0 (by decide) r)
    pointwise [all8, rows]
    try simp only [show ¬ 16 + a.val < 16 by omega, dite_false]
    exact key_dot (fun (x : Fin 2048) d => k (ix4 0 0 x d)) K Q q hk hq _ 0 a r (by have := a.isLt; simp <;> omega)
  have c1 : ∀ a, sc8_1 q k km (ix2 a r) = cell (Q r) K (gate (Q r) M) 7 r.val 1 a := fun a => by
    rw [sc8_1, biased_value _ 1 _ (by decide), cell_past _ _ _ _ _ _ (by decide)]
    refine congrArg₂ (· + ·) ?_ (bias8_value Q M q k km hq hm 1 (by decide) r)
    pointwise [all8, rows]
    try simp only [show ¬ 272 + a.val < 16 by omega, dite_false]
    exact key_dot (fun (x : Fin 2048) d => k (ix4 0 0 x d)) K Q q hk hq _ 1 a r (by have := a.isLt; simp <;> omega)
  have c2 : ∀ a, sc8_2 q k km (ix2 a r) = cell (Q r) K (gate (Q r) M) 7 r.val 2 a := fun a => by
    rw [sc8_2, biased_value _ 2 _ (by decide), cell_past _ _ _ _ _ _ (by decide)]
    refine congrArg₂ (· + ·) ?_ (bias8_value Q M q k km hq hm 2 (by decide) r)
    pointwise [all8, rows]
    try simp only [show ¬ 528 + a.val < 16 by omega, dite_false]
    exact key_dot (fun (x : Fin 2048) d => k (ix4 0 0 x d)) K Q q hk hq _ 2 a r (by have := a.isLt; simp <;> omega)
  have c3 : ∀ a, sc8_3 q k km (ix2 a r) = cell (Q r) K (gate (Q r) M) 7 r.val 3 a := fun a => by
    rw [sc8_3, biased_value _ 3 _ (by decide), cell_past _ _ _ _ _ _ (by decide)]
    refine congrArg₂ (· + ·) ?_ (bias8_value Q M q k km hq hm 3 (by decide) r)
    pointwise [all8, rows]
    try simp only [show ¬ 784 + a.val < 16 by omega, dite_false]
    exact key_dot (fun (x : Fin 2048) d => k (ix4 0 0 x d)) K Q q hk hq _ 3 a r (by have := a.isLt; simp <;> omega)
  have c4 : ∀ a, sc8_4 q k km (ix2 a r) = cell (Q r) K (gate (Q r) M) 7 r.val 4 a := fun a => by
    rw [sc8_4, biased_value _ 4 _ (by decide), cell_past _ _ _ _ _ _ (by decide)]
    refine congrArg₂ (· + ·) ?_ (bias8_value Q M q k km hq hm 4 (by decide) r)
    pointwise [all8, rows]
    try simp only [show ¬ 1040 + a.val < 16 by omega, dite_false]
    exact key_dot (fun (x : Fin 2048) d => k (ix4 0 0 x d)) K Q q hk hq _ 4 a r (by have := a.isLt; simp <;> omega)
  have c5 : ∀ a, sc8_5 q k km (ix2 a r) = cell (Q r) K (gate (Q r) M) 7 r.val 5 a := fun a => by
    rw [sc8_5, biased_value _ 5 _ (by decide), cell_past _ _ _ _ _ _ (by decide)]
    refine congrArg₂ (· + ·) ?_ (bias8_value Q M q k km hq hm 5 (by decide) r)
    pointwise [all8, rows]
    try simp only [show ¬ 1296 + a.val < 16 by omega, dite_false]
    exact key_dot (fun (x : Fin 2048) d => k (ix4 0 0 x d)) K Q q hk hq _ 5 a r (by have := a.isLt; simp <;> omega)
  have c6 : ∀ a, sc8_6 q k km (ix2 a r) = cell (Q r) K (gate (Q r) M) 7 r.val 6 a := fun a => by
    rw [sc8_6, biased_value _ 6 _ (by decide), cell_past _ _ _ _ _ _ (by decide)]
    refine congrArg₂ (· + ·) ?_ (bias8_value Q M q k km hq hm 6 (by decide) r)
    pointwise [all8, rows]
    try simp only [show ¬ 1552 + a.val < 16 by omega, dite_false]
    exact key_dot (fun (x : Fin 2048) d => k (ix4 0 0 x d)) K Q q hk hq _ 6 a r (by have := a.isLt; simp <;> omega)
  have c7 : ∀ a, sc8_7 q k km (ix2 a r) = cell (Q r) K (gate (Q r) M) 7 r.val 7 a := fun a => by
    rw [sc8_7, msk_value, cell_own _ _ _ _ _ _ (by rfl)]
    refine if_congr Iff.rfl ?_ rfl
    pointwise [all8, rows]
    try simp only [show ¬ 1808 + a.val < 16 by omega, dite_false]
    exact key_dot (fun (x : Fin 2048) d => k (ix4 0 0 x d)) K Q q hk hq _ 7 a r (by have := a.isLt; simp <;> omega)
  obtain ⟨x, hx⟩ := rowmax_real _ r (max_low _ _ r (max_low _ _ r (max_low _ _ r (max_low _ _ r (max_low _ _ r (max_low _ _ r (max_low _ _ r (colmax_low _ r (low_of_cells _ _ _ _ _ _ r c0))
    (colmax_low _ r (low_of_cells _ _ _ _ _ _ r c1)))
    (colmax_low _ r (low_of_cells _ _ _ _ _ _ r c2)))
    (colmax_low _ r (low_of_cells _ _ _ _ _ _ r c3)))
    (colmax_low _ r (low_of_cells _ _ _ _ _ _ r c4)))
    (colmax_low _ r (low_of_cells _ _ _ _ _ _ r c5)))
    (colmax_low _ r (low_of_cells _ _ _ _ _ _ r c6)))
    (colmax_low _ r (low_of_cells _ _ _ _ _ _ r c7)))
    (max_up _ _ r (colmax_up _ r (up_of_cells _ _ _ _ _ (by rfl) _ r c7)))
  refine gated_value _ _ _ 7 (by decide) W h1 _ z r x (fun e => ?_) d
  exact acc8_value vt _ _ _ _ _ _ _ _ W _ hv r
    (fun k => weight_cell _ _ _ _ _ _ _ k r x hx c0) (fun k => weight_cell _ _ _ _ _ _ _ k r x hx c1) (fun k => weight_cell _ _ _ _ _ _ _ k r x hx c2) (fun k => weight_cell _ _ _ _ _ _ _ k r x hx c3) (fun k => weight_cell _ _ _ _ _ _ _ k r x hx c4) (fun k => weight_cell _ _ _ _ _ _ _ k r x hx c5) (fun k => weight_cell _ _ _ _ _ _ _ k r x hx c6) (fun k => weight_cell _ _ _ _ _ _ _ k r x hx c7)
    (fun n k hn => weight_later _ _ _ _ _ x n k hn) e

end Moba

end
-- ==== Proof.Block.lean ====
/-
  The kernel's block: two tiles of 256 queries, their eight heads' units gathered in scratch memory, and the epilogue (the
  output projection, the norm over the features, the layer's scale, the gate and the residual).
-/
module

public import proofs.«01_k».proof.Proof.Unit
public import proofs.«01_k».proof.Proof.Gen.KernelIdeal.Skeleton
public import Idealize.ShloMosaic.Lib.Pointwise
public import Idealize.ShloMosaic.Lib.Pipeline.ValueKit
public import Idealize.ShloMosaic.Lib.Pipeline.ReadBack

@[expose] public section

set_option maxRecDepth 16384

noncomputable section

namespace Moba

open Idealize.ShloMosaic Cert.KernelIdeal Cert.KernelIdeal.Gen

/-- One head's 256 rows of queries (or of gate inputs) from row `o` on. -/
def ldQ (x : B S1x8x512x128) (o : Nat) (ho : o ≤ 256) (h : Fin 8) : B S1x1x256x128 :=
  View.ld (Val := Elt Ideal) (e' := .bf16) x (Rect.unit (s := S1x8x512x128) ![0, h.val, o, 0] ![1, 1, 256, 128] (fun a => by
    have := h.isLt
    fin_cases a <;> simp <;> omega))

/-- One head's first `w` keys. -/
def ldK (x : B S1x8x2048x128) (w : Nat) (hw : w ≤ 2048) (h : Fin 8) : B ⟨4, ![1, 1, w, 128]⟩ :=
  View.ld (Val := Elt Ideal) (e' := .bf16) x (Rect.unit (s := S1x8x2048x128) ![0, h.val, 0, 0] ![1, 1, w, 128] (fun a => by
    have := h.isLt
    fin_cases a <;> simp <;> omega))

/-- One head's values at the first `w` keys. -/
def ldV (x : B S1x8x144x2048) (w : Nat) (hw : w ≤ 2048) (h : Fin 8) : B ⟨4, ![1, 1, 144, w]⟩ :=
  View.ld (Val := Elt Ideal) (e' := .bf16) x (Rect.unit (s := S1x8x144x2048) ![0, h.val, 0, 0] ![1, 1, 144, w] (fun a => by
    have := h.isLt
    fin_cases a <;> simp <;> omega))

/-- One head's key means. -/
def ldM (x : V S1x8x8x128) (h : Fin 8) : V S1x8x1x128 :=
  View.ld (Val := Elt Ideal) (e' := .f32) x (Rect.unit (s := S1x8x8x128) ![0, 0, h.val, 0] ![1, 8, 1, 128] (fun a => by
    have := h.isLt
    fin_cases a <;> simp <;> omega))

/-- The heads' outputs over the block's 512 rows: the first tile's rows, then the second's. -/
def og (u w : Fin 8 → B S1x256x128) (y : S8x512x128.Idx) : Ideal .bf16 :=
  if h : (y 1).val < 256 then u (y 0) (ix3 0 ⟨(y 1).val, h⟩ (y 2))
  else w (y 0) (ix3 0 ⟨(y 1).val - 256, by have : (y 1).val < 512 := (y 1).isLt; omega⟩ (y 2))

/-- One head's rows. -/
def ogRows (o : S8x512x128.Idx → Ideal .bf16) (h : Fin 8) : B S512x128 :=
  shapeCast S512x128 (fun y : S1x512x128.Idx => o (ix3 h (y 1) (y 2))) shapeCasts_S1x512x128_S512x128

/-- The block's projected rows. -/
def proj (o : S8x512x128.Idx → Ideal .bf16) (w : B S1024x1024) : V S512x1024 :=
  matmul dot_S512x1024_S1024x1024_S512x1024_1_0_0_1_n_n none
    (concatenate S512x1024 1 [⟨S512x128, ogRows o 0⟩, ⟨S512x128, ogRows o 1⟩, ⟨S512x128, ogRows o 2⟩,
      ⟨S512x128, ogRows o 3⟩, ⟨S512x128, ogRows o 4⟩, ⟨S512x128, ogRows o 5⟩, ⟨S512x128, ogRows o 6⟩,
      ⟨S512x128, ogRows o 7⟩]
      concatenates_S512x128_S512x128_S512x128_S512x128_S512x128_S512x128_S512x128_S512x128_S512x1024_d1) w
    (constant S512x1024 .f32 0x00000000#32)

/-- The norm, the scales and the residual over projected rows. -/
def epilogue (y : V S512x1024) (md : V S1x1x3072) (hh : V S1x512x1024) (pg : V S1x1024) : V S1x512x1024 :=
  shapeCast S1x512x1024 (addf (shapeCast S512x1024 hh shapeCasts_S1x512x1024_S512x1024)
    (mulf (broadcastTo S512x1024 (extractStridedSlice S1x1024 ![0, 2048]
        (shapeCast S1x3072 md shapeCasts_S1x1x3072_S1x3072) slices_S1x3072_o0_2048_S1x1024) broadcasts_S1x1024_S512x1024)
      (mulf (mulf y (broadcastTo S512x1024 (rsqrt (addf (divf
          (shapeCast S512x1 (multiReduction .add [1] S512 (mulf y y) 0x00000000#32 reduces_S512x1024_S512 (.inl rfl) rfl)
            shapeCasts_S512_S512x1) (broadcast S512x1 (Scalar.ofBits .f32 0x44800000#32)))
          (broadcast S512x1 (Scalar.ofBits .f32 0x358637BD#32)))) broadcasts_S512x1_S512x1024))
        (broadcastTo S512x1024 (shapeCast S1x1024 pg shapeCasts_S1x1024_S1x1024) broadcasts_S1x1024_S512x1024))))
    shapeCasts_S512x1024_S1x512x1024

/-- A store of the first tile is a block of the gathered outputs. -/
theorem og_first (u w : Fin 8 → B S1x256x128) (h : Nat) (hh : h < 8) (inb) (x : S1x256x128.Idx) :
    u ⟨h, hh⟩ x = og u w ((Rect.unit (s := S8x512x128) ![h, 0, 0] S1x256x128.size inb).emb x) := by
  have hx : (x 1).val < 256 := (x 1).isLt
  have e0 : ((Rect.unit (s := S8x512x128) ![h, 0, 0] S1x256x128.size inb).emb x 0) = (⟨h, hh⟩ : Fin 8) :=
    Fin.ext (by have : (x 0).val < 1 := (x 0).isLt; show h + 1 * (x 0).val = h; omega)
  have e1 : ((Rect.unit (s := S8x512x128) ![h, 0, 0] S1x256x128.size inb).emb x 1).val = (x 1).val := by
    show 0 + 1 * (x 1).val = _; omega
  have e2 : ((Rect.unit (s := S8x512x128) ![h, 0, 0] S1x256x128.size inb).emb x 2) = (x 2 : Fin 128) :=
    Fin.ext (by show 0 + 1 * (x 2).val = (x 2).val; omega)
  unfold og
  rw [dif_pos (e1.trans_lt hx), e0, e2]
  refine congrArg (u ⟨h, hh⟩) ?_
  refine (eq_ix3 x).trans ?_
  congr 1
  · exact Fin.ext (by have : (x 0).val < 1 := (x 0).isLt; show (x 0).val = 0; omega)
  · exact Fin.ext e1.symm

/-- A store of the second tile is a block of the gathered outputs. -/
theorem og_second (u w : Fin 8 → B S1x256x128) (h : Nat) (hh : h < 8) (inb) (x : S1x256x128.Idx) :
    w ⟨h, hh⟩ x = og u w ((Rect.unit (s := S8x512x128) ![h, 256, 0] S1x256x128.size inb).emb x) := by
  have hx : (x 1).val < 256 := (x 1).isLt
  have e0 : ((Rect.unit (s := S8x512x128) ![h, 256, 0] S1x256x128.size inb).emb x 0) = (⟨h, hh⟩ : Fin 8) :=
    Fin.ext (by have : (x 0).val < 1 := (x 0).isLt; show h + 1 * (x 0).val = h; omega)
  have e1 : ((Rect.unit (s := S8x512x128) ![h, 256, 0] S1x256x128.size inb).emb x 1).val = 256 + (x 1).val := by
    show 256 + 1 * (x 1).val = _; omega
  have e2 : ((Rect.unit (s := S8x512x128) ![h, 256, 0] S1x256x128.size inb).emb x 2) = (x 2 : Fin 128) :=
    Fin.ext (by show 0 + 1 * (x 2).val = (x 2).val; omega)
  unfold og
  rw [dif_neg (by rw [e1]; omega), e0, e2]
  refine congrArg (w ⟨h, hh⟩) ?_
  refine (eq_ix3 x).trans ?_
  congr 1
  · exact Fin.ext (by have : (x 0).val < 1 := (x 0).isLt; show (x 0).val = 0; omega)
  · exact Fin.ext (by show _ = _ - 256; rw [e1]; omega)

theorem inbA (h : Nat) (hh : h < 8) (a : Fin S8x512x128.rank) : (![h, 0, 0] : Fin 3 → Nat) a + S1x256x128.size a ≤ S8x512x128.size a := by
  fin_cases a <;> simp <;> omega

theorem inbB (h : Nat) (hh : h < 8) (a : Fin S8x512x128.rank) : (![h, 256, 0] : Fin 3 → Nat) a + S1x256x128.size a ≤ S8x512x128.size a := by
  fin_cases a <;> simp <;> omega

/-- The store of head `h` of the first tile. -/
def storeA (a : Fin 8 → B S1x256x128) (h : Nat) (hh : h < 8) : View.Piece (Elt Ideal) S8x512x128 .bf16 :=
  ⟨Rect.unit (s := S8x512x128) ![h, 0, 0] S1x256x128.size (inbA h hh), a ⟨h, hh⟩⟩

/-- The store of head `h` of the second tile. -/
def storeB (b : Fin 8 → B S1x256x128) (h : Nat) (hh : h < 8) : View.Piece (Elt Ideal) S8x512x128 .bf16 :=
  ⟨Rect.unit (s := S8x512x128) ![h, 256, 0] S1x256x128.size (inbB h hh), b ⟨h, hh⟩⟩

/-- The stores of the first tile's first `n` heads, last first. -/
def first (a : Fin 8 → B S1x256x128) : (n : Nat) → n ≤ 8 → List (View.Piece (Elt Ideal) S8x512x128 .bf16)
  | 0, _ => []
  | n + 1, h => storeA a n h :: first a n (Nat.le_of_succ_le h)

/-- The stores of the second tile's first `n` heads, last first, over the first tile's. -/
def second (a b : Fin 8 → B S1x256x128) : (n : Nat) → n ≤ 8 → List (View.Piece (Elt Ideal) S8x512x128 .bf16)
  | 0, _ => first a 8 le_rfl
  | n + 1, h => storeB b n h :: second a b n (Nat.le_of_succ_le h)

theorem first_pieces (a b : Fin 8 → B S1x256x128) : ∀ (n : Nat) (hn : n ≤ 8),
    View.PiecesOf (Val := Elt Ideal) (e := .bf16) (og a b) (first a n hn)
  | 0, _ => trivial
  | n + 1, hn => ⟨og_first a b n hn (inbA n hn), first_pieces a b n _⟩

theorem second_pieces (a b : Fin 8 → B S1x256x128) : ∀ (n : Nat) (hn : n ≤ 8),
    View.PiecesOf (Val := Elt Ideal) (e := .bf16) (og a b) (second a b n hn)
  | 0, _ => first_pieces a b 8 le_rfl
  | n + 1, hn => ⟨og_second a b n hn (inbB n hn), second_pieces a b n _⟩

theorem mem_first (a : Fin 8 → B S1x256x128) (h : Nat) (hh : h < 8) : ∀ (n : Nat) (hn : n ≤ 8), h < n →
    storeA a h hh ∈ first a n hn
  | n + 1, hn, hlt => by
    rcases Nat.lt_succ_iff_lt_or_eq.mp hlt with h' | rfl
    · exact List.mem_cons_of_mem _ (mem_first a h hh n _ h')
    · exact List.mem_cons_self

theorem mem_second (a b : Fin 8 → B S1x256x128) (h : Nat) (hh : h < 8) : ∀ (n : Nat) (hn : n ≤ 8),
    storeA a h hh ∈ second a b n hn
  | 0, _ => mem_first a h hh 8 le_rfl hh
  | n + 1, hn => List.mem_cons_of_mem _ (mem_second a b h hh n _)

/-- The stores of the two tiles at a head cover the head's rows. -/
theorem second_covers (a b : Fin 8 → B S1x256x128) (h : Nat) (hh : h < 8) (y : S8x512x128.Idx) (hy : (y 0).val = h) :
    ∃ p ∈ second a b (h + 1) hh, y ∈ p.1.set := by
  have hy1 : (y 1).val < 512 := (y 1).isLt
  have hy2 : (y 2).val < 128 := (y 2).isLt
  by_cases hlt : (y 1).val < 256
  · refine ⟨storeA a h hh, mem_second a b h hh _ _, (Rect.mem_set_unit (inb := inbA h hh)).mpr fun a => ?_⟩
    fin_cases a
    · show h ≤ (y 0).val ∧ (y 0).val < h + 1; omega
    · show 0 ≤ (y 1).val ∧ (y 1).val < 0 + 256; omega
    · show 0 ≤ (y 2).val ∧ (y 2).val < 0 + 128; omega
  · refine ⟨storeB b h hh, List.mem_cons_self, (Rect.mem_set_unit (inb := inbB h hh)).mpr fun a => ?_⟩
    fin_cases a
    · show h ≤ (y 0).val ∧ (y 0).val < h + 1; omega
    · show 256 ≤ (y 1).val ∧ (y 1).val < 256 + 256; omega
    · show 0 ≤ (y 2).val ∧ (y 2).val < 0 + 128; omega

/-- Reading a head's rows back from stores that are blocks of `G` and cover them. -/
theorem read_head {sig' : RefSig} {κ' : Kind} {sp : Space} (v : View sig' κ' sp S8x512x128 .bf16)
    (L : List (View.Piece (Elt Ideal) S8x512x128 .bf16)) (G : S8x512x128.Idx → Ideal .bf16)
    (hL : View.PiecesOf (Val := Elt Ideal) (e := .bf16) G L) (h : Nat) (hh : h < 8) (inb)
    (hc : ∀ y : S8x512x128.Idx, (y 0).val = h → ∃ p ∈ L, y ∈ p.1.set) :
    v.readCov L (Rect.unit (s := S8x512x128) ![h, 0, 0] S1x512x128.size inb).toLoadRect
      = fun y : S1x512x128.Idx => G (ix3 ⟨h, hh⟩ (y 1) (y 2)) := by
  rw [View.readCov_eq_canon']
  funext y
  have e0 : ((Rect.unit (s := S8x512x128) ![h, 0, 0] S1x512x128.size inb).toLoadRect.idx y 0).val = h := by
    have : (y 0).val < 1 := (y 0).isLt
    show h + 1 * (y 0).val = h; omega
  have := View.canon_append_of_piecesOf (Val := Elt Ideal) (e := .bf16) G [] L hL
    ((Rect.unit (s := S8x512x128) ![h, 0, 0] S1x512x128.size inb).toLoadRect.idx y) (hc _ e0)
  rw [List.append_nil] at this
  refine this.trans (congrArg G ?_)
  refine (eq_ix3 _).trans ?_
  congr 1
  · exact Fin.ext e0
  · exact Fin.ext (by show 0 + 1 * (y 1).val = (y 1).val; omega)
  · exact Fin.ext (by show 0 + 1 * (y 2).val = (y 2).val; omega)

/-- The block from the sixteen stores. -/
theorem block_of_stores {sig' : RefSig} {κ' : Kind} {sp : Space} (v : View sig' κ' sp S8x512x128 .bf16)
    (a b : Fin 8 → B S1x256x128) (w : B S1024x1024) (md : V S1x1x3072) (hh : V S1x512x1024) (pg : V S1x1024) :
    k0_pay1 (F := Ideal) (k0_pay1291 (v.readCov (second a b 1 (by decide)) (Rect.unit (s := S8x512x128) ![0, 0, 0] S1x512x128.size inb_S8x512x128_S1x512x128_0_0_0).toLoadRect))
      (k0_pay1292 (v.readCov (second a b 2 (by decide)) (Rect.unit (s := S8x512x128) ![1, 0, 0] S1x512x128.size inb_S8x512x128_S1x512x128_1_0_0).toLoadRect))
      (k0_pay1293 (v.readCov (second a b 3 (by decide)) (Rect.unit (s := S8x512x128) ![2, 0, 0] S1x512x128.size inb_S8x512x128_S1x512x128_2_0_0).toLoadRect))
      (k0_pay1294 (v.readCov (second a b 4 (by decide)) (Rect.unit (s := S8x512x128) ![3, 0, 0] S1x512x128.size inb_S8x512x128_S1x512x128_3_0_0).toLoadRect))
      (k0_pay1295 (v.readCov (second a b 5 (by decide)) (Rect.unit (s := S8x512x128) ![4, 0, 0] S1x512x128.size inb_S8x512x128_S1x512x128_4_0_0).toLoadRect))
      (k0_pay1296 (v.readCov (second a b 6 (by decide)) (Rect.unit (s := S8x512x128) ![5, 0, 0] S1x512x128.size inb_S8x512x128_S1x512x128_5_0_0).toLoadRect))
      (v.readCov (second a b 7 (by decide)) (Rect.unit (s := S8x512x128) ![6, 0, 0] S1x512x128.size inb_S8x512x128_S1x512x128_6_0_0).toLoadRect)
      (v.readCov (second a b 8 (by decide)) (Rect.unit (s := S8x512x128) ![7, 0, 0] S1x512x128.size inb_S8x512x128_S1x512x128_7_0_0).toLoadRect)
      w md hh pg = epilogue (proj (og a b) w) md hh pg := by
  have e : ∀ (h : Nat) (hh : h < 8) (inb), v.readCov (second a b (h + 1) hh)
      (Rect.unit (s := S8x512x128) ![h, 0, 0] S1x512x128.size inb).toLoadRect
        = fun y : S1x512x128.Idx => og a b (ix3 ⟨h, hh⟩ (y 1) (y 2)) := fun h hh inb =>
    read_head v _ _ (second_pieces a b _ _) h hh inb (second_covers a b h hh)
  rw [e 0, e 1, e 2, e 3, e 4, e 5, e 6, e 7]
  rfl

/-- A concatenation of equal pieces. -/
theorem concatenate_congr {α : Type} {t : Shape} {a : Fin t.rank} {xs ys : List ((s : Shape) × (s.Idx → α))} (e : xs = ys)
    (h : Shape.Concatenates (xs.map (·.1)) t a) :
    concatenate t a xs h = concatenate t a ys (by rw [← e]; exact h) := by
  subst e; rfl

/-- The block from the sixteen stores, each given by its unit. -/
theorem block_of_pieces {sig' : RefSig} {κ' : Kind} {sp : Space} (v : View sig' κ' sp S8x512x128 .bf16)
    (a b : Fin 8 → B S1x256x128) (w : B S1024x1024) (md : V S1x1x3072) (hh : V S1x512x1024) (pg : V S1x1024)
    {a0 a1 a2 a3 a4 a5 a6 a7 b0 b1 b2 b3 b4 b5 b6 b7 : B S1x256x128} {L : List (View.Piece (Elt Ideal) S8x512x128 .bf16)}
    (hL : L = [⟨Rect.unit (s := S8x512x128) ![7, 0, 0] ![1, 256, 128] (inbA 7 (by decide)), a7⟩,
        ⟨Rect.unit (s := S8x512x128) ![6, 0, 0] ![1, 256, 128] (inbA 6 (by decide)), a6⟩,
        ⟨Rect.unit (s := S8x512x128) ![5, 0, 0] ![1, 256, 128] (inbA 5 (by decide)), a5⟩,
        ⟨Rect.unit (s := S8x512x128) ![4, 0, 0] ![1, 256, 128] (inbA 4 (by decide)), a4⟩,
        ⟨Rect.unit (s := S8x512x128) ![3, 0, 0] ![1, 256, 128] (inbA 3 (by decide)), a3⟩,
        ⟨Rect.unit (s := S8x512x128) ![2, 0, 0] ![1, 256, 128] (inbA 2 (by decide)), a2⟩,
        ⟨Rect.unit (s := S8x512x128) ![1, 0, 0] ![1, 256, 128] (inbA 1 (by decide)), a1⟩,
        ⟨Rect.unit (s := S8x512x128) ![0, 0, 0] ![1, 256, 128] (inbA 0 (by decide)), a0⟩])
    (ha0 : a0 = a 0) (ha1 : a1 = a 1) (ha2 : a2 = a 2) (ha3 : a3 = a 3) (ha4 : a4 = a 4) (ha5 : a5 = a 5) (ha6 : a6 = a 6) (ha7 : a7 = a 7)
    (hb0 : b0 = b 0) (hb1 : b1 = b 1) (hb2 : b2 = b 2) (hb3 : b3 = b 3) (hb4 : b4 = b 4) (hb5 : b5 = b 5) (hb6 : b6 = b 6) (hb7 : b7 = b 7) :
    k0_pay1 (F := Ideal) (k0_pay1291 (v.readCov (⟨Rect.unit (s := S8x512x128) ![0, 256, 0] ![1, 256, 128] (inbB 0 (by decide)), b0⟩ :: L) (Rect.unit (s := S8x512x128) ![0, 0, 0] ![1, 512, 128] inb_S8x512x128_S1x512x128_0_0_0).toLoadRect))
      (k0_pay1292 (v.readCov (⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![1, 0, 0] ![1, 512, 128] inb_S8x512x128_S1x512x128_1_0_0).toLoadRect))
      (k0_pay1293 (v.readCov (⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![2, 0, 0] ![1, 512, 128] inb_S8x512x128_S1x512x128_2_0_0).toLoadRect))
      (k0_pay1294 (v.readCov (⟨Rect.unit (s := S8x512x128) ![3, 256, 0] ![1, 256, 128] (inbB 3 (by decide)), b3⟩ :: ⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![3, 0, 0] ![1, 512, 128] inb_S8x512x128_S1x512x128_3_0_0).toLoadRect))
      (k0_pay1295 (v.readCov (⟨Rect.unit (s := S8x512x128) ![4, 256, 0] ![1, 256, 128] (inbB 4 (by decide)), b4⟩ :: ⟨Rect.unit (s := S8x512x128) ![3, 256, 0] ![1, 256, 128] (inbB 3 (by decide)), b3⟩ :: ⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![4, 0, 0] ![1, 512, 128] inb_S8x512x128_S1x512x128_4_0_0).toLoadRect))
      (k0_pay1296 (v.readCov (⟨Rect.unit (s := S8x512x128) ![5, 256, 0] ![1, 256, 128] (inbB 5 (by decide)), b5⟩ :: ⟨Rect.unit (s := S8x512x128) ![4, 256, 0] ![1, 256, 128] (inbB 4 (by decide)), b4⟩ :: ⟨Rect.unit (s := S8x512x128) ![3, 256, 0] ![1, 256, 128] (inbB 3 (by decide)), b3⟩ :: ⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![5, 0, 0] ![1, 512, 128] inb_S8x512x128_S1x512x128_5_0_0).toLoadRect))
      (v.readCov (⟨Rect.unit (s := S8x512x128) ![6, 256, 0] ![1, 256, 128] (inbB 6 (by decide)), b6⟩ :: ⟨Rect.unit (s := S8x512x128) ![5, 256, 0] ![1, 256, 128] (inbB 5 (by decide)), b5⟩ :: ⟨Rect.unit (s := S8x512x128) ![4, 256, 0] ![1, 256, 128] (inbB 4 (by decide)), b4⟩ :: ⟨Rect.unit (s := S8x512x128) ![3, 256, 0] ![1, 256, 128] (inbB 3 (by decide)), b3⟩ :: ⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![6, 0, 0] ![1, 512, 128] inb_S8x512x128_S1x512x128_6_0_0).toLoadRect)
      (v.readCov (⟨Rect.unit (s := S8x512x128) ![7, 256, 0] ![1, 256, 128] (inbB 7 (by decide)), b7⟩ :: ⟨Rect.unit (s := S8x512x128) ![6, 256, 0] ![1, 256, 128] (inbB 6 (by decide)), b6⟩ :: ⟨Rect.unit (s := S8x512x128) ![5, 256, 0] ![1, 256, 128] (inbB 5 (by decide)), b5⟩ :: ⟨Rect.unit (s := S8x512x128) ![4, 256, 0] ![1, 256, 128] (inbB 4 (by decide)), b4⟩ :: ⟨Rect.unit (s := S8x512x128) ![3, 256, 0] ![1, 256, 128] (inbB 3 (by decide)), b3⟩ :: ⟨Rect.unit (s := S8x512x128) ![2, 256, 0] ![1, 256, 128] (inbB 2 (by decide)), b2⟩ :: ⟨Rect.unit (s := S8x512x128) ![1, 256, 0] ![1, 256, 128] (inbB 1 (by decide)), b1⟩ :: ⟨Rect.unit (s := S8x512x128) ![0, 256, 0] ![1, 256, 128] (inbB 0 (by decide)), b0⟩ :: L) (Rect.unit (s := S8x512x128) ![7, 0, 0] ![1, 512, 128] inb_S8x512x128_S1x512x128_7_0_0).toLoadRect)
      w md hh pg = epilogue (proj (og a b) w) md hh pg := by
  subst hL ha0 ha1 ha2 ha3 ha4 ha5 ha6 ha7 hb0 hb1 hb2 hb3 hb4 hb5 hb6 hb7
  exact block_of_stores v a b w md hh pg

end Moba

end
-- ==== Proof.Layer.lean ====
/-
  The layer's result as mathematics, and the kernel's block as a part of it.
-/
module

public import proofs.«01_k».proof.Proof.UnitValue
public import proofs.«01_k».proof.Proof.Block

@[expose] public section

set_option maxRecDepth 16384

noncomputable section

namespace Moba

open Idealize.ShloMosaic Cert.KernelIdeal Cert.KernelIdeal.Gen

/-- The layer's arrays, each by its indices: queries, keys and key means (by head, then block) as reals, the rest as
    extended reals. Row 128 of the values is the row of ones. -/
structure Arrays where
  Q : Fin 32 → Fin 8 → Fin 2048 → Fin 128 → ℝ
  K : Fin 32 → Fin 8 → Fin 2048 → Fin 128 → ℝ
  M : Fin 32 → Fin 8 → Fin 8 → Fin 128 → ℝ
  v : Fin 32 → Fin 8 → Fin 144 → Fin 2048 → EReal
  z : Fin 32 → Fin 8 → Fin 2048 → Fin 128 → EReal
  h : Fin 32 → Fin 2048 → Fin 1024 → EReal
  md : Fin 32 → Fin 3072 → EReal
  w : Fin 1024 → Fin 1024 → EReal
  pg : Fin 1024 → EReal
  ones : ∀ b h x, v b h 128 x = 1

/-- Key `k` of block `n`. -/
def pos (n : Fin 8) (k : Fin 256) : Fin 2048 := ⟨256 * n.val + k.val, by omega⟩

/-- One head's keys by block. -/
def Arrays.keys (A : Arrays) (b : Fin 32) (h : Fin 8) (n : Fin 8) (k : Fin 256) (d : Fin 128) : ℝ := A.K b h (pos n k) d

/-- One head's values by block. -/
def Arrays.vals (A : Arrays) (b : Fin 32) (h : Fin 8) (e : Fin 144) (n : Fin 8) (k : Fin 256) : EReal := A.v b h e (pos n k)

/-- One head's attention output times its gate, at one query. -/
def mixed (A : Arrays) (b : Fin 32) (t : Fin 2048) (h : Fin 8) (d : Fin 128) : EReal :=
  attn (A.Q b h t) (A.keys b h) (gate (A.Q b h t) (A.M b h)) (t.val / 256) (t.val % 256)
    (A.vals b h ⟨d.val, by omega⟩) * silu (A.z b h t d)

/-- The heads' outputs projected. -/
def projected (A : Arrays) (b : Fin 32) (t : Fin 2048) (c : Fin 1024) : EReal :=
  ∑ e : Fin 1024, mixed A b t ⟨e.val / 128, by omega⟩ ⟨e.val % 128, by omega⟩ * A.w e c

/-- The residual plus the gated norm of a row `y`. -/
def finish (h md : EReal) (y : Fin 1024 → EReal) (pg : EReal) (c : Fin 1024) : EReal :=
  h + md * (y c * Ideal.rsqrt (Ideal.div (∑ e, y e * y e) (Ideal.ofBits .f32 0x44800000#32) + Ideal.ofBits .f32 0x358637BD#32) * pg)

/-- The layer's result. -/
def result (A : Arrays) (b : Fin 32) (t : Fin 2048) (c : Fin 1024) : EReal :=
  finish (A.h b t c) (A.md b ⟨2048 + c.val, by omega⟩) (projected A b t) (A.pg c) c

theorem mixed_eq (A : Arrays) (b : Fin 32) (h : Fin 8) (j : Nat) (r : Fin 256) (t : Fin 2048) (ht : t.val = 256 * j + r.val)
    (d : Fin 128) :
    mixed A b t h d = attn (A.Q b h t) (A.keys b h) (gate (A.Q b h t) (A.M b h)) j r.val
      (A.vals b h ⟨d.val, by omega⟩) * silu (A.z b h t d) := by
  unfold mixed
  rw [show t.val / 256 = j by omega, show t.val % 256 = r.val by omega]

/-! ### The block's pieces -/

theorem ldQ_apply (x : B S1x8x512x128) (o : Nat) (ho : o ≤ 256) (h : Fin 8) (r : Fin 256) (d : Fin 128) :
    ldQ x o ho h (ix4 0 0 r d) = x (ix4 0 h ⟨o + r.val, by omega⟩ d) := by
  unfold ldQ
  refine congrArg x ((eq_ix4 _).trans ?_)
  congr 1
  · exact Fin.ext (by show o + 1 * r.val = o + r.val; omega)
  · exact Fin.ext (by show 0 + 1 * d.val = d.val; omega)

theorem ldK_apply (x : B S1x8x2048x128) (w : Nat) (hw : w ≤ 2048) (h : Fin 8) (k : Fin w) (d : Fin 128) :
    ldK x w hw h (ix4 0 0 k d) = x (ix4 0 h ⟨k.val, by omega⟩ d) := by
  unfold ldK
  refine congrArg x ((eq_ix4 _).trans ?_)
  congr 1
  · exact Fin.ext (by show 0 + 1 * k.val = k.val; omega)
  · exact Fin.ext (by show 0 + 1 * d.val = d.val; omega)

theorem ldV_apply (x : B S1x8x144x2048) (w : Nat) (hw : w ≤ 2048) (h : Fin 8) (e : Fin 144) (k : Fin w) :
    ldV x w hw h (ix4 0 0 e k) = x (ix4 0 h e ⟨k.val, by omega⟩) := by
  unfold ldV
  refine congrArg x ((eq_ix4 _).trans ?_)
  congr 1
  · exact Fin.ext (by show 0 + 1 * e.val = e.val; omega)
  · exact Fin.ext (by show 0 + 1 * k.val = k.val; omega)

theorem ldM_apply (x : V S1x8x8x128) (h n : Fin 8) (d : Fin 128) : ldM x h (ix4 0 n 0 d) = x (ix4 0 n h d) := by
  unfold ldM
  refine congrArg x ((eq_ix4 _).trans ?_)
  congr 1
  · exact Fin.ext (by show 0 + 1 * n.val = n.val; omega)
  · exact Fin.ext (by show 0 + 1 * d.val = d.val; omega)

/-- The heads' rows side by side. -/
theorem heads_value (o : S8x512x128.Idx → Ideal .bf16) (r : Fin 512) (e : Fin 1024) :
    concatenate S512x1024 1 [⟨S512x128, ogRows o 0⟩, ⟨S512x128, ogRows o 1⟩, ⟨S512x128, ogRows o 2⟩,
      ⟨S512x128, ogRows o 3⟩, ⟨S512x128, ogRows o 4⟩, ⟨S512x128, ogRows o 5⟩, ⟨S512x128, ogRows o 6⟩,
      ⟨S512x128, ogRows o 7⟩]
      concatenates_S512x128_S512x128_S512x128_S512x128_S512x128_S512x128_S512x128_S512x128_S512x1024_d1 (ix2 r e)
      = o (ix3 ⟨e.val / 128, by omega⟩ r ⟨e.val % 128, by omega⟩) := by
  have hrow : ∀ (h : Fin 8) (i : Fin 512) (d : Fin 128), ogRows o h (ix2 i d) = o (ix3 h i d) := fun h i d => by
    pointwise [ogRows]
  pointwise
  have he := e.isLt
  split_ifs <;> rw [hrow] <;> congr 1 <;> congr 1 <;> first | rfl | (apply Fin.ext; simp; omega)

theorem matmul_value (X : B S512x1024) (w : B S1024x1024) (r : Fin 512) (c : Fin 1024) :
    matmul dot_S512x1024_S1024x1024_S512x1024_1_0_0_1_n_n none X w (constant S512x1024 .f32 0x00000000#32) (ix2 r c)
      = ∑ e : Fin 1024, (X (ix2 r e) * w (ix2 e c) : EReal) := by
  pointwise

theorem epilogue_value (y : V S512x1024) (md : V S1x1x3072) (hh : V S1x512x1024) (pg : V S1x1024) (r : Fin 512) (c : Fin 1024) :
    epilogue y md hh pg (ix3 0 r c)
      = finish (hh (ix3 0 r c)) (md (ix3 0 0 ⟨2048 + c.val, by omega⟩)) (fun e => y (ix2 r e)) (pg (ix2 0 c)) c := by
  unfold finish
  pointwise [epilogue]

/-- The block of 512 queries from row `512 i` on: where the two tiles' units give the gated outputs, it is the result's. -/
theorem block_value (A : Arrays) (b : Fin 32) (i : Nat) (hi : i < 4) (x5 : V S1x512x1024) (x6 : V S1x1x3072) (x7 : B S1024x1024)
    (x8 : V S1x1024) (h5 : ∀ (r : Fin 512) (c : Fin 1024), x5 (ix3 0 r c) = A.h b ⟨512 * i + r.val, by omega⟩ c)
    (h6 : ∀ c : Fin 3072, x6 (ix3 0 0 c) = A.md b c) (h7 : ∀ e c : Fin 1024, x7 (ix2 e c) = A.w e c)
    (h8 : ∀ c : Fin 1024, x8 (ix2 0 c) = A.pg c) (u v : Fin 8 → B S1x256x128)
    (hu : ∀ (h : Fin 8) (r : Fin 256) (d : Fin 128), u h (ix3 0 r d) = mixed A b ⟨512 * i + r.val, by omega⟩ h d)
    (hv : ∀ (h : Fin 8) (r : Fin 256) (d : Fin 128), v h (ix3 0 r d) = mixed A b ⟨512 * i + 256 + r.val, by omega⟩ h d)
    (r : Fin 512) (c : Fin 1024) :
    epilogue (proj (og u v) x7) x6 x5 x8 (ix3 0 r c) = result A b ⟨512 * i + r.val, by omega⟩ c := by
  have hog : ∀ (h : Fin 8) (d : Fin 128), og u v (ix3 h r d) = mixed A b ⟨512 * i + r.val, by omega⟩ h d := fun h d => by
    unfold og
    split
    · next hlt => exact hu h ⟨r.val, hlt⟩ d
    · next hge =>
      refine (hv h ⟨r.val - 256, by omega⟩ d).trans ?_
      congr 1
      have : ¬ r.val < 256 := hge
      exact Fin.ext (by show 512 * i + 256 + (r.val - 256) = 512 * i + r.val; omega)
  have hp : ∀ c, proj (og u v) x7 (ix2 r c) = projected A b ⟨512 * i + r.val, by omega⟩ c := fun c => by
    unfold proj
    rw [matmul_value]
    unfold projected
    refine Finset.sum_congr rfl fun e _ => ?_
    rw [heads_value, hog, h7]
  rw [epilogue_value, h5, h6, h8]
  unfold result
  congr 1
  exact funext hp

end Moba

end
-- ==== Proof.Blocks.lean ====
/-
  The kernel's blocks against the layer: each grid case computes its 512 rows of the result.
-/
module

public import proofs.«01_k».proof.Proof.Layer

@[expose] public section

set_option maxRecDepth 16384

noncomputable section

namespace Moba

open Idealize.ShloMosaic Cert.KernelIdeal Cert.KernelIdeal.Gen

/-- The input blocks of the point of batch element `b` that computes the rows from `512 i` on. -/
structure Reads (A : Arrays) (b : Fin 32) (i : Fin 4) (x0 : B S1x8x512x128) (x1 : B S1x8x2048x128) (x2 : B S1x8x144x2048)
    (x3 : V S1x8x8x128) (x4 : B S1x8x512x128) (x5 : V S1x512x1024) (x6 : V S1x1x3072) (x7 : B S1024x1024) (x8 : V S1x1024) :
    Prop where
  q : ∀ (h : Fin 8) (r : Fin 512) (d : Fin 128), x0 (ix4 0 h r d) = (A.Q b h ⟨512 * i.val + r.val, by omega⟩ d : EReal)
  k : ∀ (h : Fin 8) (t : Fin 2048) (d : Fin 128), x1 (ix4 0 h t d) = (A.K b h t d : EReal)
  v : ∀ (h : Fin 8) (e : Fin 144) (t : Fin 2048), x2 (ix4 0 h e t) = A.v b h e t
  km : ∀ (n h : Fin 8) (d : Fin 128), x3 (ix4 0 n h d) = (A.M b h n d : EReal)
  z : ∀ (h : Fin 8) (r : Fin 512) (d : Fin 128), x4 (ix4 0 h r d) = A.z b h ⟨512 * i.val + r.val, by omega⟩ d
  h : ∀ (r : Fin 512) (c : Fin 1024), x5 (ix3 0 r c) = A.h b ⟨512 * i.val + r.val, by omega⟩ c
  md : ∀ c : Fin 3072, x6 (ix3 0 0 c) = A.md b c
  w : ∀ e c : Fin 1024, x7 (ix2 e c) = A.w e c
  pg : ∀ c : Fin 1024, x8 (ix2 0 c) = A.pg c

/-- Row `r` of tile `t` of the 512 rows from `512 i` on. -/
def rowAt (i : Fin 4) (t : Fin 2) (r : Fin 256) : Fin 2048 := ⟨512 * i.val + 256 * t.val + r.val, by omega⟩

variable {A : Arrays} {b : Fin 32} {i : Fin 4} {x0 : B S1x8x512x128} {x1 : B S1x8x2048x128} {x2 : B S1x8x144x2048}
  {x3 : V S1x8x8x128} {x4 : B S1x8x512x128} {x5 : V S1x512x1024} {x6 : V S1x1x3072} {x7 : B S1024x1024} {x8 : V S1x1024}

/-- A tile's queries. -/
theorem Reads.rows (R : Reads A b i x0 x1 x2 x3 x4 x5 x6 x7 x8) (o : Nat) (ho : o ≤ 256) (h : Fin 8) (T : Fin 256 → Fin 2048)
    (hT : ∀ r, (T r).val = 512 * i.val + o + r.val) : IsRows (ldQ x0 o ho h) fun r => A.Q b h (T r) := fun r d => by
  rw [ldQ_apply, R.q]
  congr 2
  exact Fin.ext (by rw [hT]; show 512 * i.val + (o + r.val) = _; omega)

/-- The keys. -/
theorem Reads.keys (R : Reads A b i x0 x1 x2 x3 x4 x5 x6 x7 x8) (w : Nat) (hw : w ≤ 2048) (h : Fin 8) :
    IsKeys (fun (x : Fin w) d => ldK x1 w hw h (ix4 0 0 x d)) (A.keys b h) := fun x n k d hx => by
  show ldK x1 w hw h (ix4 0 0 x d) = _
  rw [ldK_apply, R.k]
  unfold Arrays.keys pos
  congr 2
  exact Fin.ext hx

/-- The key means. -/
theorem Reads.means (R : Reads A b i x0 x1 x2 x3 x4 x5 x6 x7 x8) (h : Fin 8) : IsMeans (ldM x3 h) (A.M b h) := fun n d => by
  rw [ldM_apply, R.km]

/-- The values. -/
theorem Reads.values (R : Reads A b i x0 x1 x2 x3 x4 x5 x6 x7 x8) (w : Nat) (hw : w ≤ 2048) (h : Fin 8) :
    IsValues (fun e (x : Fin w) => ldV x2 w hw h (ix4 0 0 e x)) (A.vals b h) := fun e x n k hx => by
  show ldV x2 w hw h (ix4 0 0 e x) = _
  rw [ldV_apply, R.v]
  unfold Arrays.vals pos
  congr 1
  exact Fin.ext hx

/-- A tile's gated attention is the layer's at its rows. -/
theorem Reads.tile (R : Reads A b i x0 x1 x2 x3 x4 x5 x6 x7 x8) (o : Nat) (ho : o ≤ 256) (h : Fin 8) (j : Nat) (r : Fin 256)
    (t : Fin 2048) (hj : 256 * j = 512 * i.val + o) (ht : t.val = 512 * i.val + o + r.val) (d : Fin 128) :
    attn (A.Q b h t) (A.keys b h) (gate (A.Q b h t) (A.M b h)) j r.val (A.vals b h ⟨d.val, by omega⟩)
      * silu (ldQ x4 o ho h (ix4 0 0 r d)) = mixed A b t h d := by
  rw [mixed_eq A b h j r t (by omega) d, ldQ_apply, R.z]
  congr 3
  exact Fin.ext (by rw [ht]; show 512 * i.val + (o + r.val) = _; omega)

/-- Grid case 0 computes the result's rows from 0 on. -/
theorem case_A (R : Reads A b 0 x0 x1 x2 x3 x4 x5 x6 x7 x8) (r : Fin 512) (c : Fin 1024) :
    epilogue (proj (og (fun h => unit1 (ldQ x0 0 (by decide) h) (ldK x1 256 (by decide) h) (ldV x2 256 (by decide) h) (ldQ x4 0 (by decide) h))
      (fun h => unit2 (ldQ x0 256 (by decide) h) (ldK x1 512 (by decide) h) (ldV x2 512 (by decide) h) (ldQ x4 256 (by decide) h))) x7) x6 x5 x8 (ix3 0 r c)
      = result A b ⟨512 * 0 + r.val, by omega⟩ c :=
  block_value A b 0 (by decide) x5 x6 x7 x8 R.h R.md R.w R.pg _ _
    (
      fun h r d => (unit1_value (Q := fun r => A.Q b h (rowAt 0 0 r)) (K := A.keys b h) (M := A.M b h) (W := A.vals b h)
        _ _ _ _ (R.rows 0 (by decide) h _ fun _ => rfl) (R.keys 256 (by decide) h) (R.values 256 (by decide) h)
        (fun n k => A.ones b h _) r d).trans (R.tile 0 (by decide) h 0 r (rowAt 0 0 r) rfl rfl d))
    (
      fun h r d => (unit2_value (Q := fun r => A.Q b h (rowAt 0 1 r)) (K := A.keys b h) (M := A.M b h) (W := A.vals b h)
        _ _ _ _ (R.rows 256 (by decide) h _ fun _ => rfl) (R.keys 512 (by decide) h) (R.values 512 (by decide) h)
        (fun n k => A.ones b h _) r d).trans (R.tile 256 (by decide) h 1 r (rowAt 0 1 r) rfl rfl d)) r c

/-- Grid case 1 computes the result's rows from 512 on. -/
theorem case_B (R : Reads A b 1 x0 x1 x2 x3 x4 x5 x6 x7 x8) (r : Fin 512) (c : Fin 1024) :
    epilogue (proj (og (fun h => unit3 (ldQ x0 0 (by decide) h) (ldK x1 768 (by decide) h) (ldV x2 768 (by decide) h) (ldQ x4 0 (by decide) h))
      (fun h => unit4 (ldQ x0 256 (by decide) h) (ldK x1 1024 (by decide) h) (ldV x2 1024 (by decide) h) (ldQ x4 256 (by decide) h))) x7) x6 x5 x8 (ix3 0 r c)
      = result A b ⟨512 * 1 + r.val, by omega⟩ c :=
  block_value A b 1 (by decide) x5 x6 x7 x8 R.h R.md R.w R.pg _ _
    (
      fun h r d => (unit3_value (Q := fun r => A.Q b h (rowAt 1 0 r)) (K := A.keys b h) (M := A.M b h) (W := A.vals b h)
        _ _ _ _ (R.rows 0 (by decide) h _ fun _ => rfl) (R.keys 768 (by decide) h) (R.values 768 (by decide) h)
        (fun n k => A.ones b h _) r d).trans (R.tile 0 (by decide) h 2 r (rowAt 1 0 r) rfl rfl d))
    (
      fun h r d => (unit4_value (Q := fun r => A.Q b h (rowAt 1 1 r)) (K := A.keys b h) (M := A.M b h) (W := A.vals b h)
        _ _ _ _ (R.rows 256 (by decide) h _ fun _ => rfl) (R.keys 1024 (by decide) h) (R.values 1024 (by decide) h)
        (fun n k => A.ones b h _) r d).trans (R.tile 256 (by decide) h 3 r (rowAt 1 1 r) rfl rfl d)) r c

/-- Grid case 2 computes the result's rows from 1024 on. -/
theorem case_C (R : Reads A b 2 x0 x1 x2 x3 x4 x5 x6 x7 x8) (r : Fin 512) (c : Fin 1024) :
    epilogue (proj (og (fun h => unit5 (ldQ x0 0 (by decide) h) (ldK x1 1280 (by decide) h) (ldM x3 h) (ldV x2 1280 (by decide) h) (ldQ x4 0 (by decide) h))
      (fun h => unit6 (ldQ x0 256 (by decide) h) (ldK x1 1536 (by decide) h) (ldM x3 h) (ldV x2 1536 (by decide) h) (ldQ x4 256 (by decide) h))) x7) x6 x5 x8 (ix3 0 r c)
      = result A b ⟨512 * 2 + r.val, by omega⟩ c :=
  block_value A b 2 (by decide) x5 x6 x7 x8 R.h R.md R.w R.pg _ _
    (
      fun h r d => (unit5_value (Q := fun r => A.Q b h (rowAt 2 0 r)) (K := A.keys b h) (M := A.M b h) (W := A.vals b h)
        _ _ _ _ _ (R.rows 0 (by decide) h _ fun _ => rfl) (R.keys 1280 (by decide) h) (R.means h) (R.values 1280 (by decide) h)
        (fun n k => A.ones b h _) r d).trans (R.tile 0 (by decide) h 4 r (rowAt 2 0 r) rfl rfl d))
    (
      fun h r d => (unit6_value (Q := fun r => A.Q b h (rowAt 2 1 r)) (K := A.keys b h) (M := A.M b h) (W := A.vals b h)
        _ _ _ _ _ (R.rows 256 (by decide) h _ fun _ => rfl) (R.keys 1536 (by decide) h) (R.means h) (R.values 1536 (by decide) h)
        (fun n k => A.ones b h _) r d).trans (R.tile 256 (by decide) h 5 r (rowAt 2 1 r) rfl rfl d)) r c

/-- Grid case 3 computes the result's rows from 1536 on. -/
theorem case_D (R : Reads A b 3 x0 x1 x2 x3 x4 x5 x6 x7 x8) (r : Fin 512) (c : Fin 1024) :
    epilogue (proj (og (fun h => unit7 (ldQ x0 0 (by decide) h) (ldK x1 1792 (by decide) h) (ldM x3 h) (ldV x2 1792 (by decide) h) (ldQ x4 0 (by decide) h))
      (fun h => unit8 (ldQ x0 256 (by decide) h) (ldK x1 2048 (by decide) h) (ldM x3 h) (ldV x2 2048 (by decide) h) (ldQ x4 256 (by decide) h))) x7) x6 x5 x8 (ix3 0 r c)
      = result A b ⟨512 * 3 + r.val, by omega⟩ c :=
  block_value A b 3 (by decide) x5 x6 x7 x8 R.h R.md R.w R.pg _ _
    (
      fun h r d => (unit7_value (Q := fun r => A.Q b h (rowAt 3 0 r)) (K := A.keys b h) (M := A.M b h) (W := A.vals b h)
        _ _ _ _ _ (R.rows 0 (by decide) h _ fun _ => rfl) (R.keys 1792 (by decide) h) (R.means h) (R.values 1792 (by decide) h)
        (fun n k => A.ones b h _) r d).trans (R.tile 0 (by decide) h 6 r (rowAt 3 0 r) rfl rfl d))
    (
      fun h r d => (unit8_value (Q := fun r => A.Q b h (rowAt 3 1 r)) (K := A.keys b h) (M := A.M b h) (W := A.vals b h)
        _ _ _ _ _ (R.rows 256 (by decide) h _ fun _ => rfl) (R.keys 2048 (by decide) h) (R.means h) (R.values 2048 (by decide) h)
        (fun n k => A.ones b h _) r d).trans (R.tile 256 (by decide) h 7 r (rowAt 3 1 r) rfl rfl d)) r c

end Moba

end
-- ==== Proof.Cases.lean ====
/-
  What each of the kernel's four grid cases stores.
-/
module

public import proofs.«01_k».proof.Proof.Block
public import proofs.«01_k».proof.Proof.Gen.KernelIdeal.Value
public import Idealize.ShloMosaic.Lib.Pipeline.ValueKit
public import Idealize.ShloMosaic.Lib.Pipeline.ReadBack

@[expose] public section

set_option maxRecDepth 16384
set_option maxHeartbeats 1000000

noncomputable section

namespace Moba

open Idealize.ShloMosaic Cert.KernelIdeal Cert.KernelIdeal.Gen

attribute [local congr] concatenate_congr

/-- What case A stores: the two tiles' units, gathered and projected. -/
theorem out_A (c : Dev nD) (i : grid0.Coords) (arg2 : Memref sig .tc .vmem S1x8x512x128 .bf16) (harg2 : arg2.IsWhole) (arg3 : Memref sig .tc .vmem S1x8x2048x128 .bf16) (harg3 : arg3.IsWhole) (arg4 : Memref sig .tc .vmem S1x8x144x2048 .bf16) (harg4 : arg4.IsWhole) (arg5 : Memref sig .tc .vmem S1x8x8x128 .f32) (harg5 : arg5.IsWhole) (arg6 : Memref sig .tc .vmem S1x8x512x128 .bf16) (harg6 : arg6.IsWhole) (arg7 : Memref sig .tc .vmem S1x512x1024 .f32) (harg7 : arg7.IsWhole) (arg8 : Memref sig .tc .vmem S1x1x3072 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S8x256x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x256x256 .f32) (harg15 : arg15.IsWhole) (arg16 : Memref sig .tc .vmem S8x512x128 .bf16) (harg16 : arg16.IsWhole) (hc0 : cond0_0 i) (hc1 : ¬cond0_1 i) (hc2 : ¬cond0_2 i) (hc3 : ¬cond0_3 i) (x0 : Vec Ideal S1x8x512x128 .bf16) (x1 : Vec Ideal S1x8x2048x128 .bf16) (x2 : Vec Ideal S1x8x144x2048 .bf16) (x3 : Vec Ideal S1x8x8x128 .f32) (x4 : Vec Ideal S1x8x512x128 .bf16) (x5 : Vec Ideal S1x512x1024 .f32) (x6 : Vec Ideal S1x1x3072 .f32) (x7 : Vec Ideal S1024x1024 .bf16) (x8 : Vec Ideal S1x1024 .f32) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8
      = epilogue (proj (og (fun h => unit1 (ldQ x0 0 (by decide) h) (ldK x1 256 (by decide) h) (ldV x2 256 (by decide) h) (ldQ x4 0 (by decide) h))
          (fun h => unit2 (ldQ x0 256 (by decide) h) (ldK x1 512 (by decide) h) (ldV x2 512 (by decide) h) (ldQ x4 256 (by decide) h))) x7) x6 x5 x8 := by
  frame_open
  simp (disch := decide) only [↓ View.readCov_skip, ↓ View.readCov_cons_toLoadRect, ↓ View.readCov_fill]
  frame_out
  refine block_of_pieces _ (fun h => unit1 (ldQ x0 0 (by decide) h) (ldK x1 256 (by decide) h) (ldV x2 256 (by decide) h) (ldQ x4 0 (by decide) h))
    (fun h => unit2 (ldQ x0 256 (by decide) h) (ldK x1 512 (by decide) h) (ldV x2 512 (by decide) h) (ldQ x4 256 (by decide) h)) x7 x6 x5 x8 rfl ?_ ?_ ?_ ?_ ?_ ?_ ?_ ?_ ?_ ?_ ?_ ?_ ?_ ?_ ?_ ?_
  all_goals rfl
/-- What case B stores: the two tiles' units, gathered and projected. -/
theorem out_B (c : Dev nD) (i : grid0.Coords) (arg2 : Memref sig .tc .vmem S1x8x512x128 .bf16) (harg2 : arg2.IsWhole) (arg3 : Memref sig .tc .vmem S1x8x2048x128 .bf16) (harg3 : arg3.IsWhole) (arg4 : Memref sig .tc .vmem S1x8x144x2048 .bf16) (harg4 : arg4.IsWhole) (arg5 : Memref sig .tc .vmem S1x8x8x128 .f32) (harg5 : arg5.IsWhole) (arg6 : Memref sig .tc .vmem S1x8x512x128 .bf16) (harg6 : arg6.IsWhole) (arg7 : Memref sig .tc .vmem S1x512x1024 .f32) (harg7 : arg7.IsWhole) (arg8 : Memref sig .tc .vmem S1x1x3072 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S8x256x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x256x256 .f32) (harg15 : arg15.IsWhole) (arg16 : Memref sig .tc .vmem S8x512x128 .bf16) (harg16 : arg16.IsWhole) (hc0 : ¬cond0_0 i) (hc1 : cond0_1 i) (hc2 : ¬cond0_2 i) (hc3 : ¬cond0_3 i) (x0 : Vec Ideal S1x8x512x128 .bf16) (x1 : Vec Ideal S1x8x2048x128 .bf16) (x2 : Vec Ideal S1x8x144x2048 .bf16) (x3 : Vec Ideal S1x8x8x128 .f32) (x4 : Vec Ideal S1x8x512x128 .bf16) (x5 : Vec Ideal S1x512x1024 .f32) (x6 : Vec Ideal S1x1x3072 .f32) (x7 : Vec Ideal S1024x1024 .bf16) (x8 : Vec Ideal S1x1024 .f32) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8
      = epilogue (proj (og (fun h => unit3 (ldQ x0 0 (by decide) h) (ldK x1 768 (by decide) h) (ldV x2 768 (by decide) h) (ldQ x4 0 (by decide) h))
          (fun h => unit4 (ldQ x0 256 (by decide) h) (ldK x1 1024 (by decide) h) (ldV x2 1024 (by decide) h) (ldQ x4 256 (by decide) h))) x7) x6 x5 x8 := by
  frame_open
  simp (disch := decide) only [↓ View.readCov_skip, ↓ View.readCov_cons_toLoadRect, ↓ View.readCov_fill]
  frame_out
  refine block_of_pieces _ (fun h => unit3 (ldQ x0 0 (by decide) h) (ldK x1 768 (by decide) h) (ldV x2 768 (by decide) h) (ldQ x4 0 (by decide) h))
    (fun h => unit4 (ldQ x0 256 (by decide) h) (ldK x1 1024 (by decide) h) (ldV x2 1024 (by decide) h) (ldQ x4 256 (by decide) h)) x7 x6 x5 x8 rfl ?_ ?_ ?_ ?_ ?_ ?_ ?_ ?_ ?_ ?_ ?_ ?_ ?_ ?_ ?_ ?_
  all_goals rfl
/-- What case C stores: the two tiles' units, gathered and projected. -/
theorem out_C (c : Dev nD) (i : grid0.Coords) (arg2 : Memref sig .tc .vmem S1x8x512x128 .bf16) (harg2 : arg2.IsWhole) (arg3 : Memref sig .tc .vmem S1x8x2048x128 .bf16) (harg3 : arg3.IsWhole) (arg4 : Memref sig .tc .vmem S1x8x144x2048 .bf16) (harg4 : arg4.IsWhole) (arg5 : Memref sig .tc .vmem S1x8x8x128 .f32) (harg5 : arg5.IsWhole) (arg6 : Memref sig .tc .vmem S1x8x512x128 .bf16) (harg6 : arg6.IsWhole) (arg7 : Memref sig .tc .vmem S1x512x1024 .f32) (harg7 : arg7.IsWhole) (arg8 : Memref sig .tc .vmem S1x1x3072 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S8x256x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x256x256 .f32) (harg15 : arg15.IsWhole) (arg16 : Memref sig .tc .vmem S8x512x128 .bf16) (harg16 : arg16.IsWhole) (hc0 : ¬cond0_0 i) (hc1 : ¬cond0_1 i) (hc2 : cond0_2 i) (hc3 : ¬cond0_3 i) (x0 : Vec Ideal S1x8x512x128 .bf16) (x1 : Vec Ideal S1x8x2048x128 .bf16) (x2 : Vec Ideal S1x8x144x2048 .bf16) (x3 : Vec Ideal S1x8x8x128 .f32) (x4 : Vec Ideal S1x8x512x128 .bf16) (x5 : Vec Ideal S1x512x1024 .f32) (x6 : Vec Ideal S1x1x3072 .f32) (x7 : Vec Ideal S1024x1024 .bf16) (x8 : Vec Ideal S1x1024 .f32) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8
      = epilogue (proj (og (fun h => unit5 (ldQ x0 0 (by decide) h) (ldK x1 1280 (by decide) h) (ldM x3 h) (ldV x2 1280 (by decide) h) (ldQ x4 0 (by decide) h))
          (fun h => unit6 (ldQ x0 256 (by decide) h) (ldK x1 1536 (by decide) h) (ldM x3 h) (ldV x2 1536 (by decide) h) (ldQ x4 256 (by decide) h))) x7) x6 x5 x8 := by
  frame_open
  simp (disch := decide) only [↓ View.readCov_skip, ↓ View.readCov_cons_toLoadRect, ↓ View.readCov_fill]
  frame_out
  refine block_of_pieces _ (fun h => unit5 (ldQ x0 0 (by decide) h) (ldK x1 1280 (by decide) h) (ldM x3 h) (ldV x2 1280 (by decide) h) (ldQ x4 0 (by decide) h))
    (fun h => unit6 (ldQ x0 256 (by decide) h) (ldK x1 1536 (by decide) h) (ldM x3 h) (ldV x2 1536 (by decide) h) (ldQ x4 256 (by decide) h)) x7 x6 x5 x8 rfl ?_ ?_ ?_ ?_ ?_ ?_ ?_ ?_ ?_ ?_ ?_ ?_ ?_ ?_ ?_ ?_
  all_goals rfl
/-- What case D stores: the two tiles' units, gathered and projected. -/
theorem out_D (c : Dev nD) (i : grid0.Coords) (arg2 : Memref sig .tc .vmem S1x8x512x128 .bf16) (harg2 : arg2.IsWhole) (arg3 : Memref sig .tc .vmem S1x8x2048x128 .bf16) (harg3 : arg3.IsWhole) (arg4 : Memref sig .tc .vmem S1x8x144x2048 .bf16) (harg4 : arg4.IsWhole) (arg5 : Memref sig .tc .vmem S1x8x8x128 .f32) (harg5 : arg5.IsWhole) (arg6 : Memref sig .tc .vmem S1x8x512x128 .bf16) (harg6 : arg6.IsWhole) (arg7 : Memref sig .tc .vmem S1x512x1024 .f32) (harg7 : arg7.IsWhole) (arg8 : Memref sig .tc .vmem S1x1x3072 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S8x256x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x256x256 .f32) (harg15 : arg15.IsWhole) (arg16 : Memref sig .tc .vmem S8x512x128 .bf16) (harg16 : arg16.IsWhole) (hc0 : ¬cond0_0 i) (hc1 : ¬cond0_1 i) (hc2 : ¬cond0_2 i) (hc3 : cond0_3 i) (x0 : Vec Ideal S1x8x512x128 .bf16) (x1 : Vec Ideal S1x8x2048x128 .bf16) (x2 : Vec Ideal S1x8x144x2048 .bf16) (x3 : Vec Ideal S1x8x8x128 .f32) (x4 : Vec Ideal S1x8x512x128 .bf16) (x5 : Vec Ideal S1x512x1024 .f32) (x6 : Vec Ideal S1x1x3072 .f32) (x7 : Vec Ideal S1024x1024 .bf16) (x8 : Vec Ideal S1x1024 .f32) :
    out0_D_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 x8
      = epilogue (proj (og (fun h => unit7 (ldQ x0 0 (by decide) h) (ldK x1 1792 (by decide) h) (ldM x3 h) (ldV x2 1792 (by decide) h) (ldQ x4 0 (by decide) h))
          (fun h => unit8 (ldQ x0 256 (by decide) h) (ldK x1 2048 (by decide) h) (ldM x3 h) (ldV x2 2048 (by decide) h) (ldQ x4 256 (by decide) h))) x7) x6 x5 x8 := by
  frame_open
  simp (disch := decide) only [↓ View.readCov_skip, ↓ View.readCov_cons_toLoadRect, ↓ View.readCov_fill]
  frame_out
  refine block_of_pieces _ (fun h => unit7 (ldQ x0 0 (by decide) h) (ldK x1 1792 (by decide) h) (ldM x3 h) (ldV x2 1792 (by decide) h) (ldQ x4 0 (by decide) h))
    (fun h => unit8 (ldQ x0 256 (by decide) h) (ldK x1 2048 (by decide) h) (ldM x3 h) (ldV x2 2048 (by decide) h) (ldQ x4 256 (by decide) h)) x7 x6 x5 x8 rfl ?_ ?_ ?_ ?_ ?_ ?_ ?_ ?_ ?_ ?_ ?_ ?_ ?_ ?_ ?_ ?_
  all_goals rfl
end Moba

end
-- ==== Proof.KernelValue.lean ====
/-
  The kernel's result array after its run: the layer's result of the arguments.
-/
module

public import proofs.«01_k».proof.Proof.Blocks
public import proofs.«01_k».proof.Proof.Cases

@[expose] public section

set_option maxRecDepth 16384

noncomputable section

namespace Moba

open Idealize.ShloMosaic Idealize.ShloMosaic.TcCoe Idealize.SL.Sem Cert.KernelIdeal Cert.KernelIdeal.Gen

/-- The arguments hold the layer's arrays. -/
structure Holds (A : Arrays) (q k : S32x8x2048x128.Idx → EReal) (v : S32x8x144x2048.Idx → EReal)
    (km : S32x8x8x128.Idx → EReal) (z : S32x8x2048x128.Idx → EReal) (h : S32x2048x1024.Idx → EReal)
    (md : S32x3072.Idx → EReal) (w : S1024x1024.Idx → EReal) (pg : S1024.Idx → EReal) : Prop where
  q : ∀ b h t d, q (ix4 b h t d) = (A.Q b h t d : EReal)
  k : ∀ b h t d, k (ix4 b h t d) = (A.K b h t d : EReal)
  v : ∀ b h e t, v (ix4 b h e t) = A.v b h e t
  km : ∀ b n h d, km (ix4 b n h d) = (A.M b h n d : EReal)
  z : ∀ b h t d, z (ix4 b h t d) = A.z b h t d
  h : ∀ b t c, h (ix3 b t c) = A.h b t c
  md : ∀ b c, md (ix2 b c) = A.md b c
  w : ∀ e c, w (ix2 e c) = A.w e c
  pg : ∀ c, pg (ix1 c) = A.pg c

/-- The arguments hold the layer's arrays, in a memory. -/
abbrev HoldsIn (A : Arrays) (m : (ℓ : Loc nD τ sig) → Buf (Elt Ideal) ℓ) (c : Dev nD) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The windows' block indices at a point: the batch element and the rows' block. -/
theorem idx (t : Fin cfg0.N) : win0_0.index t = ![t.val / 4, 0, t.val % 4, 0] ∧ win0_1.index t = ![t.val / 4, 0, 0, 0]
    ∧ win0_2.index t = ![t.val / 4, 0, 0, 0] ∧ win0_3.index t = ![t.val / 4, 0, 0, 0]
    ∧ win0_4.index t = ![t.val / 4, 0, t.val % 4, 0] ∧ win0_5.index t = ![t.val / 4, t.val % 4, 0]
    ∧ win0_6.index t = ![t.val / 4, 0, 0] ∧ win0_7.index t = ![0, 0] ∧ win0_8.index t = ![0, 0]
    ∧ win0_9.index t = ![t.val / 4, t.val % 4, 0] :=
  (by decide +kernel : ∀ t : Fin grid0.N, win0_0.index t = ![t.val / 4, 0, t.val % 4, 0] ∧ win0_1.index t = ![t.val / 4, 0, 0, 0]
    ∧ win0_2.index t = ![t.val / 4, 0, 0, 0] ∧ win0_3.index t = ![t.val / 4, 0, 0, 0]
    ∧ win0_4.index t = ![t.val / 4, 0, t.val % 4, 0] ∧ win0_5.index t = ![t.val / 4, t.val % 4, 0]
    ∧ win0_6.index t = ![t.val / 4, 0, 0] ∧ win0_7.index t = ![0, 0] ∧ win0_8.index t = ![0, 0]
    ∧ win0_9.index t = ![t.val / 4, t.val % 4, 0]) t

variable {A : Arrays} {m : (ℓ : Loc nD τ sig) → Buf (Elt Ideal) ℓ} {c : Dev nD}

/-- The reshaped scale vectors at an index. -/
theorem V_md (b : Fin 32) (e : Fin 3072) :
    Cert.KernelIdeal.Gen.V m c main_v0 (ix3 b 0 e) = m ((c : Thread nD τ).loc main_arg6) (ix2 b e) := by
  entry_read
  pointwise

/-- The reshaped norm weights at an index. -/
theorem V_pg (e : Fin 1024) : Cert.KernelIdeal.Gen.V m c main_v1 (ix2 0 e) = m ((c : Thread nD τ).loc main_arg8) (ix1 e) := by
  entry_read
  pointwise

/-- A point's input blocks. -/
theorem reads (H : HoldsIn A m c) (t : Fin cfg0.N) (b : Fin 32) (i : Fin 4) (hb : b.val = t.val / 4) (hi : i.val = t.val % 4) :
    Reads A b i (iblk m c 0 t) (iblk m c 1 t) (iblk m c 2 t) (iblk m c 3 t) (iblk m c 4 t) (iblk m c 5 t) (iblk m c 6 t)
      (iblk m c 7 t) (iblk m c 8 t) where
  q h r d := (H.q b h ⟨512 * i.val + r.val, by omega⟩ d).symm ▸ by blk_ext [iblk, Cert.KernelIdeal.Gen.V, (idx t).1]
  k h s d := (H.k b h s d).symm ▸ by blk_ext [iblk, Cert.KernelIdeal.Gen.V, (idx t).2.1]
  v h e s := (H.v b h e s).symm ▸ by blk_ext [iblk, Cert.KernelIdeal.Gen.V, (idx t).2.2.1]
  km n h d := (H.km b n h d).symm ▸ by blk_ext [iblk, Cert.KernelIdeal.Gen.V, (idx t).2.2.2.1]
  z h r d := (H.z b h ⟨512 * i.val + r.val, by omega⟩ d).symm ▸ by blk_ext [iblk, Cert.KernelIdeal.Gen.V, (idx t).2.2.2.2.1]
  h r e := (H.h b ⟨512 * i.val + r.val, by omega⟩ e).symm ▸ by blk_ext [iblk, Cert.KernelIdeal.Gen.V, (idx t).2.2.2.2.2.1]
  md e := by
    refine Eq.trans ?_ ((V_md b e).trans (H.md b e))
    blk_ext [iblk, (idx t).2.2.2.2.2.2.1]
  w e f := (H.w e f).symm ▸ by blk_ext [iblk, Cert.KernelIdeal.Gen.V, (idx t).2.2.2.2.2.2.2.1]
  pg e := by
    refine Eq.trans ?_ ((V_pg e).trans (H.pg e))
    blk_ext [iblk, (idx t).2.2.2.2.2.2.2.2.1]

/-- What a point writes back is the result there, when the stored block is. -/
theorem written (t : Fin cfg0.N) (ht : t.val < 128) (X : V S1x512x1024)
    (hX : (dats m 0 c).flushed 9 t = (cfg0.win 9).cut (grid0.coords t) X) (i : Nat) (hi : t.val % 4 = i)
    (hr : ∀ (r : Fin 512) (e : Fin 1024), X (ix3 0 r e) = result A ⟨t.val / 4, by omega⟩ ⟨512 * i + r.val, by omega⟩ e)
    (y : ((cfg0.win 9).xblock (cfg0.grid.coords t)).Idx) :
    (dats m 0 c).flushed 9 t y = (fun y : S32x2048x1024.Idx => result A (y 0) (y 1) (y 2)) (((cfg0.win 9).blk t).view.emb y) := by
  rw [hX]
  have hy : (y 0).val < 1 := (y 0).isLt
  have e1 : (cfg0.win 9).cut (grid0.coords t) X y = X (ix3 0 (y 1) (y 2)) := by
    show X _ = X _
    refine congrArg X ((eq_ix3 _).trans ?_)
    congr 1
    exact Fin.ext (by show (y 0).val = 0; omega)
  refine e1.trans ((hr _ _).trans ?_)
  show _ = result A _ _ _
  congr 1
  · exact Fin.ext (by blk_simp [(idx t).2.2.2.2.2.2.2.2.2])
  · exact Fin.ext (by blk_simp [(idx t).2.2.2.2.2.2.2.2.2]; simp; omega)
  · exact Fin.ext (by blk_simp [(idx t).2.2.2.2.2.2.2.2.2])

/-- The kernel's result array is the layer's result. -/
theorem kernel_value (H : HoldsIn A m c) :
    (dats m 0 c).arrAt 9 cfg0.N = fun y : S32x2048x1024.Idx => result A (y 0) (y 1) (y 2) := by
  refine (dats m 0 c).arrAt_eq_of_covers 9 _ (by decide +kernel) fun t hf y => ?_
  have ht : t.val < 128 := t.isLt
  by_cases h0 : t.val % 4 = 0
  · exact written t ht _ (Value.flushed9_A m c t h0 (by omega) (by omega) (by omega)) 0 h0 (fun r e => by
      rw [out_A]; exact case_A (reads H t ⟨t.val / 4, by omega⟩ 0 rfl h0.symm) r e) y
  by_cases h1 : t.val % 4 = 1
  · exact written t ht _ (Value.flushed9_B m c t h0 h1 (by omega) (by omega)) 1 h1 (fun r e => by
      rw [out_B]; exact case_B (reads H t ⟨t.val / 4, by omega⟩ 1 rfl h1.symm) r e) y
  by_cases h2 : t.val % 4 = 2
  · exact written t ht _ (Value.flushed9_C m c t h0 h1 h2 (by omega)) 2 h2 (fun r e => by
      rw [out_C]; exact case_C (reads H t ⟨t.val / 4, by omega⟩ 2 rfl h2.symm) r e) y
  have h3 : t.val % 4 = 3 := by omega
  exact written t ht _ (Value.flushed9_D m c t h0 h1 h2 h3) 3 h3 (fun r e => by
    rw [out_D]; exact case_D (reads H t ⟨t.val / 4, by omega⟩ 3 rfl h3.symm) r e) y

end Moba

end
-- ==== Proof.RefSlots.lean ====
/-
  The reference's slots: per query the three past blocks of the highest gates and the own block.
-/
module

public import proofs.«01_k».proof.Proof.KernelValue
public import proofs.«01_k».proof.Proof.Gen.ReferenceIdeal.Run
public import Idealize.ShloMosaic.Lib.Pointwise
public import Idealize.ShloMosaic.Lib.WordCmp
public import Idealize.ShloMosaic.Lib.Routing.Ops
public import Idealize.ShloMosaic.Lib.Routing.Words
public import Idealize.ShloMosaic.Lib.Tactic.CleanTypes

@[expose] public section

set_option maxRecDepth 16384

noncomputable section

namespace Moba

open Idealize.ShloMosaic Idealize.ShloMosaic.TcCoe Idealize.SL.Sem Idealize.ShloMosaic.StableHlo
open Cert.ReferenceIdeal Cert.ReferenceIdeal.Gen Cert.ReferenceIdeal.Value

/-- The reference's arguments hold the layer's arrays. -/
abbrev HoldsAt (A : Arrays) (V0 : Valuation τ sig (Elt Ideal)) : Prop :=
  Holds A (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))

variable {A : Arrays} {V0 : Valuation τ sig (Elt Ideal)}

/-- The gates of a query. -/
abbrev gates' (A : Arrays) (b : Fin 32) (h : Fin 8) (t : Fin 2048) : Fin 8 → EReal := gate (A.Q b h t) (A.M b h)

/-- The block a slot names: the sort's first three, and the own block. -/
def slot (A : Arrays) (b : Fin 32) (h : Fin 8) (t : Fin 2048) (s : Fin 4) : Fin 8 :=
  if s.val < 3 then source (gates' A b h t) (t.val / 256) ⟨s.val, by omega⟩ else ⟨t.val / 256, by omega⟩

/-- A choice by a decided word. -/
theorem sel {α : Type} (p : Prop) [Decidable p] (x y : α) : Scalar.select (BitVec.ofBool (decide p)) x y = if p then x else y := by
  by_cases h : p <;> simp [Scalar.select, h]

/-- A query's own block. -/
theorem own_value (t : Fin 2048) : res_main_v9 V0 (ix1 t) = BitVec.ofNat 32 (t.val / 256) := by
  unfold res_main_v9 res_main_v7
  clean_types
  pointwise
  exact Routing.divsi_word _ (by omega) (by omega) (by omega)

/-- The masked gates. -/
theorem gate_value (H : HoldsAt A V0) (b : Fin 32) (h : Fin 8) (t : Fin 2048) (n : Fin 8) :
    res_main_v20 V0 (ix4 b h t n) = masked (gates' A b h t) (t.val / 256) n := by
  unfold res_main_v20 res_main_v0
  clean_types
  pointwise
  rw [own_value, WordCmp.cmpi_slt_ofNat (w := 32) (by omega) (by omega), sel]
  refine if_congr Iff.rfl ?_ ofBits_bot
  refine (dot_coe _ _ _ _ (fun d => H.q b h t d) (fun d => H.km b n h d)).trans ?_
  exact congrArg _ (Finset.sum_congr rfl fun d _ => mul_comm _ _)

/-- The positions that the sort puts first, along the last axis. -/
theorem topK_value (x : S32x8x2048x8.Idx → EReal) (b : Fin 32) (h : Fin 8) (t : Fin 2048) (s : Fin 3) :
    (Host.topK S32x8x2048x3 3 (FloatOps.cmpfTotal (F := Ideal) (φ := .f32) .gt) x sliceFits_S32x8x2048x8_S32x8x2048x3).2 (ix4 b h t s)
      = BitVec.ofNat 32 (sortedFrom (fun k k' => Ideal.cmpTotal .gt (x (ix4 b h t k)) (x (ix4 b h t k')) == 1#1)
          (⟨s.val, by omega⟩ : Fin 8)).val := by
  have along : ∀ (s k : Fin 8), (ix4 b h t s : S32x8x2048x8.Idx).along 3 k = ix4 b h t k := fun s k => by
    funext a
    fin_cases a <;> rfl
  have e : ∀ hs : S32x8x2048x8.Slices (fun _ => 0) S32x8x2048x3, ∀ y : S32x8x2048x8.Idx → BitVec 32,
      extractStridedSlice S32x8x2048x3 (fun _ => 0) y hs (ix4 b h t s) = y (ix4 b h t ⟨s.val, by omega⟩) := fun hs y => by
    pointwise
  refine (e sliceFits_S32x8x2048x8_S32x8x2048x3 fun j => iotaInDim S32x8x2048x8 32 3 (j.along 3
    (sortedFrom (fun k k' => Ideal.cmpTotal .gt (x (j.along 3 k)) (x (j.along 3 k')) == 1#1) (j 3)))).trans ?_
  exact congrArg (fun R : Fin 8 → Fin 8 → Bool => BitVec.ofNat 32 (sortedFrom R (⟨s.val, by omega⟩ : Fin 8)).val)
    (funext fun k => funext fun k' => congrArg₂ (fun i i' => Ideal.cmpTotal .gt (x i) (x i') == 1#1) (along _ k) (along _ k'))

/-- The slots' blocks, as words. -/
theorem slot_value (H : HoldsAt A V0) (b : Fin 32) (h : Fin 8) (t : Fin 2048) (s : Fin 4) :
    res_main_v23 V0 (ix4 b h t s) = BitVec.ofNat 32 (slot A b h t s).val := by
  unfold res_main_v23
  clean_types
  pointwise
  unfold slot
  split
  · rw [topK_value]
    simp only [gate_value H]
    rfl
  · exact own_value t

/-- No slot's word is negative, so wrapping leaves it. -/
theorem wrapped_value (H : HoldsAt A V0) (b : Fin 32) (h : Fin 8) (t : Fin 2048) (s : Fin 4) :
    res_main_call1_v4 V0 (ix5 b h t s 0) = BitVec.ofNat 32 (slot A b h t s).val := by
  unfold res_main_call1_v4 res_main_v28
  clean_types
  pointwise
  rw [slot_value H, WordCmp.cmpi_slt_ofNat (w := 32) (by omega) (by omega), sel, if_neg (by omega)]

end Moba

end
-- ==== Proof.RefScores.lean ====
/-
  The reference's masked logits: at every slot the gathered block's scores where the query attends, −∞ elsewhere.
-/
module

public import proofs.«01_k».proof.Proof.RefSlots

@[expose] public section

set_option maxRecDepth 16384

noncomputable section

namespace Moba

open Idealize.ShloMosaic Idealize.ShloMosaic.TcCoe Idealize.SL.Sem Idealize.ShloMosaic.StableHlo
open Cert.ReferenceIdeal Cert.ReferenceIdeal.Gen Cert.ReferenceIdeal.Value

variable {A : Arrays} {V0 : Valuation τ sig (Elt Ideal)}

/-- A gathered block, where the slot's word is a block's number. -/
theorem gather_value (x : S32x8x2048x8x256.Idx → EReal) (w : S32x8x2048x4x1.Idx → BitVec 32) (b : Fin 32) (h : Fin 8)
    (t : Fin 2048) (s : Fin 4) (k : Fin 256) (n : Fin 8) (hn : w (ix5 b h t s 0) = BitVec.ofNat 32 n.val) :
    Host.gather gather_S32x8x2048x8x256_S32x8x2048x4x1_S32x8x2048x4x256_4_3_012_012_3_4_1111256 x w (ix5 b h t s k)
      = x (ix5 b h t n k) := by
  unfold Host.gather
  refine congrArg x (funext fun a => Fin.ext ?_)
  match a with
  | ⟨0, _⟩ =>
    show 0 + b.val + 0 = b.val; omega
  | ⟨1, _⟩ =>
    show 0 + h.val + 0 = h.val; omega
  | ⟨2, _⟩ =>
    show 0 + t.val + 0 = t.val; omega
  | ⟨3, _⟩ =>
    have e : (gather_S32x8x2048x8x256_S32x8x2048x4x1_S32x8x2048x4x256_4_3_012_012_3_4_1111256.siIdx (ix5 b h t s k)
        ⟨0, by decide⟩) = ix5 b h t s 0 := by
      funext a
      fin_cases a <;> rfl
    show min (w (gather_S32x8x2048x8x256_S32x8x2048x4x1_S32x8x2048x4x256_4_3_012_012_3_4_1111256.siIdx (ix5 b h t s k)
        ⟨0, by decide⟩)).toInt.toNat 7 + 0 + 0 = n.val
    rw [e, hn, WordCmp.toInt_ofNat_of_lt (by omega)]
    omega
  | ⟨4, _⟩ =>
    show 0 + 0 + k.val = k.val; omega

/-- The word two's logarithm. -/
theorem log_two : Ideal.log (Ideal.ofBits .f32 0x40000000#32) = ((Real.log 2 : ℝ) : EReal) := by
  have e : (Ideal.ofBits .f32 0x40000000#32 : EReal) = ((2 : ℝ) : EReal) := by
    simp [Ideal.ofBits, Ideal.ieee]
    rw [← EReal.coe_mul]
    norm_num
  rw [e]
  show (if (2 : ℝ) ≤ 0 then (⊥ : EReal) else ((Real.log 2 : ℝ) : EReal)) = _
  rw [if_neg (by norm_num)]

/-- Whether the query attends to key `k` of the block that slot `s` names. -/
def takes (A : Arrays) (b : Fin 32) (h : Fin 8) (t : Fin 2048) (p : Fin 4 × Fin 256) : Prop :=
  256 * (slot A b h t p.1).val + p.2.val ≤ t.val ∧ (p.1.val = 3 ∨ (slot A b h t p.1).val < t.val / 256)

instance (A : Arrays) (b : Fin 32) (h : Fin 8) (t : Fin 2048) : DecidablePred (takes A b h t) := fun p =>
  inferInstanceAs (Decidable (256 * (slot A b h t p.1).val + p.2.val ≤ t.val ∧ (p.1.val = 3 ∨ (slot A b h t p.1).val < t.val / 256)))

/-- The score of key `k` of the block that slot `s` names. -/
def slotScore (A : Arrays) (b : Fin 32) (h : Fin 8) (t : Fin 2048) (p : Fin 4 × Fin 256) : ℝ :=
  score (A.Q b h t) (A.keys b h) (slot A b h t p.1, p.2)

/-- The masked logits. -/
theorem logit_value (H : HoldsAt A V0) (b : Fin 32) (h : Fin 8) (t : Fin 2048) (s : Fin 4) (k : Fin 256) :
    res_main_v54 V0 (ix4 b h t ⟨256 * s.val + k.val, by omega⟩)
      = if takes A b h t (s, k) then ((slotScore A b h t (s, k) * Real.log 2 : ℝ) : EReal) else ⊥ := by
  unfold res_main_v54 res_main_v0 res_main_v7
  clean_types
  pointwise
  have hn := (slot A b h t s).isLt
  have hs := s.isLt
  have ht := t.isLt
  have hk := k.isLt
  have hu : (Finset.univ : Finset (Fin 1)) = {0} := rfl
  have hm : IntOp.addi (IntOp.muli (BitVec.ofNat 32 (slot A b h t s).val) 256#32) (BitVec.ofNat 32 k.val)
      = BitVec.ofNat 32 (256 * (slot A b h t s).val + k.val) := by
    show BitVec.ofNat 32 (slot A b h t s).val * 256#32 + BitVec.ofNat 32 k.val = _
    rw [← BitVec.ofNat_mul, ← BitVec.ofNat_add, mul_comm]
  have hok : IntOp.andi (IntOp.cmpi .sge (BitVec.ofNat 32 (slot A b h t s).val) 0#32)
      (IntOp.cmpi .sle (BitVec.ofNat 32 (slot A b h t s).val) 7#32) = 1#1 := by
    rw [WordCmp.cmpi_sge_ofNat (w := 32) (by omega) (by omega), WordCmp.cmpi_sle_ofNat (w := 32) (by omega) (by omega),
      decide_eq_true (Nat.zero_le _), decide_eq_true (by omega : (slot A b h t s).val ≤ 7)]
    rfl
  rw [hu, Finset.fold_singleton, wrapped_value H, slot_value H, own_value, hm, hok,
    WordCmp.cmpi_sle_ofNat (w := 32) (by omega) (by omega), WordCmp.cmpi_eq_ofNat (w := 32) (by omega) (by omega),
    WordCmp.cmpi_slt_ofNat (w := 32) (by omega) (by omega), WordCmp.ori_ofBool, WordCmp.andi_ofBool,
    ← Bool.decide_or, ← Bool.decide_and, sel, gather_value _ _ b h t s k (slot A b h t s) (wrapped_value H b h t s)]
  refine if_congr Iff.rfl ?_ ofBits_bot
  show Scalar.select (1#1) _ _ = _
  have e1 : ∀ x y : EReal, Scalar.select (1#1) x y = x := fun x y => rfl
  rw [e1]
  pointwise
  rw [log_two, EReal.coe_mul]
  refine congrArg (· * _) ?_
  have ep : ∀ hh, (⟨(slot A b h t s).val * 256 + k.val, hh⟩ : Fin 2048) = pos (slot A b h t s) k := fun hh =>
    Fin.ext (congrArg (· + k.val) (mul_comm _ 256))
  refine (dot_coe _ _ (A.Q b h t) (A.keys b h (slot A b h t s) k) (fun d => H.q b h t d) (fun d => ?_)).trans ?_
  · rw [ep]
    exact H.k b h _ d
  · exact congrArg _ (Finset.sum_congr rfl fun d _ => mul_comm _ _)

end Moba

end
-- ==== Proof.RefWeights.lean ====
/-
  The reference's weights: a softmax over the gathered keys, which the one-hot product brings back to the blocks.
-/
module

public import proofs.«01_k».proof.Proof.RefScores

@[expose] public section

set_option maxRecDepth 16384

noncomputable section

namespace Moba

open Idealize.ShloMosaic Idealize.ShloMosaic.TcCoe Idealize.SL.Sem Idealize.ShloMosaic.StableHlo
open Cert.ReferenceIdeal Cert.ReferenceIdeal.Gen Cert.ReferenceIdeal.Value

variable {A : Arrays} {V0 : Valuation τ sig (Elt Ideal)}

/-- The last slot names the own block. -/
theorem slot_own (A : Arrays) (b : Fin 32) (h : Fin 8) (t : Fin 2048) (s : Fin 4) (hs : s.val = 3) :
    (slot A b h t s).val = t.val / 256 := by
  unfold slot
  rw [if_neg (by omega)]

/-- A slot before the last names a source of the sort. -/
theorem slot_past (A : Arrays) (b : Fin 32) (h : Fin 8) (t : Fin 2048) (s : Fin 4) (hs : s.val < 3) :
    slot A b h t s = source (gates' A b h t) (t.val / 256) ⟨s.val, by omega⟩ := by
  unfold slot
  rw [if_pos hs]

/-- No two slots with a key the query attends to name one block. -/
theorem slot_unique (A : Arrays) (b : Fin 32) (h : Fin 8) (t : Fin 2048) (k : Fin 256) (s s' : Fin 4)
    (e : slot A b h t s = slot A b h t s') (hs : takes A b h t (s, k)) (hs' : takes A b h t (s', k)) : s = s' := by
  have ev := congrArg Fin.val e
  have o : ∀ s : Fin 4, takes A b h t (s, k) → s.val < 3 → (slot A b h t s).val < t.val / 256 := fun s hs h3 =>
    hs.2.elim (fun h => absurd h h3.ne) id
  by_cases h3 : s.val < 3 <;> by_cases h3' : s'.val < 3
  · rw [slot_past A b h t s h3, slot_past A b h t s' h3'] at e
    exact Fin.ext (congrArg (fun x : Fin 8 => x.val) (source_injective _ _ e))
  · have := o s hs h3
    rw [ev, slot_own A b h t s' (by omega)] at this
    exact absurd this (lt_irrefl _)
  · have := o s' hs' h3'
    rw [← ev, slot_own A b h t s (by omega)] at this
    exact absurd this (lt_irrefl _)
  · exact Fin.ext (by omega)

/-- The slots reach exactly the keys that the query attends to. -/
theorem slot_reaches (A : Arrays) (b : Fin 32) (h : Fin 8) (t : Fin 2048) (n : Fin 8) (k : Fin 256) :
    (∃ s, slot A b h t s = n ∧ takes A b h t (s, k)) ↔ act (gates' A b h t) (t.val / 256) (t.val % 256) (n, k) := by
  have hg : ∀ n, gates' A b h t n ≠ ⊥ := fun n => EReal.coe_ne_bot _
  have hk := k.isLt
  have ht := t.isLt
  constructor
  · rintro ⟨s, rfl, h1, h2⟩
    have h1 : 256 * (slot A b h t s).val + k.val ≤ t.val := h1
    by_cases hs : s.val < 3
    · have hl : (slot A b h t s).val < t.val / 256 := h2.elim (fun h => absurd h hs.ne) id
      exact .inr ⟨hl, (mem_top_iff _ _ hg _ hl).mp ⟨⟨s.val, by omega⟩, hs, (slot_past A b h t s hs).symm⟩⟩
    · have e := slot_own A b h t s (by omega)
      exact .inl ⟨e, by show k.val ≤ t.val % 256; omega⟩
  · rintro (⟨h1, h2⟩ | ⟨h1, h2⟩)
    · have h1 : n.val = t.val / 256 := h1
      have h2 : k.val ≤ t.val % 256 := h2
      have e := slot_own A b h t 3 rfl
      exact ⟨3, Fin.ext (e.trans h1.symm), by show 256 * (slot A b h t 3).val + k.val ≤ t.val; omega, .inl rfl⟩
    · have h1 : n.val < t.val / 256 := h1
      obtain ⟨s, hs, e⟩ := (mem_top_iff _ _ hg n h1).mpr h2
      have e' : slot A b h t ⟨s.val, by omega⟩ = n := (slot_past A b h t ⟨s.val, by omega⟩ hs).trans e
      refine ⟨⟨s.val, by omega⟩, e', ?_, .inr (by show (slot A b h t _).val < _; rw [e']; exact h1)⟩
      show 256 * (slot A b h t ⟨s.val, _⟩).val + k.val ≤ t.val
      rw [e']
      omega

/-- Counted: one slot where the query attends to the key, none elsewhere. -/
theorem slot_count (A : Arrays) (b : Fin 32) (h : Fin 8) (t : Fin 2048) (n : Fin 8) (k : Fin 256) :
    (∑ s, if slot A b h t s = n ∧ takes A b h t (s, k) then (1 : ℝ) else 0)
      = if act (gates' A b h t) (t.val / 256) (t.val % 256) (n, k) then 1 else 0 := by
  by_cases ha : ∃ s, slot A b h t s = n ∧ takes A b h t (s, k)
  · rw [if_pos ((slot_reaches A b h t n k).mp ha)]
    obtain ⟨s, hs⟩ := ha
    rw [Finset.sum_eq_single s (fun s' _ hne => if_neg fun hs' =>
      hne (slot_unique A b h t k s' s (hs'.1.trans hs.1.symm) hs'.2 hs.2)) fun h => absurd (Finset.mem_univ _) h, if_pos hs]
  · rw [if_neg fun h' => ha ((slot_reaches A b h t n k).mpr h')]
    exact Finset.sum_eq_zero fun s _ => if_neg fun hs => ha ⟨s, hs⟩

/-- The first key of the own block is attended to. -/
theorem takes_some (A : Arrays) (b : Fin 32) (h : Fin 8) (t : Fin 2048) : takes A b h t (3, 0) := by
  have e := slot_own A b h t 3 rfl
  exact ⟨by show 256 * (slot A b h t 3).val + 0 ≤ t.val; omega, .inl rfl⟩

/-- A gathered key's place among the 1024. -/
abbrev cellAt (s : Fin 4) (k : Fin 256) : Fin 1024 := ⟨256 * s.val + k.val, by omega⟩

/-- A sum over the 1024 gathered keys, slot by slot. -/
theorem sum_cells (f : Fin 1024 → EReal) : ∑ x, f x = ∑ p : Fin 4 × Fin 256, f (cellAt p.1 p.2) := by
  refine (Fintype.sum_equiv (finProdFinEquiv (m := 4) (n := 256)) (fun p => f (cellAt p.1 p.2)) f fun p =>
    congrArg f (Fin.ext ?_)).symm
  show 256 * p.1.val + p.2.val = p.2.val + 256 * p.1.val
  omega

/-- Every gathered key's place is a slot's. -/
theorem cell_of (x : Fin 1024) : ∃ s k, x = cellAt s k :=
  ⟨⟨x.val / 256, by omega⟩, ⟨x.val % 256, by omega⟩, Fin.ext (by show x.val = 256 * (x.val / 256) + x.val % 256; omega)⟩

/-- The greatest entry of every row. -/
theorem row_max (X : S32x8x2048x1024.Idx → EReal) (b : Fin 32) (h : Fin 8) (t : Fin 2048) :
    Host.reduce (α := EReal) (FloatOps.maximumf (F := Ideal) (φ := .f32)) X (constant (F := Ideal) S_ .f32 0xFF800000#32)
        reducesTo_S32x8x2048x1024_S32x8x2048_d3 h_S_ (ix3 b h t)
      = Finset.univ.fold max (Ideal.ofBits .f32 0xFF800000#32) fun x : Fin 1024 => X (ix4 b h t x) := by
  simp only [pointwise]

/-- The exponentials of an array, with one number per row taken off. -/
theorem row_exp (X : S32x8x2048x1024.Idx → EReal) (M : S32x8x2048.Idx → EReal) (b : Fin 32) (h : Fin 8) (t : Fin 2048)
    (x : Fin 1024) :
    Host.exp (F := Ideal) (φ := .f32) (subf X (broadcastInDim S32x8x2048x1024 ![0, 1, 2, 3] bcast_S32x8x2048x1_S32x8x2048x1024_0_1_2_3 (broadcastInDim S32x8x2048x1 ![0, 1, 2] bcast_S32x8x2048_S32x8x2048x1_0_1_2 (maximumf (broadcastInDim S32x8x2048 ![] bcast_S_S32x8x2048 (constant S_ .f32 0xFF800000#32)) M)))) (ix4 b h t x)
      = Ideal.exp (X (ix4 b h t x) - max (Ideal.ofBits .f32 0xFF800000#32) (M (ix3 b h t))) := by
  pointwise

/-- The exponentials of an array, with every row's greatest entry taken off. -/
theorem row_exp_max (X : S32x8x2048x1024.Idx → EReal) (b : Fin 32) (h : Fin 8) (t : Fin 2048) (x : Fin 1024) :
    Host.exp (F := Ideal) (φ := .f32) (subf X (broadcastInDim S32x8x2048x1024 ![0, 1, 2, 3] bcast_S32x8x2048x1_S32x8x2048x1024_0_1_2_3 (broadcastInDim S32x8x2048x1 ![0, 1, 2] bcast_S32x8x2048_S32x8x2048x1_0_1_2 (maximumf (broadcastInDim S32x8x2048 ![] bcast_S_S32x8x2048 (constant S_ .f32 0xFF800000#32)) (Host.reduce (FloatOps.maximumf (F := Ideal) (φ := .f32)) X (constant (F := Ideal) S_ .f32 0xFF800000#32) reducesTo_S32x8x2048x1024_S32x8x2048_d3 h_S_))))) (ix4 b h t x)
      = Ideal.exp (X (ix4 b h t x) - Finset.univ.fold max ⊥ fun x : Fin 1024 => X (ix4 b h t x)) := by
  have e := row_max X b h t
  rw [ofBits_bot] at e
  refine (row_exp X _ b h t x).trans ?_
  refine congrArg (fun m : EReal => Ideal.exp (X (ix4 b h t x) - m)) ?_
  refine (congrArg (max _) e).trans ?_
  rw [ofBits_bot]
  exact bot_sup_eq _

/-- The logits of a query. -/
def logits (V0 : Valuation τ sig (Elt Ideal)) (b : Fin 32) (h : Fin 8) (t : Fin 2048) (x : Fin 1024) : EReal :=
  res_main_v54 V0 (ix4 b h t x)

/-- Their exponentials. -/
def exps (V0 : Valuation τ sig (Elt Ideal)) (b : Fin 32) (h : Fin 8) (t : Fin 2048) (x : Fin 1024) : EReal :=
  res_main_v61 V0 (ix4 b h t x)

/-- The largest logit is a real. -/
theorem top_real (H : HoldsAt A V0) (b : Fin 32) (h : Fin 8) (t : Fin 2048) :
    ∃ m : ℝ, (Finset.univ.fold max ⊥ fun x : Fin 1024 => logits V0 b h t x) = (m : EReal) := by
  refine ⟨_, (EReal.coe_toReal (fold_max_ne_top _ _ fun x _ => ?_)
    (fold_max_ne_bot _ _ (cellAt 3 0) (Finset.mem_univ _) ?_)).symm⟩
  · obtain ⟨s, k, rfl⟩ := cell_of x
    rw [logits, logit_value H]
    split
    · exact EReal.coe_ne_top _
    · exact bot_ne_top
  · rw [logits, logit_value H, if_pos (takes_some A b h t)]
    exact EReal.coe_ne_bot _

/-- The exponentials, with the largest logit taken off. -/
theorem exp_value (V0 : Valuation τ sig (Elt Ideal)) (b : Fin 32) (h : Fin 8) (t : Fin 2048) (x : Fin 1024) :
    exps V0 b h t x = Ideal.exp (logits V0 b h t x - Finset.univ.fold max ⊥ fun x : Fin 1024 => logits V0 b h t x) := by
  unfold exps logits res_main_v61
  generalize res_main_v54 V0 = X
  exact row_exp_max X b h t x

/-- The softmax over the gathered keys. -/
theorem weight_value (H : HoldsAt A V0) (b : Fin 32) (h : Fin 8) (t : Fin 2048) (s : Fin 4) (k : Fin 256) :
    Ideal.div (exps V0 b h t (cellAt s k)) (∑ x : Fin 1024, exps V0 b h t x)
      = (wt (takes A b h t) (slotScore A b h t) (s, k) : EReal) := by
  obtain ⟨m, hm⟩ := top_real H b h t
  rw [sum_cells, ← exp_form (takes A b h t) (slotScore A b h t) m ⟨_, takes_some A b h t⟩ (s, k)]
  have e : ∀ p : Fin 4 × Fin 256, exps V0 b h t (cellAt p.1 p.2)
      = Ideal.exp ((if takes A b h t p then ((slotScore A b h t p * Real.log 2 : ℝ) : EReal) else ⊥) - (m : EReal)) := fun p => by
    rw [exp_value, hm, logits, logit_value H]
  rw [e (s, k), Finset.sum_congr rfl fun p _ => e p]

/-- The one-hot product: the weights of the blocks' own keys. -/
theorem spread_value (A : Arrays) (b : Fin 32) (h : Fin 8) (t : Fin 2048) (n : Fin 8) (k : Fin 256) :
    (∑ s : Fin 4, (if slot A b h t s = n then (1 : EReal) else 0) * (wt (takes A b h t) (slotScore A b h t) (s, k) : EReal))
      = (wt (act (gates' A b h t) (t.val / 256) (t.val % 256)) (score (A.Q b h t) (A.keys b h)) (n, k) : EReal) := by
  rw [← gather_wt (slot A b h t) (takes A b h t) _ _ (slot_count A b h t) n k, coe_sum]
  refine Finset.sum_congr rfl fun s _ => ?_
  rw [EReal.coe_mul]
  refine congrArg (· * _) ?_
  split <;> rfl

end Moba

end
-- ==== Proof.RefStages.lean ====
/-
  The reference's stages after the softmax: the weighted sums, the gate, the projection, the norm and the residual.
-/
module

public import proofs.«01_k».proof.Proof.RefWeights

@[expose] public section

set_option maxRecDepth 16384

noncomputable section

namespace Moba

open Idealize.ShloMosaic Idealize.ShloMosaic.TcCoe Idealize.SL.Sem Idealize.ShloMosaic.StableHlo
open Cert.ReferenceIdeal Cert.ReferenceIdeal.Gen Cert.ReferenceIdeal.Value

variable {A : Arrays} {V0 : Valuation τ sig (Elt Ideal)}

/-- Per slot and block, one where the slot names the block. -/
def hits (W : IVec S32x8x2048x4 32) : FVec Ideal S32x8x2048x4x8 .f32 :=
  uitofp .f32 (cmpi .eq (broadcastInDim S32x8x2048x4x8 ![0, 1, 2, 3, 4] bcast_S32x8x2048x4x1_S32x8x2048x4x8_0_1_2_3_4
      (broadcastInDim S32x8x2048x4x1 ![0, 1, 2, 3] bcast_S32x8x2048x4_S32x8x2048x4x1_0_1_2_3 W))
    (broadcastInDim S32x8x2048x4x8 ![0, 1, 2, 3, 4] bcast_S1x1x1x1x8_S32x8x2048x4x8_0_1_2_3_4 (iotaInDim S1x1x1x1x8 32 4)))

/-- The sums of the rows. -/
def sums (E : FVec Ideal S32x8x2048x1024 .f32) : FVec Ideal S32x8x2048 .f32 :=
  Host.reduceAdd E (constant S_ .f32 0x00000000#32) reducesTo_S32x8x2048x1024_S32x8x2048_d3 h_S_

/-- The rows divided by `R`, slot by slot. -/
def shares (E : FVec Ideal S32x8x2048x1024 .f32) (R : FVec Ideal S32x8x2048 .f32) : FVec Ideal S32x8x2048x4x256 .f32 :=
  shapeCast _ (Host.divf E (broadcastInDim S32x8x2048x1024 ![0, 1, 2, 3] bcast_S32x8x2048x1_S32x8x2048x1024_0_1_2_3
    (broadcastInDim S32x8x2048x1 ![0, 1, 2] bcast_S32x8x2048_S32x8x2048x1_0_1_2 R))) shapeCasts_S32x8x2048x1024_S32x8x2048x4x256

/-- The slots' weights brought to the blocks. -/
def spread (P : FVec Ideal S32x8x2048x4x8 .f32) (Q : FVec Ideal S32x8x2048x4x256 .f32) : FVec Ideal S32x8x2048x8x256 .f32 :=
  Host.dotGeneral dot_S32x8x2048x4x8_S32x8x2048x4x256_S32x8x2048x8x256_3_3_4_4_012_012 none P Q

/-- The values, block by block. -/
def keyed (vt : FVec Ideal S32x8x144x2048 .bf16) : FVec Ideal S32x8x8x256x128 .f32 :=
  shapeCast _ (transpose S32x8x2048x128 [0, 1, 3, 2] (extf .f32 (extractStridedSlice S32x8x128x2048 ![0, 0, 0, 0] vt
    slices_S32x8x144x2048_S32x8x128x2048_0_0_0_0) bitsLt_bf16_f32) transposes_S32x8x128x2048_S32x8x2048x128_0_1_3_2)
    shapeCasts_S32x8x2048x128_S32x8x8x256x128

/-- The weighted sums of the values. -/
def weighted (P : FVec Ideal S32x8x2048x8x256 .f32) (Y : FVec Ideal S32x8x8x256x128 .f32) : FVec Ideal S32x8x2048x128 .f32 :=
  Host.dotGeneral dot_S32x8x2048x8x256_S32x8x8x256x128_S32x8x2048x128_43_32_2_4_01_01 none P Y

/-- The heads side by side. -/
def joined (x : FVec Ideal S32x8x2048x128 .f32) : FVec Ideal S32x2048x1024 .f32 :=
  shapeCast _ (transpose S32x2048x8x128 [0, 2, 1, 3] x transposes_S32x8x2048x128_S32x2048x8x128_0_2_1_3) shapeCasts_S32x2048x8x128_S32x2048x1024

/-- The gate. -/
def gateAll (z : FVec Ideal S32x2048x1024 .f32) : FVec Ideal S32x2048x1024 .f32 :=
  mulf z (Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf z))))

/-- The projection. -/
def projectAll (x : FVec Ideal S32x2048x1024 .f32) (w : FVec Ideal S1024x1024 .bf16) : FVec Ideal S32x2048x1024 .f32 :=
  Host.dotGeneral dot_S32x2048x1024_S1024x1024_S32x2048x1024_2_0_01_1_n_n none x (extf .f32 w bitsLt_bf16_f32)

theorem hits_value (W : IVec S32x8x2048x4 32) (b : Fin 32) (h : Fin 8) (t : Fin 2048) (s : Fin 4) (n : Fin 8) (v : Fin 8)
    (hW : W (ix4 b h t s) = BitVec.ofNat 32 v.val) : hits W (ix5 b h t s n) = if v = n then (1 : EReal) else 0 := by
  pointwise [hits]
  have hv := v.isLt
  have hn := n.isLt
  rw [hW, WordCmp.cmpi_eq_ofNat (w := 32) (by omega) (by omega)]
  by_cases e : v = n
  · subst e
    rw [if_pos rfl, decide_eq_true rfl]
    show (((BitVec.ofBool true).toNat : ℝ) : EReal) = 1
    simp
  · rw [if_neg e, decide_eq_false fun h => e (Fin.ext h)]
    show (((BitVec.ofBool false).toNat : ℝ) : EReal) = 0
    simp

theorem sums_value (E : FVec Ideal S32x8x2048x1024 .f32) (b : Fin 32) (h : Fin 8) (t : Fin 2048) :
    sums E (ix3 b h t) = ∑ x : Fin 1024, (E (ix4 b h t x) : EReal) := by
  pointwise [sums]

theorem shares_value (E : FVec Ideal S32x8x2048x1024 .f32) (R : FVec Ideal S32x8x2048 .f32) (b : Fin 32) (h : Fin 8)
    (t : Fin 2048) (s : Fin 4) (k : Fin 256) :
    shares E R (ix5 b h t s k) = Ideal.div (E (ix4 b h t (cellAt s k))) (R (ix3 b h t)) := by
  pointwise [shares]
  have e : ∀ hh, (⟨s.val * 256 + k.val, hh⟩ : Fin 1024) = cellAt s k := fun hh => Fin.ext (congrArg (· + k.val) (mul_comm _ 256))
  rw [e]

theorem spread_at (P : FVec Ideal S32x8x2048x4x8 .f32) (Q : FVec Ideal S32x8x2048x4x256 .f32) (b : Fin 32) (h : Fin 8)
    (t : Fin 2048) (n : Fin 8) (k : Fin 256) :
    spread P Q (ix5 b h t n k) = ∑ s : Fin 4, (P (ix5 b h t s n) : EReal) * Q (ix5 b h t s k) := by
  pointwise [spread]

theorem keyed_value (vt : FVec Ideal S32x8x144x2048 .bf16) (b : Fin 32) (h : Fin 8) (n : Fin 8) (k : Fin 256) (d : Fin 128) :
    keyed vt (ix5 b h n k d) = vt (ix4 b h ⟨d.val, by omega⟩ (pos n k)) := by
  pointwise [keyed]
  have e : ∀ hh, (⟨n.val * 256 + k.val, hh⟩ : Fin 2048) = pos n k := fun hh => Fin.ext (congrArg (· + k.val) (mul_comm _ 256))
  rw [e]

theorem weighted_value (P : FVec Ideal S32x8x2048x8x256 .f32) (Y : FVec Ideal S32x8x8x256x128 .f32) (b : Fin 32) (h : Fin 8)
    (t : Fin 2048) (d : Fin 128) :
    weighted P Y (ix4 b h t d) = ∑ k : Fin 256, ∑ n : Fin 8, (P (ix5 b h t n k) : EReal) * Y (ix5 b h n k d) := by
  pointwise [weighted]

theorem joined_value (x : FVec Ideal S32x8x2048x128 .f32) (b : Fin 32) (t : Fin 2048) (e : Fin 1024) :
    joined x (ix3 b t e) = x (ix4 b ⟨e.val / 128, by omega⟩ t ⟨e.val % 128, by omega⟩) := by
  pointwise [joined]

theorem gateAll_value (z : FVec Ideal S32x2048x1024 .f32) (b : Fin 32) (t : Fin 2048) (e : Fin 1024) :
    gateAll z (ix3 b t e) = silu (z (ix3 b t e)) := by
  pointwise [gateAll, silu]

theorem projectAll_value (x : FVec Ideal S32x2048x1024 .f32) (w : FVec Ideal S1024x1024 .bf16) (b : Fin 32) (t : Fin 2048)
    (c : Fin 1024) : projectAll x w (ix3 b t c) = ∑ e : Fin 1024, (x (ix3 b t e) : EReal) * w (ix2 e c) := by
  pointwise [projectAll]

/-- The residual plus the gated norm. -/
def finishAll (hin : FVec Ideal S32x2048x1024 .f32) (md : FVec Ideal S32x3072 .f32) (y : FVec Ideal S32x2048x1024 .f32)
    (pg : FVec Ideal S1024 .f32) : FVec Ideal S32x2048x1024 .f32 :=
  addf hin (mulf (broadcastInDim S32x2048x1024 ![0, 1, 2] bcast_S32x1x1024_S32x2048x1024_0_1_2 (broadcastInDim S32x1x1024 ![0, 2] bcast_S32x1024_S32x1x1024_0_2 (extractStridedSlice S32x1024 ![0, 2048] md slices_S32x3072_S32x1024_0_2048))) (mulf (mulf y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf y y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 pg))))

theorem finishAll_value (hin : FVec Ideal S32x2048x1024 .f32) (md : FVec Ideal S32x3072 .f32)
    (y : FVec Ideal S32x2048x1024 .f32) (pg : FVec Ideal S1024 .f32) (b : Fin 32) (t : Fin 2048) (c : Fin 1024) :
    finishAll hin md y pg (ix3 b t c)
      = finish (hin (ix3 b t c)) (md (ix2 b ⟨2048 + c.val, by omega⟩)) (fun e => y (ix3 b t e)) (pg (ix1 c)) c := by
  pointwise [finishAll, finish]

/-- A query's attention output, as the reference spreads and sums it. -/
theorem attention_value (H : HoldsAt A V0) (b : Fin 32) (h : Fin 8) (t : Fin 2048) (d : Fin 128) :
    weighted (spread (hits (res_main_v23 V0)) (shares (res_main_v61 V0) (sums (res_main_v61 V0))))
        (keyed (V0 (Proc.devRef .tc main_arg2))) (ix4 b h t d)
      = attn (A.Q b h t) (A.keys b h) (gates' A b h t) (t.val / 256) (t.val % 256) (A.vals b h ⟨d.val, by omega⟩) := by
  have hs : ∀ s k, shares (res_main_v61 V0) (sums (res_main_v61 V0)) (ix5 b h t s k)
      = (wt (takes A b h t) (slotScore A b h t) (s, k) : EReal) := fun s k => by
    rw [shares_value, sums_value]
    exact weight_value H b h t s k
  rw [weighted_value, Finset.sum_comm, attn, Fintype.sum_prod_type]
  refine Finset.sum_congr rfl fun n _ => Finset.sum_congr rfl fun k _ => ?_
  rw [spread_at, ← spread_value A b h t n k, keyed_value, mul_comm]
  refine congrArg₂ (· * ·) (H.v b h _ _) (Finset.sum_congr rfl fun s _ => ?_)
  rw [hits_value _ b h t s n _ (slot_value H b h t s), hs]

end Moba

end
-- ==== Proof.RefValue.lean ====
/-
  The reference's result: the layer's.
-/
module

public import proofs.«01_k».proof.Proof.RefStages

@[expose] public section

set_option maxRecDepth 16384

noncomputable section

namespace Moba

open Idealize.ShloMosaic Idealize.ShloMosaic.TcCoe Idealize.SL.Sem Idealize.ShloMosaic.StableHlo
open Cert.ReferenceIdeal Cert.ReferenceIdeal.Gen Cert.ReferenceIdeal.Value

variable {A : Arrays} {V0 : Valuation τ sig (Elt Ideal)}

/-- The projected rows, stage by stage. -/
theorem stages (V0 : Valuation τ sig (Elt Ideal)) : res_main_v78 V0 = projectAll (mulf (joined (weighted (spread (hits (res_main_v23 V0))
      (shares (res_main_v61 V0) (sums (res_main_v61 V0)))) (keyed (V0 (Proc.devRef .tc main_arg2)))))
      (gateAll (joined (extf .f32 (V0 (Proc.devRef .tc main_arg4)) bitsLt_bf16_f32)))) (V0 (Proc.devRef .tc main_arg7)) := rfl

/-- Projected rows of the gated attention outputs. -/
theorem projected_of (H : HoldsAt A V0) (b : Fin 32) (t : Fin 2048) (c : Fin 1024)
    (X : FVec Ideal S32x8x2048x128 .f32)
    (hX : ∀ h d, X (ix4 b h t d)
      = attn (A.Q b h t) (A.keys b h) (gates' A b h t) (t.val / 256) (t.val % 256) (A.vals b h ⟨d.val, by omega⟩)) :
    projectAll (mulf (joined X)
      (gateAll (joined (extf .f32 (V0 (Proc.devRef .tc main_arg4)) bitsLt_bf16_f32)))) (V0 (Proc.devRef .tc main_arg7)) (ix3 b t c) = projected A b t c := by
  refine (projectAll_value _ _ b t c).trans ?_
  unfold projected mixed
  refine Finset.sum_congr rfl fun i _ => ?_
  have h1 : joined X (ix3 b t i) = _ := (joined_value X b t i).trans (hX _ _)
  have h2 : gateAll (joined (extf .f32 (V0 (Proc.devRef .tc main_arg4)) bitsLt_bf16_f32)) (ix3 b t i) = silu (A.z b ⟨i.val / 128, by omega⟩ t ⟨i.val % 128, by omega⟩) := by
    rw [gateAll_value, joined_value]
    exact congrArg silu (H.z b _ t _)
  refine (congrArg (· * _) ((mulf_apply _ _ _).trans (congrArg₂ (· * ·) h1 h2))).trans (congrArg (_ * ·) (H.w i c))

/-- The projected rows. -/
theorem projected_value (H : HoldsAt A V0) (b : Fin 32) (t : Fin 2048) (c : Fin 1024) :
    res_main_v78 V0 (ix3 b t c) = projected A b t c :=
  (congrFun (stages V0) (ix3 b t c)).trans (projected_of H b t c _ fun h d => attention_value H b h t d)

/-- The result at an index, from the rows at hand. -/
theorem finish_of (H : HoldsAt A V0) (Y : FVec Ideal S32x2048x1024 .f32) (hY : ∀ b t c, Y (ix3 b t c) = projected A b t c)
    (b : Fin 32) (t : Fin 2048) (c : Fin 1024) :
    finishAll (V0 (Proc.devRef .tc main_arg5)) (V0 (Proc.devRef .tc main_arg6)) Y (V0 (Proc.devRef .tc main_arg8)) (ix3 b t c)
      = result A b t c := by
  refine (finishAll_value _ _ _ _ b t c).trans ?_
  unfold result
  rw [show (fun e => Y (ix3 b t e)) = projected A b t from funext fun e => hY b t e, H.pg]
  exact congrArg₂ (fun x y => finish x y _ _ _) (H.h b t c) (H.md b _)

/-- The reference's result array. -/
theorem reference_value (H : HoldsAt A V0) :
    finishAll (V0 (Proc.devRef .tc main_arg5)) (V0 (Proc.devRef .tc main_arg6)) (res_main_v78 V0) (V0 (Proc.devRef .tc main_arg8))
      = fun y : S32x2048x1024.Idx => result A (y 0) (y 1) (y 2) :=
  funext fun y => (congrArg (finishAll _ _ _ _) (eq_ix3 y)).trans
    (finish_of H _ (fun b t c => projected_value H b t c) (y 0) (y 1) (y 2))

end Moba

end
-- ==== Proof.Algebraic.lean ====
/-
  The value claim: from arguments that agree, with finite queries, keys and key means and a row of ones under the values,
  the kernel and the reference end with the same result.
-/
module

public import proofs.«01_k».proof.Defs
public import proofs.«01_k».proof.Proof.Frames
public import proofs.«01_k».proof.Proof.Pre
public import proofs.«01_k».proof.Proof.RefValue

@[expose] public section

noncomputable section

namespace Moba

open Idealize.ShloMosaic Idealize.ShloMosaic.TcCoe Idealize.SL.Sem Idealize.ShloMosaic.StableHlo

/-- The layer's arrays that a memory of the kernel holds. -/
def arraysOf (m : (ℓ : Loc Cert.KernelIdeal.nD Cert.KernelIdeal.τ Cert.KernelIdeal.sig) → Buf (Elt Ideal) ℓ)
    (c : Dev Cert.KernelIdeal.nD)
    (ones : ∀ (b : Fin 32) (h : Fin 8) (x : Fin 2048),
      m ((c : Thread Cert.KernelIdeal.nD Cert.KernelIdeal.τ).loc Cert.KernelIdeal.main_arg2) (ix4 b h 128 x) = (1 : EReal)) :
    Arrays where
  Q b h t d := EReal.toReal (m ((c : Thread Cert.KernelIdeal.nD Cert.KernelIdeal.τ).loc Cert.KernelIdeal.main_arg0) (ix4 b h t d))
  K b h t d := EReal.toReal (m ((c : Thread Cert.KernelIdeal.nD Cert.KernelIdeal.τ).loc Cert.KernelIdeal.main_arg1) (ix4 b h t d))
  M b h n d := EReal.toReal (m ((c : Thread Cert.KernelIdeal.nD Cert.KernelIdeal.τ).loc Cert.KernelIdeal.main_arg3) (ix4 b n h d))
  v b h e t := m ((c : Thread Cert.KernelIdeal.nD Cert.KernelIdeal.τ).loc Cert.KernelIdeal.main_arg2) (ix4 b h e t)
  z b h t d := m ((c : Thread Cert.KernelIdeal.nD Cert.KernelIdeal.τ).loc Cert.KernelIdeal.main_arg4) (ix4 b h t d)
  h b t c' := m ((c : Thread Cert.KernelIdeal.nD Cert.KernelIdeal.τ).loc Cert.KernelIdeal.main_arg5) (ix3 b t c')
  md b c' := m ((c : Thread Cert.KernelIdeal.nD Cert.KernelIdeal.τ).loc Cert.KernelIdeal.main_arg6) (ix2 b c')
  w e c' := m ((c : Thread Cert.KernelIdeal.nD Cert.KernelIdeal.τ).loc Cert.KernelIdeal.main_arg7) (ix2 e c')
  pg c' := m ((c : Thread Cert.KernelIdeal.nD Cert.KernelIdeal.τ).loc Cert.KernelIdeal.main_arg8) (ix1 c')
  ones := ones

/-- Under the precondition a memory of the kernel holds a layer's arrays. -/
theorem holds_of_pre (m : (ℓ : Loc Cert.KernelIdeal.nD Cert.KernelIdeal.τ Cert.KernelIdeal.sig) → Buf (Elt Ideal) ℓ)
    (hm : Cert.Pre_KernelIdeal_finite_with_ones m) (c : Dev Cert.KernelIdeal.nD) : ∃ A, HoldsIn A m c := by
  obtain ⟨hq, hk, hkm, ho⟩ := pre_read _ _ _ _ _ _ _ _ _ (hm c)
  exact ⟨arraysOf m c ho, fun b h t d => hq _, fun b h t d => hk _, fun _ _ _ _ => rfl, fun b n h d => hkm _,
    fun _ _ _ _ => rfl, fun _ _ _ => rfl, fun _ _ => rfl, fun _ _ => rfl, fun _ => rfl⟩

/-- Both run, from arguments that agree, and end with equal results. -/
theorem algebraic : Cert.algebraic_KernelIdeal_ReferenceIdeal_pre_finite_with_ones := by
  intro m g m' g' hm hargs
  refine ⟨_, Cert.KernelIdeal.Value.run_blocks m g, ?_⟩
  refine (θ_run Cert.ReferenceIdeal.defs _ _).mono (fun _ h c => ⟨(h c).1.trans ?_, (h c).2⟩)
    (Cert.ReferenceIdeal.Value.run (F := Ideal) m' g')
  obtain ⟨A, hA⟩ := holds_of_pre m hm c
  obtain ⟨h0, h1, h2, h3, h4, h5, h6, h7, h8⟩ := hargs c
  have hR : HoldsAt A (launchContents m' c) :=
    ⟨fun b h t d => (congrFun h0 _).trans (hA.q b h t d), fun b h t d => (congrFun h1 _).trans (hA.k b h t d),
      fun b h e t => (congrFun h2 _).trans (hA.v b h e t), fun b n h d => (congrFun h3 _).trans (hA.km b n h d),
      fun b h t d => (congrFun h4 _).trans (hA.z b h t d), fun b t i => (congrFun h5 _).trans (hA.h b t i),
      fun b i => (congrFun h6 _).trans (hA.md b i), fun e i => (congrFun h7 _).trans (hA.w e i),
      fun i => (congrFun h8 _).trans (hA.pg i)⟩
  exact (reference_value hR).trans (kernel_value hA).symm

end Moba

end
-- ==== Proof.ProjFrames.lean ====
/-
  The claims about the projection's programs one at a time: the frames, from the generated certificates, and the ledger of
  the named constant.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent

@[expose] public section

noncomputable section

namespace Moba.Proj

open Idealize.ShloMosaic Idealize.SL.Sem

/-- The printed kernel runs, keeps its arguments and ends with its counters at zero. -/
theorem frame_kernel : Cert.quiescent_Kernel2 := fun m ρ _ => Cert.Kernel2.Gen.frame m ρ

/-- So does the ideal kernel. -/
theorem frame_ideal : Cert.quiescent_Kernel2Ideal := fun m ρ _ => Cert.Kernel2Ideal.Gen.frame m ρ

/-- The ideal reference runs and keeps its arguments; it has no counters. -/
theorem frame_reference : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- The named constant has the value that its name states: the queries' scale is 1/(√128 · log 2). -/
theorem preserves : Cert.preserves_Kernel2_Kernel2Ideal :=
  IdealRules.named_const.statement Cert.Kernel2Ideal.κ "qscale" .f32 0x3E0293EE#32
    (((Real.sqrt 128 * Real.log 2)⁻¹ : ℝ) : EReal) rfl

end Moba.Proj

end
-- ==== Proof.ProjBlock.lean ====
/-
  The projection kernel's block: the norms, the four projections, the rotary turn and the key means of 512 rows, as
  mathematics and as the kernel's operations.
-/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Moba.Proj

open Idealize.ShloMosaic Cert.Kernel2Ideal Cert.Kernel2Ideal.Gen

/-! ### The mathematics -/

/-- A row over the root of its mean square. -/
def nrm (x : Fin 1024 → EReal) (e : Fin 1024) : EReal :=
  x e * Ideal.rsqrt (Ideal.div (∑ i, x i * x i) (Ideal.ofBits .f32 0x44800000#32) + Ideal.ofBits .f32 0x358637BD#32)

/-- The normed row under its weights. -/
def plain (x g : Fin 1024 → EReal) (e : Fin 1024) : EReal := nrm x e * g e

/-- The normed row under its weights, scaled and shifted. -/
def modulated (x g : Fin 1024 → EReal) (md : Fin 3072 → EReal) (e : Fin 1024) : EReal :=
  nrm x e * g e * (Ideal.ofBits .f32 0x3F800000#32 + md ⟨1024 + e.val, by omega⟩) + md ⟨e.val, by omega⟩

/-- The rotary turn of a head's features, by cosines and signed sines. -/
def turn (y cos sin : Fin 128 → EReal) (d : Fin 128) : EReal :=
  y d * cos d + y ⟨(d.val + 64) % 128, by omega⟩ * sin d

/-- Feature `d` of head `h`. -/
def col (h : Fin 8) (d : Fin 128) : Fin 1024 := ⟨128 * h.val + d.val, by omega⟩

/-- One over √128 · log 2. -/
def qscale : EReal := (((Real.sqrt 128 * Real.log 2)⁻¹ : ℝ) : EReal)

/-- The call's arrays, each by its indices. -/
structure Inputs where
  h : Fin 32 → Fin 2048 → Fin 1024 → EReal
  md : Fin 32 → Fin 3072 → EReal
  kg : Fin 1024 → EReal
  pg : Fin 1024 → EReal
  wk : Fin 1024 → Fin 1024 → EReal
  wv : Fin 1024 → Fin 1024 → EReal
  wi : Fin 1024 → Fin 2048 → EReal
  cos : Fin 32 → Fin 2048 → Fin 128 → EReal
  sin : Fin 32 → Fin 2048 → Fin 128 → EReal

namespace Inputs

variable (A : Inputs) (b : Fin 32)

/-- The row the keys and the values are projected from. -/
def kvRow (t : Fin 2048) : Fin 1024 → EReal := plain (A.h b t) A.kg

/-- The row the queries and the gate inputs are projected from. -/
def qzRow (t : Fin 2048) : Fin 1024 → EReal := modulated (A.h b t) A.pg (A.md b)

/-- The keys. -/
def key (h : Fin 8) (t : Fin 2048) (d : Fin 128) : EReal :=
  turn (fun d => ∑ e, A.kvRow b t e * A.wk e (col h d)) (A.cos b t) (A.sin b t) d

/-- The values, transposed, over rows of ones. -/
def val (h : Fin 8) (e : Fin 144) (t : Fin 2048) : EReal :=
  if he : e.val < 128 then ∑ i, A.wv (col h ⟨e.val, he⟩) i * A.kvRow b t i else Ideal.ofBits .bf16 0x3F80#16

/-- The queries. -/
def query (h : Fin 8) (t : Fin 2048) (d : Fin 128) : EReal :=
  turn (fun d => ∑ e, A.qzRow b t e * A.wi e ⟨(col h d).val, by omega⟩) (A.cos b t) (A.sin b t) d * qscale

/-- The gate inputs. -/
def zed (h : Fin 8) (t : Fin 2048) (d : Fin 128) : EReal :=
  ∑ e, A.qzRow b t e * A.wi e ⟨1024 + (col h d).val, by omega⟩

/-- The means of the keys' blocks. -/
def mean (n h : Fin 8) (d : Fin 128) : EReal :=
  Ideal.div (∑ r : Fin 256, A.key b h ⟨256 * n.val + r.val, by omega⟩ d) (Ideal.ofBits .f32 0x43800000#32)

end Inputs

/-! ### The kernel's operations -/

/-- One head's columns. -/
def head {φ : FTy} (x : FVec Ideal S512x1024 φ) (h : Fin 8) : FVec Ideal S512x128 φ :=
  extractStridedSlice S512x128 ![0, 128 * h.val] x (by revert h; decide)

/-- The rotary turn of a head's rows. -/
def turned (c s x : FVec Ideal S512x128 .f32) : FVec Ideal S512x128 .f32 :=
  addf (mulf x c) (mulf (dynamicRotate 1 64#32 none x rotates_S512x128_d1) s)

/-- A stored head of keys. -/
def keyPay (c s : FVec Ideal S512x128 .f32) (x : FVec Ideal S512x1024 .f32) (h : Fin 8) : FVec Ideal S1x1x512x128 .bf16 :=
  shapeCast S1x1x512x128 (truncf .bf16 (turned c s (head x h)) bitsLt_bf16_f32) shapeCasts_S512x128_S1x1x512x128

/-- A stored head of queries. -/
def queryPay (c s : FVec Ideal S512x128 .f32) (x : FVec Ideal S512x1024 .f32) (h : Fin 8) : FVec Ideal S1x1x512x128 .bf16 :=
  shapeCast S1x1x512x128 (truncf .bf16 (mulf (turned c s (head x h))
    (broadcast S512x128 (Named.named κ "qscale" 0x3E0293EE#32 : Ideal .f32))) bitsLt_bf16_f32) shapeCasts_S512x128_S1x1x512x128

/-- A stored head of gate inputs. -/
def zedPay (x : FVec Ideal S512x1024 .bf16) (h : Fin 8) : FVec Ideal S1x1x512x128 .bf16 :=
  shapeCast S1x1x512x128 (head x h) shapeCasts_S512x128_S1x1x512x128

/-- A stored head of transposed values. -/
def valPay (x : FVec Ideal S1024x512 .bf16) (h : Fin 8) : FVec Ideal S1x1x128x512 .bf16 :=
  shapeCast S1x1x128x512 (extractStridedSlice S128x512 ![128 * h.val, 0] x (by revert h; decide)) shapeCasts_S128x512_S1x1x128x512

/-- The stored ones. -/
def onesPay : FVec Ideal S1x1x16x512 .bf16 :=
  shapeCast S1x1x16x512 (broadcast S16x512 (Scalar.ofBits .bf16 0x3F80#16)) shapeCasts_S16x512_S1x1x16x512

/-- A stored mean of a block of keys. -/
def meanPay (c s : FVec Ideal S512x128 .f32) (x : FVec Ideal S512x1024 .f32) (h : Fin 8) (j : Fin 2) : FVec Ideal S1x1x1x128 .f32 :=
  shapeCast S1x1x1x128 (divf (shapeCast S1x128 (multiReduction .add [0] S128
      (extractStridedSlice S256x128 ![256 * j.val, 0] (turned c s (head x h)) (by revert j; decide))
      0x00000000#32 reduces_S256x128_S128 (.inl rfl) rfl) shapeCasts_S128_S1x128)
    (broadcast S1x128 (Scalar.ofBits .f32 0x43800000#32))) shapeCasts_S1x128_S1x1x1x128

theorem head_value {φ : FTy} (x : FVec Ideal S512x1024 φ) (h : Fin 8) (r : Fin 512) (d : Fin 128) :
    head x h (ix2 r d) = x (ix2 r (col h d)) := by
  pointwise [head, col]

theorem turned_value (c s x : FVec Ideal S512x128 .f32) (r : Fin 512) (d : Fin 128) :
    turned c s x (ix2 r d) = turn (fun d => x (ix2 r d)) (fun d => c (ix2 r d)) (fun d => s (ix2 r d)) d := by
  pointwise [turned, turn]
  have e : ∀ hh, (⟨(d.val + 128 - 64) % 128, hh⟩ : Fin 128) = ⟨(d.val + 64) % 128, by omega⟩ := fun _ => Fin.ext (by simp)
  rw [e]

theorem keyPay_value (c s : FVec Ideal S512x128 .f32) (x : FVec Ideal S512x1024 .f32) (h : Fin 8) (r : Fin 512) (d : Fin 128) :
    keyPay c s x h (ix4 0 0 r d)
      = turn (fun d => x (ix2 r (col h d))) (fun d => c (ix2 r d)) (fun d => s (ix2 r d)) d := by
  pointwise [keyPay]
  simp only [turned_value, head_value]

theorem queryPay_value (c s : FVec Ideal S512x128 .f32) (x : FVec Ideal S512x1024 .f32) (h : Fin 8) (r : Fin 512) (d : Fin 128) :
    queryPay c s x h (ix4 0 0 r d)
      = turn (fun d => x (ix2 r (col h d))) (fun d => c (ix2 r d)) (fun d => s (ix2 r d)) d * qscale := by
  pointwise [queryPay]
  simp only [turned_value, head_value]
  rfl

theorem zedPay_value (x : FVec Ideal S512x1024 .bf16) (h : Fin 8) (r : Fin 512) (d : Fin 128) :
    zedPay x h (ix4 0 0 r d) = x (ix2 r (col h d)) := by
  pointwise [zedPay]
  simp only [head_value]

theorem valPay_value (x : FVec Ideal S1024x512 .bf16) (h : Fin 8) (r : Fin 512) (d : Fin 128) :
    valPay x h (ix4 0 0 d r) = x (ix2 (col h d) r) := by
  pointwise [valPay, col]

theorem onesPay_value (e : Fin 16) (r : Fin 512) : onesPay (ix4 0 0 e r) = Ideal.ofBits .bf16 0x3F80#16 := by
  pointwise [onesPay]

theorem meanPay_value (c s : FVec Ideal S512x128 .f32) (x : FVec Ideal S512x1024 .f32) (h : Fin 8) (j : Fin 2) (d : Fin 128) :
    meanPay c s x h j (ix4 0 0 0 d) = Ideal.div (∑ r : Fin 256, turn (fun d => x (ix2 ⟨256 * j.val + r.val, by omega⟩ (col h d)))
      (fun d => c (ix2 ⟨256 * j.val + r.val, by omega⟩ d)) (fun d => s (ix2 ⟨256 * j.val + r.val, by omega⟩ d)) d)
      (Ideal.ofBits .f32 0x43800000#32) := by
  pointwise [meanPay]
  simp only [turned_value, head_value]

theorem kv_value (x0 : Vec Ideal S1x512x1024 .f32) (x2 : Vec Ideal S1x1024 .f32) (r : Fin 512) (e : Fin 1024) :
    k0_pay4 (F := Ideal) x0 x2 (ix2 r e) = plain (fun e => x0 (ix3 0 r e)) (fun e => x2 (ix2 0 e)) e := by
  pointwise [k0_pay4, k0_pay3, plain, nrm]

theorem qz_value (x0 : Vec Ideal S1x512x1024 .f32) (x1 : Vec Ideal S1x1x3072 .f32) (x3 : Vec Ideal S1x1024 .f32) (r : Fin 512)
    (e : Fin 1024) : k0_pay5 (F := Ideal) x0 x1 x3 (ix2 r e)
      = modulated (fun e => x0 (ix3 0 r e)) (fun e => x3 (ix2 0 e)) (fun e => x1 (ix3 0 0 e)) e := by
  pointwise [k0_pay5, k0_pay3, modulated, nrm]

theorem kk_value (a : FVec Ideal S512x1024 .bf16) (w : Vec Ideal S1024x1024 .bf16) (r : Fin 512) (c : Fin 1024) :
    k0_pay8 (F := Ideal) a w (ix2 r c) = ∑ e : Fin 1024, (a (ix2 r e) * w (ix2 e c) : EReal) := by
  pointwise [k0_pay8]

theorem qq_value (a : FVec Ideal S512x1024 .bf16) (w : Vec Ideal S1024x1024 .bf16) (r : Fin 512) (c : Fin 1024) :
    k0_pay9 (F := Ideal) a w (ix2 r c) = ∑ e : Fin 1024, (a (ix2 r e) * w (ix2 e c) : EReal) := by
  pointwise [k0_pay9]

theorem zz_value (a : FVec Ideal S512x1024 .bf16) (w : Vec Ideal S1024x1024 .bf16) (r : Fin 512) (c : Fin 1024) :
    k0_pay79 (F := Ideal) a w (constant S512x1024 .f32 0x00000000#32) (ix2 r c)
      = ∑ e : Fin 1024, (a (ix2 r e) * w (ix2 e c) : EReal) := by
  pointwise [k0_pay79]

theorem vv_value (a : FVec Ideal S512x1024 .bf16) (w : Vec Ideal S1024x1024 .bf16) (r : Fin 512) (c : Fin 1024) :
    k0_pay10 (F := Ideal) a w (ix2 c r) = ∑ e : Fin 1024, (w (ix2 c e) * a (ix2 r e) : EReal) := by
  pointwise [k0_pay10]

end Moba.Proj

end
-- ==== Proof.ProjReference.lean ====
/-
  The projection reference's stages and its results at the indices.
-/
module

public import proofs.«01_k».proof.Proof.ProjBlock
public import proofs.«01_k».proof.Proof.RefScores
public import proofs.«01_k».proof.Proof.Gen.Reference2Ideal.Run

@[expose] public section

set_option maxRecDepth 16384

noncomputable section

namespace Moba.Proj

open Idealize.ShloMosaic Idealize.ShloMosaic.TcCoe Idealize.SL.Sem Idealize.ShloMosaic.StableHlo
open Cert.Reference2Ideal Cert.Reference2Ideal.Gen Cert.Reference2Ideal.Value

/-- The rows over their root mean squares, under the weights. -/
def normAll (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2
      (Host.rsqrt (addf (Host.divf (broadcastInDim S32x2048x1 ![0, 1] bcast_S32x2048_S32x2048x1_0_1
        (Host.reduceAdd (mulf x x) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 g))

/-- Rows scaled and shifted by the scale vectors. -/
def modAll (md : FVec Ideal S32x3072 .f32) (x : FVec Ideal S32x2048x1024 .f32) : FVec Ideal S32x2048x1024 .f32 :=
  addf (mulf x (broadcastInDim S32x2048x1024 ![0, 1, 2] bcast_S32x1x1024_S32x2048x1024_0_1_2
      (addf (broadcastInDim S32x1x1024 ![] bcast_S_S32x1x1024 (constant S_ .f32 0x3F800000#32))
        (extractStridedSlice S32x1x1024 ![0, 0, 1024] (broadcastInDim S32x1x3072 ![0, 2] bcast_S32x3072_S32x1x3072_0_2 md)
          slices_S32x1x3072_S32x1x1024_0_0_1024))))
    (broadcastInDim S32x2048x1024 ![0, 1, 2] bcast_S32x1x1024_S32x2048x1024_0_1_2
      (extractStridedSlice S32x1x1024 ![0, 0, 0] (broadcastInDim S32x1x3072 ![0, 2] bcast_S32x3072_S32x1x3072_0_2 md)
        slices_S32x1x3072_S32x1x1024_0_0_0))

/-- A square projection. -/
def square (x : FVec Ideal S32x2048x1024 .f32) (w : FVec Ideal S1024x1024 .f32) : FVec Ideal S32x2048x1024 .f32 :=
  Host.dotGeneral dot_S32x2048x1024_S1024x1024_S32x2048x1024_2_0_01_1_n_n none x w

/-- The wide projection. -/
def wide (x : FVec Ideal S32x2048x1024 .f32) (w : FVec Ideal S1024x2048 .f32) : FVec Ideal S32x2048x2048 .f32 :=
  Host.dotGeneral dot_S32x2048x1024_S1024x2048_S32x2048x2048_2_0_01_1_n_n none x w

/-- The rows' heads. -/
def parted (x : FVec Ideal S32x2048x1024 .f32) : FVec Ideal S32x2048x8x128 .f32 :=
  shapeCast _ x shapeCasts_S32x2048x1024_S32x2048x8x128

/-- The wide projection's first half. -/
def wideFirst (x : FVec Ideal S32x2048x2048 .f32) : FVec Ideal S32x2048x1024 .f32 :=
  extractStridedSlice S32x2048x1024 ![0, 0, 0] x slices_S32x2048x2048_S32x2048x1024_0_0_0

/-- The wide projection's second half. -/
def wideSecond (x : FVec Ideal S32x2048x2048 .f32) : FVec Ideal S32x2048x1024 .f32 :=
  extractStridedSlice S32x2048x1024 ![0, 0, 1024] x slices_S32x2048x2048_S32x2048x1024_0_0_1024

/-- A rotary table's second half, for every head. -/
def table (c : FVec Ideal S32x2048x128 .f32) : FVec Ideal S32x2048x8x64 .f32 :=
  broadcastInDim S32x2048x8x64 ![0, 1, 2, 3] bcast_S32x2048x1x64_S32x2048x8x64_0_1_2_3
    (broadcastInDim S32x2048x1x64 ![0, 1, 3] bcast_S32x2048x64_S32x2048x1x64_0_1_3
      (extractStridedSlice S32x2048x64 ![0, 0, 64] c slices_S32x2048x128_S32x2048x64_0_0_64))

/-- The turned features' first half. -/
def turnFirst (c s : FVec Ideal S32x2048x128 .f32) (y : FVec Ideal S32x2048x8x128 .f32) : FVec Ideal S32x2048x8x64 .f32 :=
  subf (mulf (extractStridedSlice S32x2048x8x64 ![0, 0, 0, 0] y slices_S32x2048x8x128_S32x2048x8x64_0_0_0_0) (table c))
    (mulf (extractStridedSlice S32x2048x8x64 ![0, 0, 0, 64] y slices_S32x2048x8x128_S32x2048x8x64_0_0_0_64) (table s))

/-- The turned features' second half. -/
def turnSecond (c s : FVec Ideal S32x2048x128 .f32) (y : FVec Ideal S32x2048x8x128 .f32) : FVec Ideal S32x2048x8x64 .f32 :=
  addf (mulf (extractStridedSlice S32x2048x8x64 ![0, 0, 0, 64] y slices_S32x2048x8x128_S32x2048x8x64_0_0_0_64) (table c))
    (mulf (extractStridedSlice S32x2048x8x64 ![0, 0, 0, 0] y slices_S32x2048x8x128_S32x2048x8x64_0_0_0_0) (table s))

/-- The two halves side by side. -/
def beside (x y : FVec Ideal S32x2048x8x64 .f32) : FVec Ideal S32x2048x8x128 .f32 :=
  concatenate S32x2048x8x128 3 [⟨S32x2048x8x64, x⟩, ⟨S32x2048x8x64, y⟩] concatenates_S32x2048x8x64_S32x2048x8x64_S32x2048x8x128_d3

/-- The turned features. -/
def turnAll (c s : FVec Ideal S32x2048x128 .f32) (y : FVec Ideal S32x2048x8x128 .f32) : FVec Ideal S32x2048x8x128 .f32 :=
  beside (turnFirst c s y) (turnSecond c s y)

/-- The heads ahead of the rows. -/
def laid (y : FVec Ideal S32x2048x8x128 .f32) : FVec Ideal S32x8x2048x128 .bf16 :=
  truncf .bf16 (transpose S32x8x2048x128 [0, 2, 1, 3] y transposes_S32x2048x8x128_S32x8x2048x128_0_2_1_3) bitsLt_bf16_f32

/-- Division by √128 · log 2. -/
def scaled (y : FVec Ideal S32x2048x8x128 .f32) : FVec Ideal S32x2048x8x128 .f32 :=
  Host.divf y (broadcastInDim S32x2048x8x128 ![] bcast_S_S32x2048x8x128
    (mulf (Host.sqrt (constant S_ .f32 0x43000000#32)) (Host.log (constant S_ .f32 0x40000000#32))))

/-- The transposed values over rows of ones. -/
def overOnes (y : FVec Ideal S32x2048x8x128 .f32) : FVec Ideal S32x8x144x2048 .bf16 :=
  truncf .bf16 (concatenate S32x8x144x2048 2
    [⟨S32x8x128x2048, transpose S32x8x128x2048 [0, 2, 3, 1] y transposes_S32x2048x8x128_S32x8x128x2048_0_2_3_1⟩,
      ⟨S32x8x16x2048, broadcastInDim S32x8x16x2048 ![] bcast_S_S32x8x16x2048 (constant S_ .f32 0x3F800000#32)⟩]
    concatenates_S32x8x128x2048_S32x8x16x2048_S32x8x144x2048_d2) bitsLt_bf16_f32

/-- The means of the blocks of rows. -/
def meanAll (y : FVec Ideal S32x2048x8x128 .f32) : FVec Ideal S32x8x8x128 .f32 :=
  Host.divf (Host.reduceAdd (shapeCast _ y shapeCasts_S32x2048x8x128_S32x8x256x8x128) (constant S_ .f32 0x00000000#32)
    reducesTo_S32x8x256x8x128_S32x8x8x128_d2 h_S_) (broadcastInDim S32x8x8x128 ![] bcast_S_S32x8x8x128 (constant S_ .f32 0x43800000#32))

/-- The transposed weights. -/
def turnedOver (w : FVec Ideal S1024x1024 .bf16) : FVec Ideal S1024x1024 .f32 :=
  transpose S1024x1024 [1, 0] (extf .f32 w bitsLt_bf16_f32) transposes_S1024x1024_S1024x1024_1_0

theorem normAll_value (x : FVec Ideal S32x2048x1024 .f32) (g : FVec Ideal S1024 .f32) (b : Fin 32) (t : Fin 2048) (e : Fin 1024) :
    normAll x g (ix3 b t e) = plain (fun e => x (ix3 b t e)) (fun e => g (ix1 e)) e := by
  pointwise [normAll, plain, nrm]

theorem modAll_value (md : FVec Ideal S32x3072 .f32) (x : FVec Ideal S32x2048x1024 .f32) (b : Fin 32) (t : Fin 2048) (e : Fin 1024) :
    modAll md x (ix3 b t e) = x (ix3 b t e) * (Ideal.ofBits .f32 0x3F800000#32 + md (ix2 b ⟨1024 + e.val, by omega⟩))
      + md (ix2 b ⟨e.val, by omega⟩) := by
  pointwise [modAll]

theorem square_value (x : FVec Ideal S32x2048x1024 .f32) (w : FVec Ideal S1024x1024 .f32) (b : Fin 32) (t : Fin 2048) (f : Fin 1024) :
    square x w (ix3 b t f) = ∑ e : Fin 1024, (x (ix3 b t e) : EReal) * w (ix2 e f) := by
  pointwise [square]

theorem wide_value (x : FVec Ideal S32x2048x1024 .f32) (w : FVec Ideal S1024x2048 .f32) (b : Fin 32) (t : Fin 2048) (f : Fin 2048) :
    wide x w (ix3 b t f) = ∑ e : Fin 1024, (x (ix3 b t e) : EReal) * w (ix2 e f) := by
  pointwise [wide]

theorem parted_value (x : FVec Ideal S32x2048x1024 .f32) (b : Fin 32) (t : Fin 2048) (h : Fin 8) (d : Fin 128) :
    parted x (ix4 b t h d) = x (ix3 b t (col h d)) := by
  pointwise [parted]
  have e : ∀ hh, (⟨h.val * 128 + d.val, hh⟩ : Fin 1024) = col h d := fun hh => Fin.ext (congrArg (· + d.val) (mul_comm _ 128))
  rw [e]

theorem wideFirst_value (x : FVec Ideal S32x2048x2048 .f32) (b : Fin 32) (t : Fin 2048) (f : Fin 1024) :
    wideFirst x (ix3 b t f) = x (ix3 b t ⟨f.val, by omega⟩) := by
  pointwise [wideFirst]

theorem wideSecond_value (x : FVec Ideal S32x2048x2048 .f32) (b : Fin 32) (t : Fin 2048) (f : Fin 1024) :
    wideSecond x (ix3 b t f) = x (ix3 b t ⟨1024 + f.val, by omega⟩) := by
  pointwise [wideSecond]

theorem turnFirst_value (c s : FVec Ideal S32x2048x128 .f32) (y : FVec Ideal S32x2048x8x128 .f32)
    (b : Fin 32) (t : Fin 2048) (h : Fin 8) (d : Fin 64) :
    turnFirst c s y (ix4 b t h d) = y (ix4 b t h ⟨d.val, by omega⟩) * c (ix3 b t ⟨64 + d.val, by omega⟩)
      - y (ix4 b t h ⟨64 + d.val, by omega⟩) * s (ix3 b t ⟨64 + d.val, by omega⟩) := by
  pointwise [turnFirst, table]

theorem turnSecond_value (c s : FVec Ideal S32x2048x128 .f32) (y : FVec Ideal S32x2048x8x128 .f32)
    (b : Fin 32) (t : Fin 2048) (h : Fin 8) (d : Fin 64) :
    turnSecond c s y (ix4 b t h d) = y (ix4 b t h ⟨64 + d.val, by omega⟩) * c (ix3 b t ⟨64 + d.val, by omega⟩)
      + y (ix4 b t h ⟨d.val, by omega⟩) * s (ix3 b t ⟨64 + d.val, by omega⟩) := by
  pointwise [turnSecond, table]

theorem beside_value (x y : FVec Ideal S32x2048x8x64 .f32) (b : Fin 32) (t : Fin 2048) (h : Fin 8) (d : Fin 128) :
    beside x y (ix4 b t h d) = if hd : d.val < 64 then x (ix4 b t h ⟨d.val, hd⟩) else y (ix4 b t h ⟨d.val - 64, by omega⟩) := by
  pointwise [beside]

theorem laid_value (y : FVec Ideal S32x2048x8x128 .f32) (b : Fin 32) (h : Fin 8) (t : Fin 2048) (d : Fin 128) :
    laid y (ix4 b h t d) = y (ix4 b t h d) := by
  pointwise [laid]

theorem overOnes_value (y : FVec Ideal S32x2048x8x128 .f32) (b : Fin 32) (h : Fin 8) (e : Fin 144) (t : Fin 2048) :
    overOnes y (ix4 b h e t) = if he : e.val < 128 then y (ix4 b t h ⟨e.val, he⟩) else Ideal.ofBits .f32 0x3F800000#32 := by
  pointwise [overOnes]

theorem meanAll_value (y : FVec Ideal S32x2048x8x128 .f32) (b : Fin 32) (n h : Fin 8) (d : Fin 128) :
    meanAll y (ix4 b n h d) = Ideal.div (∑ r : Fin 256, (y (ix4 b ⟨256 * n.val + r.val, by omega⟩ h d) : EReal)) (Ideal.ofBits .f32 0x43800000#32) := by
  pointwise [meanAll]
  have e : ∀ (x : Fin 256) hh, (⟨n.val * 256 + x.val, hh⟩ : Fin 2048) = ⟨256 * n.val + x.val, by omega⟩ := fun x hh =>
    Fin.ext (congrArg (· + x.val) (mul_comm _ 256))
  exact congrArg (Ideal.div · _) (Finset.sum_congr rfl fun x _ => by rw [e])

theorem turnedOver_value (w : FVec Ideal S1024x1024 .bf16) (e f : Fin 1024) : turnedOver w (ix2 e f) = w (ix2 f e) := by
  pointwise [turnedOver]

/-- The word of 128, under the root. -/
theorem sqrt_width : Ideal.sqrt (Ideal.ofBits .f32 0x43000000#32) = ((Real.sqrt 128 : ℝ) : EReal) := by
  have e : (Ideal.ofBits .f32 0x43000000#32 : EReal) = ((128 : ℝ) : EReal) := by
    simp [Ideal.ofBits, Ideal.ieee]
    rw [← EReal.coe_mul]
    norm_num
  rw [e]
  show (if (128 : ℝ) < 0 then (⊥ : EReal) else ((Real.sqrt 128 : ℝ) : EReal)) = _
  rw [if_neg (by norm_num)]

theorem scaled_value (y : FVec Ideal S32x2048x8x128 .f32) (b : Fin 32) (t : Fin 2048) (h : Fin 8) (d : Fin 128) :
    scaled y (ix4 b t h d) = y (ix4 b t h d) * qscale := by
  pointwise [scaled]
  have hp : (0 : ℝ) < Real.sqrt 128 * Real.log 2 := mul_pos (Real.sqrt_pos.mpr (by norm_num)) (Real.log_pos (by norm_num))
  rw [sqrt_width, log_two, ← EReal.coe_mul, Ideal.div_coe hp.ne', one_div]
  rfl

/-- The two words of one. -/
theorem ones_word : (Ideal.ofBits .f32 0x3F800000#32 : EReal) = Ideal.ofBits .bf16 0x3F80#16 := by
  simp [Ideal.ofBits, Ideal.ieee]
  rw [← EReal.coe_mul, ← EReal.coe_mul]
  norm_num

/-- Tables whose cosines' halves agree and whose sines' first half is the second negated. -/
def Halves (c s : Fin 128 → EReal) : Prop :=
  ∀ d : Fin 64, c ⟨d.val, by omega⟩ = c ⟨64 + d.val, by omega⟩ ∧ s ⟨d.val, by omega⟩ = -s ⟨64 + d.val, by omega⟩

theorem turn_low (y c s : Fin 128 → EReal) (H : Halves c s) (d : Fin 128) (hd : d.val < 64) :
    y ⟨d.val, by omega⟩ * c ⟨64 + d.val, by omega⟩ - y ⟨64 + d.val, by omega⟩ * s ⟨64 + d.val, by omega⟩ = turn y c s d := by
  obtain ⟨hc, hs⟩ := H ⟨d.val, hd⟩
  have e : (⟨(d.val + 64) % 128, by omega⟩ : Fin 128) = ⟨64 + d.val, by omega⟩ := Fin.ext (by simp; omega)
  have e' : c d = c ⟨64 + d.val, by omega⟩ := hc
  have e'' : s d = -s ⟨64 + d.val, by omega⟩ := hs
  rw [turn, e, e', e'', mul_neg, sub_eq_add_neg]

theorem turn_high (y c s : Fin 128 → EReal) (d : Fin 128) (hd : ¬ d.val < 64) :
    y ⟨64 + (d.val - 64), by omega⟩ * c ⟨64 + (d.val - 64), by omega⟩
      + y ⟨d.val - 64, by omega⟩ * s ⟨64 + (d.val - 64), by omega⟩ = turn y c s d := by
  have e : (⟨(d.val + 64) % 128, by omega⟩ : Fin 128) = ⟨d.val - 64, by omega⟩ := Fin.ext (by simp; omega)
  have e' : (⟨64 + (d.val - 64), by omega⟩ : Fin 128) = d := Fin.ext (by simp; omega)
  rw [turn, e, e']

theorem turnAll_value (c s : FVec Ideal S32x2048x128 .f32) (y : FVec Ideal S32x2048x8x128 .f32) (b : Fin 32) (t : Fin 2048)
    (H : Halves (fun d => c (ix3 b t d)) (fun d => s (ix3 b t d))) (h : Fin 8) (d : Fin 128) :
    turnAll c s y (ix4 b t h d) = turn (fun d => y (ix4 b t h d)) (fun d => c (ix3 b t d)) (fun d => s (ix3 b t d)) d := by
  rw [turnAll, beside_value]
  by_cases hd : d.val < 64
  · rw [dif_pos hd, turnFirst_value]
    exact turn_low (fun d => y (ix4 b t h d)) _ _ H d hd
  · rw [dif_neg hd, turnSecond_value]
    exact turn_high (fun d => y (ix4 b t h d)) (fun d => c (ix3 b t d)) (fun d => s (ix3 b t d)) d hd

/-! ### The results -/

section Results

variable (x : FVec Ideal S32x2048x1024 .f32) (md : FVec Ideal S32x3072 .f32) (kg pg : FVec Ideal S1024 .f32)
  (wk wv : FVec Ideal S1024x1024 .bf16) (wi : FVec Ideal S1024x2048 .bf16) (c s : FVec Ideal S32x2048x128 .f32)

/-- The call's arrays. -/
def arrays : Inputs where
  h b t e := x (ix3 b t e)
  md b e := md (ix2 b e)
  kg e := kg (ix1 e)
  pg e := pg (ix1 e)
  wk e f := wk (ix2 e f)
  wv e f := wv (ix2 e f)
  wi e f := wi (ix2 e f)
  cos b t d := c (ix3 b t d)
  sin b t d := s (ix3 b t d)

/-- The turned keys. -/
def keysAll : FVec Ideal S32x2048x8x128 .f32 := turnAll c s (parted (square (normAll x kg) (extf .f32 wk bitsLt_bf16_f32)))

/-- The wide projection of the scaled rows. -/
def wideAll : FVec Ideal S32x2048x2048 .f32 := wide (modAll md (normAll x pg)) (extf .f32 wi bitsLt_bf16_f32)

/-- The values and the ones. -/
def valuesAll : FVec Ideal S32x8x144x2048 .bf16 := overOnes (parted (square (normAll x kg) (turnedOver wv)))

/-- The queries. -/
def queriesAll : FVec Ideal S32x8x2048x128 .bf16 := laid (scaled (turnAll c s (parted (wideFirst (wideAll x md pg wi)))))

/-- The gate inputs. -/
def gatesAll : FVec Ideal S32x8x2048x128 .bf16 := laid (parted (wideSecond (wideAll x md pg wi)))

/-- The tables' halves agree as the rotary turn needs. -/
def Signed : Prop := ∀ b t, Halves (fun d => c (ix3 b t d)) (fun d => s (ix3 b t d))

variable {c s}

theorem keysAll_value (H : Signed c s) (b : Fin 32) (t : Fin 2048) (h : Fin 8) (d : Fin 128) :
    keysAll x kg wk c s (ix4 b t h d) = (arrays x md kg pg wk wv wi c s).key b h t d := by
  rw [keysAll, turnAll_value _ _ _ _ _ (H b t)]
  refine congrArg (turn · _ _ d) (funext fun d => ?_)
  show parted (square (normAll x kg) (extf .f32 wk bitsLt_bf16_f32)) (ix4 b t h d) = ∑ e, _
  rw [parted_value, square_value]
  refine Finset.sum_congr rfl fun e _ => ?_
  rw [normAll_value]
  rfl

theorem wideAll_value (b : Fin 32) (t : Fin 2048) (f : Fin 2048) :
    wideAll x md pg wi (ix3 b t f) = ∑ e, (arrays x md kg pg wk wv wi c s).qzRow b t e * (arrays x md kg pg wk wv wi c s).wi e f := by
  rw [wideAll, wide_value]
  refine Finset.sum_congr rfl fun e _ => ?_
  rw [modAll_value, normAll_value]
  rfl

theorem keys_result (H : Signed c s) :
    laid (keysAll x kg wk c s) = fun y : S32x8x2048x128.Idx => (arrays x md kg pg wk wv wi c s).key (y 0) (y 1) (y 2) (y 3) := by
  have at_ix : ∀ (b : Fin 32) (i : Fin 8) (j : Fin 2048) (k : Fin 128), laid (keysAll x kg wk c s) (ix4 b i j k) = (arrays x md kg pg wk wv wi c s).key b i j k := by
    intro b i j k
    rw [laid_value]
    exact keysAll_value x md kg pg wk wv wi H _ _ _ _
  exact funext fun y => (congrArg _ (eq_ix4 y)).trans (at_ix _ _ _ _)

theorem values_result :
    valuesAll x kg wv = fun y : S32x8x144x2048.Idx => (arrays x md kg pg wk wv wi c s).val (y 0) (y 1) (y 2) (y 3) := by
  have at_ix : ∀ (b : Fin 32) (i : Fin 8) (j : Fin 144) (k : Fin 2048), valuesAll x kg wv (ix4 b i j k) = (arrays x md kg pg wk wv wi c s).val b i j k := by
    intro b i j k
    rw [valuesAll, overOnes_value, ones_word]
    rw [Inputs.val]
    split
    · rw [parted_value, square_value]
      refine Finset.sum_congr rfl fun e _ => ?_
      rw [normAll_value, turnedOver_value]
      exact mul_comm _ _
    · rfl
  exact funext fun y => (congrArg _ (eq_ix4 y)).trans (at_ix _ _ _ _)

theorem queries_result (H : Signed c s) :
    queriesAll x md pg wi c s = fun y : S32x8x2048x128.Idx => (arrays x md kg pg wk wv wi c s).query (y 0) (y 1) (y 2) (y 3) := by
  have at_ix : ∀ (b : Fin 32) (i : Fin 8) (j : Fin 2048) (k : Fin 128), queriesAll x md pg wi c s (ix4 b i j k) = (arrays x md kg pg wk wv wi c s).query b i j k := by
    intro b i j k
    rw [queriesAll, laid_value, scaled_value, turnAll_value _ _ _ _ _ (H _ _)]
    refine congrArg (turn · _ _ _ * qscale) (funext fun d => ?_)
    show parted _ _ = ∑ e, _
    rw [parted_value, wideFirst_value]
    exact wideAll_value x md kg pg wk wv wi _ _ _
  exact funext fun y => (congrArg _ (eq_ix4 y)).trans (at_ix _ _ _ _)

theorem gates_result :
    gatesAll x md pg wi = fun y : S32x8x2048x128.Idx => (arrays x md kg pg wk wv wi c s).zed (y 0) (y 1) (y 2) (y 3) := by
  have at_ix : ∀ (b : Fin 32) (i : Fin 8) (j : Fin 2048) (k : Fin 128), gatesAll x md pg wi (ix4 b i j k) = (arrays x md kg pg wk wv wi c s).zed b i j k := by
    intro b i j k
    rw [gatesAll, laid_value, parted_value, wideSecond_value]
    exact wideAll_value x md kg pg wk wv wi _ _ _
  exact funext fun y => (congrArg _ (eq_ix4 y)).trans (at_ix _ _ _ _)

theorem means_result (H : Signed c s) :
    meanAll (keysAll x kg wk c s) = fun y : S32x8x8x128.Idx => (arrays x md kg pg wk wv wi c s).mean (y 0) (y 1) (y 2) (y 3) := by
  have at_ix : ∀ (b : Fin 32) (i j : Fin 8) (k : Fin 128), meanAll (keysAll x kg wk c s) (ix4 b i j k) = (arrays x md kg pg wk wv wi c s).mean b i j k := by
    intro b i j k
    rw [meanAll_value]
    refine congrArg (Ideal.div · _) (Finset.sum_congr rfl fun r _ => ?_)
    exact keysAll_value x md kg pg wk wv wi H _ _ _ _
  exact funext fun y => (congrArg _ (eq_ix4 y)).trans (at_ix _ _ _ _)

end Results

variable (m : (ℓ : Loc nD τ sig) → Buf (Elt Ideal) ℓ) (c : Dev nD)

theorem res_keys : res_main_v91 m c = laid (keysAll (m ((c.tc : Thread nD τ).loc main_arg0)) (m ((c.tc : Thread nD τ).loc main_arg2))
    (m ((c.tc : Thread nD τ).loc main_arg4)) (m ((c.tc : Thread nD τ).loc main_arg7)) (m ((c.tc : Thread nD τ).loc main_arg8))) := rfl

theorem res_queries : res_main_v94 m c = queriesAll (m ((c.tc : Thread nD τ).loc main_arg0)) (m ((c.tc : Thread nD τ).loc main_arg1))
    (m ((c.tc : Thread nD τ).loc main_arg3)) (m ((c.tc : Thread nD τ).loc main_arg6)) (m ((c.tc : Thread nD τ).loc main_arg7))
    (m ((c.tc : Thread nD τ).loc main_arg8)) := rfl

theorem res_means : res_main_v44 m c = meanAll (keysAll (m ((c.tc : Thread nD τ).loc main_arg0)) (m ((c.tc : Thread nD τ).loc main_arg2))
    (m ((c.tc : Thread nD τ).loc main_arg4)) (m ((c.tc : Thread nD τ).loc main_arg7)) (m ((c.tc : Thread nD τ).loc main_arg8))) := rfl

end Moba.Proj

end
-- ==== Proof.ProjPre.lean ====
/-
  What the projection's precondition says of the rotary tables: the cosines' halves agree, and the sines' first half is the
  second negated.
-/
module

public import proofs.«01_k».proof.Pre_rotary_tables
public import proofs.«01_k».proof.Proof.Pre
public import proofs.«01_k».proof.Proof.ProjReference

@[expose] public section

set_option maxRecDepth 16384

noncomputable section

namespace Moba.Proj

open Idealize.ShloMosaic Cert.Pre_rotary_tables

/-- The side conditions of the precondition's operations. -/
instance preFacts : Facts where
  slices_S32x2048x128_S32x2048x64_0_0_0 := by decide
  slices_S32x2048x128_S32x2048x64_0_0_64 := by decide
  reducesTo_S32x2048x64_S_d0_1_2 := by decide
  h_S_ := by decide

/-- The precondition, read. -/
theorem pre_read (x : FVec Ideal S32x2048x1024 .f32) (md : FVec Ideal S32x3072 .f32) (kg pg : FVec Ideal S1024 .f32)
    (wk wv : FVec Ideal S1024x1024 .bf16) (wi : FVec Ideal S1024x2048 .bf16) (c s : FVec Ideal S32x2048x128 .f32)
    (e : fn (F := Ideal) x md kg pg wk wv wi c s = fun _ => 1#1) : Signed c s := by
  have e0 := congrFun e ix0
  dsimp only [fn] at e0
  obtain ⟨ec, es⟩ := both e0
  have hs : Subsingleton S_.Idx := ⟨fun a b => funext fun i => i.elim0⟩
  intro b t d
  have h1 := Host.reduce_andi_all _ _ _ _ _ ec (ix3 b t d)
  have h2 := Host.reduce_andi_all _ _ _ _ _ es (ix3 b t d)
  pointwise at h1
  pointwise at h2
  exact ⟨(WordCmp.ofBool_decide_eq_one_iff _).mp h1, (WordCmp.ofBool_decide_eq_one_iff _).mp h2⟩

end Moba.Proj

end
-- ==== Proof.ProjCases.lean ====
/-
  What the projection kernel's block stores in its five outputs.
-/
module

public import proofs.«01_k».proof.Proof.ProjBlock

@[expose] public section

set_option maxRecDepth 16384
set_option maxHeartbeats 1000000

noncomputable section

namespace Moba.Proj

open Idealize.ShloMosaic Cert.Kernel2Ideal Cert.Kernel2Ideal.Gen

/-! ### Stores that are blocks of one array -/

/-- A store of one head's rows. -/
theorem head_piece (G : S1x8x512x128.Idx → EReal) (a : S1x1x512x128.Idx → EReal) (h : Nat) (hh : h < 8) (inb)
    (ha : ∀ r d, a (ix4 0 0 r d) = G (ix4 0 ⟨h, hh⟩ r d)) (x : S1x1x512x128.Idx) :
    a x = G ((Rect.unit (s := S1x8x512x128) ![0, h, 0, 0] ![1, 1, 512, 128] inb).emb x) := by
  have h0 : (x 0).val < 1 := (x 0).isLt
  have h1 : (x 1).val < 1 := (x 1).isLt
  have e : x = ix4 0 0 (x 2) (x 3) := by
    refine (eq_ix4 x).trans ?_
    congr 1
    · exact Fin.ext (Nat.lt_one_iff.mp h0)
    · exact Fin.ext (Nat.lt_one_iff.mp h1)
  refine (congrArg a e).trans ((ha _ _).trans (congrArg G (((eq_ix4 _).trans ?_).symm)))
  congr 1
  · exact Fin.ext (by show 0 + 1 * (x 0).val = 0; omega)
  · exact Fin.ext (by show h + 1 * (x 1).val = h; omega)
  · exact Fin.ext (by show 0 + 1 * (x 2).val = (x 2).val; omega)
  · exact Fin.ext (by show 0 + 1 * (x 3).val = (x 3).val; omega)

/-- A store of one head's transposed values. -/
theorem val_piece (G : S1x8x144x512.Idx → EReal) (a : S1x1x128x512.Idx → EReal) (h : Nat) (hh : h < 8) (inb)
    (ha : ∀ (d : Fin 128) (r : Fin 512), a (ix4 0 0 d r) = G (ix4 0 ⟨h, hh⟩ ⟨d.val, by omega⟩ r)) (x : S1x1x128x512.Idx) :
    a x = G ((Rect.unit (s := S1x8x144x512) ![0, h, 0, 0] ![1, 1, 128, 512] inb).emb x) := by
  have h0 : (x 0).val < 1 := (x 0).isLt
  have h1 : (x 1).val < 1 := (x 1).isLt
  have e : x = ix4 0 0 (x 2) (x 3) := by
    refine (eq_ix4 x).trans ?_
    congr 1
    · exact Fin.ext (Nat.lt_one_iff.mp h0)
    · exact Fin.ext (Nat.lt_one_iff.mp h1)
  refine (congrArg a e).trans ((ha _ _).trans (congrArg G (((eq_ix4 _).trans ?_).symm)))
  congr 1
  · exact Fin.ext (by show 0 + 1 * (x 0).val = 0; omega)
  · exact Fin.ext (by show h + 1 * (x 1).val = h; omega)
  · exact Fin.ext (by show 0 + 1 * (x 2).val = (x 2).val; omega)
  · exact Fin.ext (by show 0 + 1 * (x 3).val = (x 3).val; omega)

/-- A store of one head's ones. -/
theorem ones_piece (G : S1x8x144x512.Idx → EReal) (a : S1x1x16x512.Idx → EReal) (h : Nat) (hh : h < 8) (inb)
    (ha : ∀ (d : Fin 16) (r : Fin 512), a (ix4 0 0 d r) = G (ix4 0 ⟨h, hh⟩ ⟨128 + d.val, by omega⟩ r)) (x : S1x1x16x512.Idx) :
    a x = G ((Rect.unit (s := S1x8x144x512) ![0, h, 128, 0] ![1, 1, 16, 512] inb).emb x) := by
  have h0 : (x 0).val < 1 := (x 0).isLt
  have h1 : (x 1).val < 1 := (x 1).isLt
  have e : x = ix4 0 0 (x 2) (x 3) := by
    refine (eq_ix4 x).trans ?_
    congr 1
    · exact Fin.ext (Nat.lt_one_iff.mp h0)
    · exact Fin.ext (Nat.lt_one_iff.mp h1)
  refine (congrArg a e).trans ((ha _ _).trans (congrArg G (((eq_ix4 _).trans ?_).symm)))
  congr 1
  · exact Fin.ext (by show 0 + 1 * (x 0).val = 0; omega)
  · exact Fin.ext (by show h + 1 * (x 1).val = h; omega)
  · exact Fin.ext (by show 128 + 1 * (x 2).val = 128 + (x 2).val; omega)
  · exact Fin.ext (by show 0 + 1 * (x 3).val = (x 3).val; omega)

/-- A store of one mean. -/
theorem mean_piece (G : S1x2x8x128.Idx → EReal) (a : S1x1x1x128.Idx → EReal) (j : Nat) (hj : j < 2) (h : Nat) (hh : h < 8) (inb)
    (ha : ∀ d, a (ix4 0 0 0 d) = G (ix4 0 ⟨j, hj⟩ ⟨h, hh⟩ d)) (x : S1x1x1x128.Idx) :
    a x = G ((Rect.unit (s := S1x2x8x128) ![0, j, h, 0] ![1, 1, 1, 128] inb).emb x) := by
  have h0 : (x 0).val < 1 := (x 0).isLt
  have h1 : (x 1).val < 1 := (x 1).isLt
  have h2 : (x 2).val < 1 := (x 2).isLt
  have e : x = ix4 0 0 0 (x 3) := by
    refine (eq_ix4 x).trans ?_
    congr 1
    · exact Fin.ext (Nat.lt_one_iff.mp h0)
    · exact Fin.ext (Nat.lt_one_iff.mp h1)
    · exact Fin.ext (Nat.lt_one_iff.mp h2)
  refine (congrArg a e).trans ((ha _).trans (congrArg G (((eq_ix4 _).trans ?_).symm)))
  congr 1
  · exact Fin.ext (by show 0 + 1 * (x 0).val = 0; omega)
  · exact Fin.ext (by show j + 1 * (x 1).val = j; omega)
  · exact Fin.ext (by show h + 1 * (x 2).val = h; omega)
  · exact Fin.ext (by show 0 + 1 * (x 3).val = (x 3).val; omega)

/-- Eight heads' stores. -/
theorem heads_canon (G : S1x8x512x128.Idx → EReal) (a : Fin 8 → S1x1x512x128.Idx → EReal) (ha : ∀ h r d, a h (ix4 0 0 r d) = G (ix4 0 h r d)) :
    View.canon (Val := Elt Ideal) (e := .bf16) [⟨Rect.unit (s := S1x8x512x128) ![0, 7, 0, 0] ![1, 1, 512, 128] inb_S1x8x512x128_S1x1x512x128_0_7_0_0, a 7⟩,
      ⟨Rect.unit (s := S1x8x512x128) ![0, 6, 0, 0] ![1, 1, 512, 128] inb_S1x8x512x128_S1x1x512x128_0_6_0_0, a 6⟩,
      ⟨Rect.unit (s := S1x8x512x128) ![0, 5, 0, 0] ![1, 1, 512, 128] inb_S1x8x512x128_S1x1x512x128_0_5_0_0, a 5⟩,
      ⟨Rect.unit (s := S1x8x512x128) ![0, 4, 0, 0] ![1, 1, 512, 128] inb_S1x8x512x128_S1x1x512x128_0_4_0_0, a 4⟩,
      ⟨Rect.unit (s := S1x8x512x128) ![0, 3, 0, 0] ![1, 1, 512, 128] inb_S1x8x512x128_S1x1x512x128_0_3_0_0, a 3⟩,
      ⟨Rect.unit (s := S1x8x512x128) ![0, 2, 0, 0] ![1, 1, 512, 128] inb_S1x8x512x128_S1x1x512x128_0_2_0_0, a 2⟩,
      ⟨Rect.unit (s := S1x8x512x128) ![0, 1, 0, 0] ![1, 1, 512, 128] inb_S1x8x512x128_S1x1x512x128_0_1_0_0, a 1⟩,
      ⟨Rect.unit (s := S1x8x512x128) ![0, 0, 0, 0] ![1, 1, 512, 128] inb_S1x8x512x128_S1x1x512x128_0_0_0_0, a 0⟩] = G := by
  funext y
  have := View.canon_append_of_piecesOf (Val := Elt Ideal) (e := .bf16) G [] [⟨Rect.unit (s := S1x8x512x128) ![0, 7, 0, 0] ![1, 1, 512, 128] inb_S1x8x512x128_S1x1x512x128_0_7_0_0, a 7⟩,
      ⟨Rect.unit (s := S1x8x512x128) ![0, 6, 0, 0] ![1, 1, 512, 128] inb_S1x8x512x128_S1x1x512x128_0_6_0_0, a 6⟩,
      ⟨Rect.unit (s := S1x8x512x128) ![0, 5, 0, 0] ![1, 1, 512, 128] inb_S1x8x512x128_S1x1x512x128_0_5_0_0, a 5⟩,
      ⟨Rect.unit (s := S1x8x512x128) ![0, 4, 0, 0] ![1, 1, 512, 128] inb_S1x8x512x128_S1x1x512x128_0_4_0_0, a 4⟩,
      ⟨Rect.unit (s := S1x8x512x128) ![0, 3, 0, 0] ![1, 1, 512, 128] inb_S1x8x512x128_S1x1x512x128_0_3_0_0, a 3⟩,
      ⟨Rect.unit (s := S1x8x512x128) ![0, 2, 0, 0] ![1, 1, 512, 128] inb_S1x8x512x128_S1x1x512x128_0_2_0_0, a 2⟩,
      ⟨Rect.unit (s := S1x8x512x128) ![0, 1, 0, 0] ![1, 1, 512, 128] inb_S1x8x512x128_S1x1x512x128_0_1_0_0, a 1⟩,
      ⟨Rect.unit (s := S1x8x512x128) ![0, 0, 0, 0] ![1, 1, 512, 128] inb_S1x8x512x128_S1x1x512x128_0_0_0_0, a 0⟩]
    ⟨head_piece G _ 7 (by decide) inb_S1x8x512x128_S1x1x512x128_0_7_0_0 (ha 7), head_piece G _ 6 (by decide) inb_S1x8x512x128_S1x1x512x128_0_6_0_0 (ha 6), head_piece G _ 5 (by decide) inb_S1x8x512x128_S1x1x512x128_0_5_0_0 (ha 5), head_piece G _ 4 (by decide) inb_S1x8x512x128_S1x1x512x128_0_4_0_0 (ha 4), head_piece G _ 3 (by decide) inb_S1x8x512x128_S1x1x512x128_0_3_0_0 (ha 3), head_piece G _ 2 (by decide) inb_S1x8x512x128_S1x1x512x128_0_2_0_0 (ha 2), head_piece G _ 1 (by decide) inb_S1x8x512x128_S1x1x512x128_0_1_0_0 (ha 1), head_piece G _ 0 (by decide) inb_S1x8x512x128_S1x1x512x128_0_0_0_0 (ha 0), trivial⟩ y (View.cover_of_tiledL _ ![1, 1, 512, 128] (by sl_kernel_rfl) y)
  rw [List.append_nil] at this
  exact this

/-- Eight heads' values and ones. -/
theorem vals_canon (G : S1x8x144x512.Idx → EReal) (a : Fin 8 → S1x1x128x512.Idx → EReal) (o : S1x1x16x512.Idx → EReal)
    (ha : ∀ (h : Fin 8) (d : Fin 128) (r : Fin 512), a h (ix4 0 0 d r) = G (ix4 0 h ⟨d.val, by omega⟩ r))
    (ho : ∀ (h : Fin 8) (d : Fin 16) (r : Fin 512), o (ix4 0 0 d r) = G (ix4 0 h ⟨128 + d.val, by omega⟩ r)) :
    View.canon (Val := Elt Ideal) (e := .bf16) [⟨Rect.unit (s := S1x8x144x512) ![0, 7, 128, 0] ![1, 1, 16, 512] inb_S1x8x144x512_S1x1x16x512_0_7_128_0, o⟩,
      ⟨Rect.unit (s := S1x8x144x512) ![0, 7, 0, 0] ![1, 1, 128, 512] inb_S1x8x144x512_S1x1x128x512_0_7_0_0, a 7⟩,
      ⟨Rect.unit (s := S1x8x144x512) ![0, 6, 128, 0] ![1, 1, 16, 512] inb_S1x8x144x512_S1x1x16x512_0_6_128_0, o⟩,
      ⟨Rect.unit (s := S1x8x144x512) ![0, 6, 0, 0] ![1, 1, 128, 512] inb_S1x8x144x512_S1x1x128x512_0_6_0_0, a 6⟩,
      ⟨Rect.unit (s := S1x8x144x512) ![0, 5, 128, 0] ![1, 1, 16, 512] inb_S1x8x144x512_S1x1x16x512_0_5_128_0, o⟩,
      ⟨Rect.unit (s := S1x8x144x512) ![0, 5, 0, 0] ![1, 1, 128, 512] inb_S1x8x144x512_S1x1x128x512_0_5_0_0, a 5⟩,
      ⟨Rect.unit (s := S1x8x144x512) ![0, 4, 128, 0] ![1, 1, 16, 512] inb_S1x8x144x512_S1x1x16x512_0_4_128_0, o⟩,
      ⟨Rect.unit (s := S1x8x144x512) ![0, 4, 0, 0] ![1, 1, 128, 512] inb_S1x8x144x512_S1x1x128x512_0_4_0_0, a 4⟩,
      ⟨Rect.unit (s := S1x8x144x512) ![0, 3, 128, 0] ![1, 1, 16, 512] inb_S1x8x144x512_S1x1x16x512_0_3_128_0, o⟩,
      ⟨Rect.unit (s := S1x8x144x512) ![0, 3, 0, 0] ![1, 1, 128, 512] inb_S1x8x144x512_S1x1x128x512_0_3_0_0, a 3⟩,
      ⟨Rect.unit (s := S1x8x144x512) ![0, 2, 128, 0] ![1, 1, 16, 512] inb_S1x8x144x512_S1x1x16x512_0_2_128_0, o⟩,
      ⟨Rect.unit (s := S1x8x144x512) ![0, 2, 0, 0] ![1, 1, 128, 512] inb_S1x8x144x512_S1x1x128x512_0_2_0_0, a 2⟩,
      ⟨Rect.unit (s := S1x8x144x512) ![0, 1, 128, 0] ![1, 1, 16, 512] inb_S1x8x144x512_S1x1x16x512_0_1_128_0, o⟩,
      ⟨Rect.unit (s := S1x8x144x512) ![0, 1, 0, 0] ![1, 1, 128, 512] inb_S1x8x144x512_S1x1x128x512_0_1_0_0, a 1⟩,
      ⟨Rect.unit (s := S1x8x144x512) ![0, 0, 128, 0] ![1, 1, 16, 512] inb_S1x8x144x512_S1x1x16x512_0_0_128_0, o⟩,
      ⟨Rect.unit (s := S1x8x144x512) ![0, 0, 0, 0] ![1, 1, 128, 512] inb_S1x8x144x512_S1x1x128x512_0_0_0_0, a 0⟩] = G := by
  funext y
  have := View.canon_append_of_piecesOf (Val := Elt Ideal) (e := .bf16) G [] [⟨Rect.unit (s := S1x8x144x512) ![0, 7, 128, 0] ![1, 1, 16, 512] inb_S1x8x144x512_S1x1x16x512_0_7_128_0, o⟩,
      ⟨Rect.unit (s := S1x8x144x512) ![0, 7, 0, 0] ![1, 1, 128, 512] inb_S1x8x144x512_S1x1x128x512_0_7_0_0, a 7⟩,
      ⟨Rect.unit (s := S1x8x144x512) ![0, 6, 128, 0] ![1, 1, 16, 512] inb_S1x8x144x512_S1x1x16x512_0_6_128_0, o⟩,
      ⟨Rect.unit (s := S1x8x144x512) ![0, 6, 0, 0] ![1, 1, 128, 512] inb_S1x8x144x512_S1x1x128x512_0_6_0_0, a 6⟩,
      ⟨Rect.unit (s := S1x8x144x512) ![0, 5, 128, 0] ![1, 1, 16, 512] inb_S1x8x144x512_S1x1x16x512_0_5_128_0, o⟩,
      ⟨Rect.unit (s := S1x8x144x512) ![0, 5, 0, 0] ![1, 1, 128, 512] inb_S1x8x144x512_S1x1x128x512_0_5_0_0, a 5⟩,
      ⟨Rect.unit (s := S1x8x144x512) ![0, 4, 128, 0] ![1, 1, 16, 512] inb_S1x8x144x512_S1x1x16x512_0_4_128_0, o⟩,
      ⟨Rect.unit (s := S1x8x144x512) ![0, 4, 0, 0] ![1, 1, 128, 512] inb_S1x8x144x512_S1x1x128x512_0_4_0_0, a 4⟩,
      ⟨Rect.unit (s := S1x8x144x512) ![0, 3, 128, 0] ![1, 1, 16, 512] inb_S1x8x144x512_S1x1x16x512_0_3_128_0, o⟩,
      ⟨Rect.unit (s := S1x8x144x512) ![0, 3, 0, 0] ![1, 1, 128, 512] inb_S1x8x144x512_S1x1x128x512_0_3_0_0, a 3⟩,
      ⟨Rect.unit (s := S1x8x144x512) ![0, 2, 128, 0] ![1, 1, 16, 512] inb_S1x8x144x512_S1x1x16x512_0_2_128_0, o⟩,
      ⟨Rect.unit (s := S1x8x144x512) ![0, 2, 0, 0] ![1, 1, 128, 512] inb_S1x8x144x512_S1x1x128x512_0_2_0_0, a 2⟩,
      ⟨Rect.unit (s := S1x8x144x512) ![0, 1, 128, 0] ![1, 1, 16, 512] inb_S1x8x144x512_S1x1x16x512_0_1_128_0, o⟩,
      ⟨Rect.unit (s := S1x8x144x512) ![0, 1, 0, 0] ![1, 1, 128, 512] inb_S1x8x144x512_S1x1x128x512_0_1_0_0, a 1⟩,
      ⟨Rect.unit (s := S1x8x144x512) ![0, 0, 128, 0] ![1, 1, 16, 512] inb_S1x8x144x512_S1x1x16x512_0_0_128_0, o⟩,
      ⟨Rect.unit (s := S1x8x144x512) ![0, 0, 0, 0] ![1, 1, 128, 512] inb_S1x8x144x512_S1x1x128x512_0_0_0_0, a 0⟩]
    ⟨ones_piece G _ 7 (by decide) inb_S1x8x144x512_S1x1x16x512_0_7_128_0 (ho 7), val_piece G _ 7 (by decide) inb_S1x8x144x512_S1x1x128x512_0_7_0_0 (ha 7), ones_piece G _ 6 (by decide) inb_S1x8x144x512_S1x1x16x512_0_6_128_0 (ho 6), val_piece G _ 6 (by decide) inb_S1x8x144x512_S1x1x128x512_0_6_0_0 (ha 6), ones_piece G _ 5 (by decide) inb_S1x8x144x512_S1x1x16x512_0_5_128_0 (ho 5), val_piece G _ 5 (by decide) inb_S1x8x144x512_S1x1x128x512_0_5_0_0 (ha 5), ones_piece G _ 4 (by decide) inb_S1x8x144x512_S1x1x16x512_0_4_128_0 (ho 4), val_piece G _ 4 (by decide) inb_S1x8x144x512_S1x1x128x512_0_4_0_0 (ha 4), ones_piece G _ 3 (by decide) inb_S1x8x144x512_S1x1x16x512_0_3_128_0 (ho 3), val_piece G _ 3 (by decide) inb_S1x8x144x512_S1x1x128x512_0_3_0_0 (ha 3), ones_piece G _ 2 (by decide) inb_S1x8x144x512_S1x1x16x512_0_2_128_0 (ho 2), val_piece G _ 2 (by decide) inb_S1x8x144x512_S1x1x128x512_0_2_0_0 (ha 2), ones_piece G _ 1 (by decide) inb_S1x8x144x512_S1x1x16x512_0_1_128_0 (ho 1), val_piece G _ 1 (by decide) inb_S1x8x144x512_S1x1x128x512_0_1_0_0 (ha 1), ones_piece G _ 0 (by decide) inb_S1x8x144x512_S1x1x16x512_0_0_128_0 (ho 0), val_piece G _ 0 (by decide) inb_S1x8x144x512_S1x1x128x512_0_0_0_0 (ha 0), trivial⟩ y (View.cover_of_tiledBy _ ![1, 1, 16, 512] (by sl_kernel_rfl) y)
  rw [List.append_nil] at this
  exact this

/-- Sixteen means. -/
theorem means_canon (G : S1x2x8x128.Idx → EReal) (a : Fin 8 → Fin 2 → S1x1x1x128.Idx → EReal) (ha : ∀ h j d, a h j (ix4 0 0 0 d) = G (ix4 0 j h d)) :
    View.canon (Val := Elt Ideal) (e := .f32) [⟨Rect.unit (s := S1x2x8x128) ![0, 1, 7, 0] ![1, 1, 1, 128] inb_S1x2x8x128_S1x1x1x128_0_1_7_0, a 7 1⟩,
      ⟨Rect.unit (s := S1x2x8x128) ![0, 0, 7, 0] ![1, 1, 1, 128] inb_S1x2x8x128_S1x1x1x128_0_0_7_0, a 7 0⟩,
      ⟨Rect.unit (s := S1x2x8x128) ![0, 1, 6, 0] ![1, 1, 1, 128] inb_S1x2x8x128_S1x1x1x128_0_1_6_0, a 6 1⟩,
      ⟨Rect.unit (s := S1x2x8x128) ![0, 0, 6, 0] ![1, 1, 1, 128] inb_S1x2x8x128_S1x1x1x128_0_0_6_0, a 6 0⟩,
      ⟨Rect.unit (s := S1x2x8x128) ![0, 1, 5, 0] ![1, 1, 1, 128] inb_S1x2x8x128_S1x1x1x128_0_1_5_0, a 5 1⟩,
      ⟨Rect.unit (s := S1x2x8x128) ![0, 0, 5, 0] ![1, 1, 1, 128] inb_S1x2x8x128_S1x1x1x128_0_0_5_0, a 5 0⟩,
      ⟨Rect.unit (s := S1x2x8x128) ![0, 1, 4, 0] ![1, 1, 1, 128] inb_S1x2x8x128_S1x1x1x128_0_1_4_0, a 4 1⟩,
      ⟨Rect.unit (s := S1x2x8x128) ![0, 0, 4, 0] ![1, 1, 1, 128] inb_S1x2x8x128_S1x1x1x128_0_0_4_0, a 4 0⟩,
      ⟨Rect.unit (s := S1x2x8x128) ![0, 1, 3, 0] ![1, 1, 1, 128] inb_S1x2x8x128_S1x1x1x128_0_1_3_0, a 3 1⟩,
      ⟨Rect.unit (s := S1x2x8x128) ![0, 0, 3, 0] ![1, 1, 1, 128] inb_S1x2x8x128_S1x1x1x128_0_0_3_0, a 3 0⟩,
      ⟨Rect.unit (s := S1x2x8x128) ![0, 1, 2, 0] ![1, 1, 1, 128] inb_S1x2x8x128_S1x1x1x128_0_1_2_0, a 2 1⟩,
      ⟨Rect.unit (s := S1x2x8x128) ![0, 0, 2, 0] ![1, 1, 1, 128] inb_S1x2x8x128_S1x1x1x128_0_0_2_0, a 2 0⟩,
      ⟨Rect.unit (s := S1x2x8x128) ![0, 1, 1, 0] ![1, 1, 1, 128] inb_S1x2x8x128_S1x1x1x128_0_1_1_0, a 1 1⟩,
      ⟨Rect.unit (s := S1x2x8x128) ![0, 0, 1, 0] ![1, 1, 1, 128] inb_S1x2x8x128_S1x1x1x128_0_0_1_0, a 1 0⟩,
      ⟨Rect.unit (s := S1x2x8x128) ![0, 1, 0, 0] ![1, 1, 1, 128] inb_S1x2x8x128_S1x1x1x128_0_1_0_0, a 0 1⟩,
      ⟨Rect.unit (s := S1x2x8x128) ![0, 0, 0, 0] ![1, 1, 1, 128] inb_S1x2x8x128_S1x1x1x128_0_0_0_0, a 0 0⟩] = G := by
  funext y
  have := View.canon_append_of_piecesOf (Val := Elt Ideal) (e := .f32) G [] [⟨Rect.unit (s := S1x2x8x128) ![0, 1, 7, 0] ![1, 1, 1, 128] inb_S1x2x8x128_S1x1x1x128_0_1_7_0, a 7 1⟩,
      ⟨Rect.unit (s := S1x2x8x128) ![0, 0, 7, 0] ![1, 1, 1, 128] inb_S1x2x8x128_S1x1x1x128_0_0_7_0, a 7 0⟩,
      ⟨Rect.unit (s := S1x2x8x128) ![0, 1, 6, 0] ![1, 1, 1, 128] inb_S1x2x8x128_S1x1x1x128_0_1_6_0, a 6 1⟩,
      ⟨Rect.unit (s := S1x2x8x128) ![0, 0, 6, 0] ![1, 1, 1, 128] inb_S1x2x8x128_S1x1x1x128_0_0_6_0, a 6 0⟩,
      ⟨Rect.unit (s := S1x2x8x128) ![0, 1, 5, 0] ![1, 1, 1, 128] inb_S1x2x8x128_S1x1x1x128_0_1_5_0, a 5 1⟩,
      ⟨Rect.unit (s := S1x2x8x128) ![0, 0, 5, 0] ![1, 1, 1, 128] inb_S1x2x8x128_S1x1x1x128_0_0_5_0, a 5 0⟩,
      ⟨Rect.unit (s := S1x2x8x128) ![0, 1, 4, 0] ![1, 1, 1, 128] inb_S1x2x8x128_S1x1x1x128_0_1_4_0, a 4 1⟩,
      ⟨Rect.unit (s := S1x2x8x128) ![0, 0, 4, 0] ![1, 1, 1, 128] inb_S1x2x8x128_S1x1x1x128_0_0_4_0, a 4 0⟩,
      ⟨Rect.unit (s := S1x2x8x128) ![0, 1, 3, 0] ![1, 1, 1, 128] inb_S1x2x8x128_S1x1x1x128_0_1_3_0, a 3 1⟩,
      ⟨Rect.unit (s := S1x2x8x128) ![0, 0, 3, 0] ![1, 1, 1, 128] inb_S1x2x8x128_S1x1x1x128_0_0_3_0, a 3 0⟩,
      ⟨Rect.unit (s := S1x2x8x128) ![0, 1, 2, 0] ![1, 1, 1, 128] inb_S1x2x8x128_S1x1x1x128_0_1_2_0, a 2 1⟩,
      ⟨Rect.unit (s := S1x2x8x128) ![0, 0, 2, 0] ![1, 1, 1, 128] inb_S1x2x8x128_S1x1x1x128_0_0_2_0, a 2 0⟩,
      ⟨Rect.unit (s := S1x2x8x128) ![0, 1, 1, 0] ![1, 1, 1, 128] inb_S1x2x8x128_S1x1x1x128_0_1_1_0, a 1 1⟩,
      ⟨Rect.unit (s := S1x2x8x128) ![0, 0, 1, 0] ![1, 1, 1, 128] inb_S1x2x8x128_S1x1x1x128_0_0_1_0, a 1 0⟩,
      ⟨Rect.unit (s := S1x2x8x128) ![0, 1, 0, 0] ![1, 1, 1, 128] inb_S1x2x8x128_S1x1x1x128_0_1_0_0, a 0 1⟩,
      ⟨Rect.unit (s := S1x2x8x128) ![0, 0, 0, 0] ![1, 1, 1, 128] inb_S1x2x8x128_S1x1x1x128_0_0_0_0, a 0 0⟩]
    ⟨mean_piece G _ 1 (by decide) 7 (by decide) inb_S1x2x8x128_S1x1x1x128_0_1_7_0 (ha 7 1), mean_piece G _ 0 (by decide) 7 (by decide) inb_S1x2x8x128_S1x1x1x128_0_0_7_0 (ha 7 0), mean_piece G _ 1 (by decide) 6 (by decide) inb_S1x2x8x128_S1x1x1x128_0_1_6_0 (ha 6 1), mean_piece G _ 0 (by decide) 6 (by decide) inb_S1x2x8x128_S1x1x1x128_0_0_6_0 (ha 6 0), mean_piece G _ 1 (by decide) 5 (by decide) inb_S1x2x8x128_S1x1x1x128_0_1_5_0 (ha 5 1), mean_piece G _ 0 (by decide) 5 (by decide) inb_S1x2x8x128_S1x1x1x128_0_0_5_0 (ha 5 0), mean_piece G _ 1 (by decide) 4 (by decide) inb_S1x2x8x128_S1x1x1x128_0_1_4_0 (ha 4 1), mean_piece G _ 0 (by decide) 4 (by decide) inb_S1x2x8x128_S1x1x1x128_0_0_4_0 (ha 4 0), mean_piece G _ 1 (by decide) 3 (by decide) inb_S1x2x8x128_S1x1x1x128_0_1_3_0 (ha 3 1), mean_piece G _ 0 (by decide) 3 (by decide) inb_S1x2x8x128_S1x1x1x128_0_0_3_0 (ha 3 0), mean_piece G _ 1 (by decide) 2 (by decide) inb_S1x2x8x128_S1x1x1x128_0_1_2_0 (ha 2 1), mean_piece G _ 0 (by decide) 2 (by decide) inb_S1x2x8x128_S1x1x1x128_0_0_2_0 (ha 2 0), mean_piece G _ 1 (by decide) 1 (by decide) inb_S1x2x8x128_S1x1x1x128_0_1_1_0 (ha 1 1), mean_piece G _ 0 (by decide) 1 (by decide) inb_S1x2x8x128_S1x1x1x128_0_0_1_0 (ha 1 0), mean_piece G _ 1 (by decide) 0 (by decide) inb_S1x2x8x128_S1x1x1x128_0_1_0_0 (ha 0 1), mean_piece G _ 0 (by decide) 0 (by decide) inb_S1x2x8x128_S1x1x1x128_0_0_0_0 (ha 0 0), trivial⟩ y (View.cover_of_tiledL _ ![1, 1, 1, 128] (by sl_kernel_rfl) y)
  rw [List.append_nil] at this
  exact this

/-! ### The block -/

/-- The input blocks of the point of batch element `b` that computes the rows from `512 i` on. -/
structure Reads (A : Inputs) (b : Fin 32) (i : Fin 4) (x0 : Vec Ideal S1x512x1024 .f32) (x1 : Vec Ideal S1x1x3072 .f32)
    (x2 x3 : Vec Ideal S1x1024 .f32) (x4 x5 : Vec Ideal S1024x1024 .bf16) (x6 : Vec Ideal S1024x2048 .bf16)
    (x7 x8 : Vec Ideal S1x512x128 .f32) : Prop where
  h : ∀ (r : Fin 512) (c : Fin 1024), x0 (ix3 0 r c) = A.h b ⟨512 * i.val + r.val, by omega⟩ c
  md : ∀ c : Fin 3072, x1 (ix3 0 0 c) = A.md b c
  kg : ∀ c : Fin 1024, x2 (ix2 0 c) = A.kg c
  pg : ∀ c : Fin 1024, x3 (ix2 0 c) = A.pg c
  wk : ∀ e c : Fin 1024, x4 (ix2 e c) = A.wk e c
  wv : ∀ e c : Fin 1024, x5 (ix2 e c) = A.wv e c
  wi : ∀ (e : Fin 1024) (c : Fin 2048), x6 (ix2 e c) = A.wi e c
  cos : ∀ (r : Fin 512) (d : Fin 128), x7 (ix3 0 r d) = A.cos b ⟨512 * i.val + r.val, by omega⟩ d
  sin : ∀ (r : Fin 512) (d : Fin 128), x8 (ix3 0 r d) = A.sin b ⟨512 * i.val + r.val, by omega⟩ d

variable {A : Inputs} {b : Fin 32} {i : Fin 4} {x0 : Vec Ideal S1x512x1024 .f32} {x1 : Vec Ideal S1x1x3072 .f32}
  {x2 x3 : Vec Ideal S1x1024 .f32} {x4 x5 : Vec Ideal S1024x1024 .bf16} {x6 : Vec Ideal S1024x2048 .bf16}
  {x7 x8 : Vec Ideal S1x512x128 .f32}

namespace Reads

theorem kv (R : Reads A b i x0 x1 x2 x3 x4 x5 x6 x7 x8) (r : Fin 512) (e : Fin 1024) :
    k0_pay4 (F := Ideal) x0 x2 (ix2 r e) = A.kvRow b ⟨512 * i.val + r.val, by omega⟩ e := by
  rw [kv_value, Inputs.kvRow]
  exact congrArg₂ (fun u v => plain u v e) (funext (R.h r)) (funext R.kg)

theorem qz (R : Reads A b i x0 x1 x2 x3 x4 x5 x6 x7 x8) (r : Fin 512) (e : Fin 1024) :
    k0_pay5 (F := Ideal) x0 x1 x3 (ix2 r e) = A.qzRow b ⟨512 * i.val + r.val, by omega⟩ e := by
  rw [qz_value, Inputs.qzRow, funext R.md]
  exact congrArg₂ (fun u v => modulated u v (A.md b) e) (funext (R.h r)) (funext R.pg)

theorem cosBlock (R : Reads A b i x0 x1 x2 x3 x4 x5 x6 x7 x8) (r : Fin 512) (d : Fin 128) :
    k0_pay6 (F := Ideal) x7 (ix2 r d) = A.cos b ⟨512 * i.val + r.val, by omega⟩ d := by
  rw [← R.cos]
  pointwise [k0_pay6]

theorem sinBlock (R : Reads A b i x0 x1 x2 x3 x4 x5 x6 x7 x8) (r : Fin 512) (d : Fin 128) :
    k0_pay7 (F := Ideal) x8 (ix2 r d) = A.sin b ⟨512 * i.val + r.val, by omega⟩ d := by
  rw [← R.sin]
  pointwise [k0_pay7]

theorem keys (R : Reads A b i x0 x1 x2 x3 x4 x5 x6 x7 x8) (h : Fin 8) (r : Fin 512) (d : Fin 128) :
    turn (fun d => k0_pay8 (F := Ideal) (k0_pay4 x0 x2) x4 (ix2 r (col h d))) (fun d => k0_pay6 (F := Ideal) x7 (ix2 r d))
      (fun d => k0_pay7 (F := Ideal) x8 (ix2 r d)) d = A.key b h ⟨512 * i.val + r.val, by omega⟩ d := by
  rw [Inputs.key, funext (R.cosBlock r), funext (R.sinBlock r)]
  refine congrArg (fun u => turn u _ _ d) (funext fun d => (kk_value _ _ _ _).trans ?_)
  exact Finset.sum_congr rfl fun e _ => congrArg₂ (· * ·) (R.kv r e) (R.wk e _)

theorem queries (R : Reads A b i x0 x1 x2 x3 x4 x5 x6 x7 x8) (w : Vec Ideal S1024x1024 .bf16)
    (hw : ∀ e c : Fin 1024, w (ix2 e c) = A.wi e ⟨c.val, by omega⟩) (h : Fin 8) (r : Fin 512) (d : Fin 128) :
    turn (fun d => k0_pay9 (F := Ideal) (k0_pay5 x0 x1 x3) w (ix2 r (col h d))) (fun d => k0_pay6 (F := Ideal) x7 (ix2 r d))
      (fun d => k0_pay7 (F := Ideal) x8 (ix2 r d)) d * qscale = A.query b h ⟨512 * i.val + r.val, by omega⟩ d := by
  rw [Inputs.query, funext (R.cosBlock r), funext (R.sinBlock r)]
  refine congrArg (fun u => turn u _ _ d * qscale) (funext fun d => (qq_value _ _ _ _).trans ?_)
  exact Finset.sum_congr rfl fun e _ => congrArg₂ (· * ·) (R.qz r e) (hw e _)

end Reads

/-- The first half of the joint weights. -/
theorem ld_first (x : Vec Ideal S1024x2048 .bf16) (e c : Fin 1024) :
    View.ld (Val := Elt Ideal) (e' := .bf16) x (Rect.unit (s := S1024x2048) ![0, 0] ![1024, 1024] inb_S1024x2048_S1024x1024_0_0) (ix2 e c)
      = x (ix2 e ⟨c.val, by omega⟩) := by
  refine congrArg x ((eq_ix2 _).trans ?_)
  congr 1
  · exact Fin.ext (by show 0 + 1 * e.val = e.val; omega)
  · exact Fin.ext (by show 0 + 1 * c.val = c.val; omega)

/-- The second half of the joint weights. -/
theorem ld_second (x : Vec Ideal S1024x2048 .bf16) (e c : Fin 1024) :
    View.ld (Val := Elt Ideal) (e' := .bf16) x (Rect.unit (s := S1024x2048) ![0, 1024] ![1024, 1024] inb_S1024x2048_S1024x1024_0_1024) (ix2 e c)
      = x (ix2 e ⟨1024 + c.val, by omega⟩) := by
  refine congrArg x ((eq_ix2 _).trans ?_)
  congr 1
  · exact Fin.ext (by show 0 + 1 * e.val = e.val; omega)
  · exact Fin.ext (by show 1024 + 1 * c.val = 1024 + c.val; omega)

/-- The stored keys. -/
theorem out9 (R : Reads A b i x0 x1 x2 x3 x4 x5 x6 x7 x8) (c : Dev nD) (g : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x8x512x128 .bf16) (harg11 : arg11.IsWhole) (arg12 : Memref sig .tc .vmem S1x8x144x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x2x8x128 .f32) (harg15 : arg15.IsWhole) :
    out0_A_9 (F := Ideal) c g arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = fun y : S1x8x512x128.Idx => A.key b (y 1) ⟨512 * i.val + (y 2).val, by have : (y 2).val < 512 := (y 2).isLt; omega⟩ (y 3) := by
  frame_open
  frame_out
  refine heads_canon _ (keyPay (k0_pay6 x7) (k0_pay7 x8) (k0_pay8 (k0_pay4 x0 x2) x4)) fun h r d => ?_
  exact (keyPay_value _ _ _ h r d).trans (R.keys h r d)

/-- The stored values over ones. -/
theorem out10 (R : Reads A b i x0 x1 x2 x3 x4 x5 x6 x7 x8) (c : Dev nD) (g : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x8x512x128 .bf16) (harg11 : arg11.IsWhole) (arg12 : Memref sig .tc .vmem S1x8x144x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x2x8x128 .f32) (harg15 : arg15.IsWhole) :
    out0_A_10 (F := Ideal) c g arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = fun y : S1x8x144x512.Idx => A.val b (y 1) (y 2) ⟨512 * i.val + (y 3).val, by have : (y 3).val < 512 := (y 3).isLt; omega⟩ := by
  frame_open
  frame_out
  refine vals_canon _ (valPay (k0_pay10 (k0_pay4 x0 x2) x5)) onesPay (fun h d r => ?_) fun h d r => ?_
  · refine (valPay_value _ h r d).trans ((vv_value _ _ _ _).trans ?_)
    show _ = A.val b h ⟨d.val, _⟩ _
    rw [Inputs.val, dif_pos d.isLt]
    exact Finset.sum_congr rfl fun e _ => congrArg₂ (· * ·) (R.wv _ e) (R.kv r e)
  · refine (onesPay_value d r).trans ?_
    show _ = A.val b h ⟨128 + d.val, _⟩ _
    rw [Inputs.val, dif_neg (by simp)]

/-- The stored queries. -/
theorem out11 (R : Reads A b i x0 x1 x2 x3 x4 x5 x6 x7 x8) (c : Dev nD) (g : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x8x512x128 .bf16) (harg11 : arg11.IsWhole) (arg12 : Memref sig .tc .vmem S1x8x144x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x2x8x128 .f32) (harg15 : arg15.IsWhole) :
    out0_A_11 (F := Ideal) c g arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = fun y : S1x8x512x128.Idx => A.query b (y 1) ⟨512 * i.val + (y 2).val, by have : (y 2).val < 512 := (y 2).isLt; omega⟩ (y 3) := by
  frame_open
  frame_out
  refine heads_canon _ (queryPay (k0_pay6 x7) (k0_pay7 x8) (k0_pay9 (k0_pay5 x0 x1 x3)
    (View.ld (Val := Elt Ideal) (e' := .bf16) x6 (Rect.unit (s := S1024x2048) ![0, 0] ![1024, 1024] inb_S1024x2048_S1024x1024_0_0)))) fun h r d => ?_
  exact (queryPay_value _ _ _ h r d).trans (R.queries _ (fun e c => (ld_first x6 e c).trans (R.wi e _)) h r d)

/-- The stored gate inputs. -/
theorem out12 (R : Reads A b i x0 x1 x2 x3 x4 x5 x6 x7 x8) (c : Dev nD) (g : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x8x512x128 .bf16) (harg11 : arg11.IsWhole) (arg12 : Memref sig .tc .vmem S1x8x144x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x2x8x128 .f32) (harg15 : arg15.IsWhole) :
    out0_A_12 (F := Ideal) c g arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = fun y : S1x8x512x128.Idx => A.zed b (y 1) ⟨512 * i.val + (y 2).val, by have : (y 2).val < 512 := (y 2).isLt; omega⟩ (y 3) := by
  frame_open
  frame_out
  refine heads_canon _ (zedPay (k0_pay79 (k0_pay5 x0 x1 x3)
    (View.ld (Val := Elt Ideal) (e' := .bf16) x6 (Rect.unit (s := S1024x2048) ![0, 1024] ![1024, 1024] inb_S1024x2048_S1024x1024_0_1024))
    (constant S512x1024 .f32 0x00000000#32))) fun h r d => ?_
  exact (zedPay_value _ h r d).trans ((zz_value _ _ _ _).trans (Finset.sum_congr rfl fun e _ =>
    congrArg₂ (· * ·) (R.qz r e) ((ld_second x6 e _).trans (R.wi e _))))

/-- The stored key means. -/
theorem out13 (R : Reads A b i x0 x1 x2 x3 x4 x5 x6 x7 x8) (c : Dev nD) (g : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x8x512x128 .bf16) (harg11 : arg11.IsWhole) (arg12 : Memref sig .tc .vmem S1x8x144x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x2x8x128 .f32) (harg15 : arg15.IsWhole) :
    out0_A_13 (F := Ideal) c g arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = fun y : S1x2x8x128.Idx => A.mean b ⟨2 * i.val + (y 1).val, by have : (y 1).val < 2 := (y 1).isLt; omega⟩ (y 2) (y 3) := by
  frame_open
  frame_out
  refine means_canon _ (meanPay (k0_pay6 x7) (k0_pay7 x8) (k0_pay8 (k0_pay4 x0 x2) x4)) fun h j d => ?_
  refine (meanPay_value _ _ _ h j d).trans ?_
  show _ = A.mean b ⟨2 * i.val + j.val, _⟩ h d
  rw [Inputs.mean]
  refine congrArg (fun u => Ideal.div u _) (Finset.sum_congr rfl fun r _ => (R.keys h _ d).trans ?_)
  refine congrArg (fun t => A.key b h t d) (Fin.ext ?_)
  show 512 * i.val + (256 * j.val + r.val) = 256 * (2 * i.val + j.val) + r.val
  omega

end Moba.Proj

end
-- ==== Proof.ProjValue.lean ====
/-
  The projection kernel's five result arrays after its run.
-/
module

public import proofs.«01_k».proof.Proof.ProjCases

@[expose] public section

set_option maxRecDepth 16384

noncomputable section

namespace Moba.Proj

open Idealize.ShloMosaic Idealize.ShloMosaic.TcCoe Idealize.SL.Sem Cert.Kernel2Ideal Cert.Kernel2Ideal.Gen

/-- The call's arrays in a memory. -/
def inputsOf (m : (ℓ : Loc nD τ sig) → Buf (Elt Ideal) ℓ) (c : Dev nD) : Inputs where
  h b t e := m ((c : Thread nD τ).loc main_arg0) (ix3 b t e)
  md b e := m ((c : Thread nD τ).loc main_arg1) (ix2 b e)
  kg e := m ((c : Thread nD τ).loc main_arg2) (ix1 e)
  pg e := m ((c : Thread nD τ).loc main_arg3) (ix1 e)
  wk e f := m ((c : Thread nD τ).loc main_arg4) (ix2 e f)
  wv e f := m ((c : Thread nD τ).loc main_arg5) (ix2 e f)
  wi e f := m ((c : Thread nD τ).loc main_arg6) (ix2 e f)
  cos b t d := m ((c : Thread nD τ).loc main_arg7) (ix3 b t d)
  sin b t d := m ((c : Thread nD τ).loc main_arg8) (ix3 b t d)

/-- The input windows' block indices at a point: the batch element and the rows' block. -/
theorem idxIn (t : Fin cfg0.N) : win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, t.val % 4, 0] :=
  (by decide +kernel : ∀ t : Fin grid0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, t.val % 4, 0]) t

/-- The output windows' block indices at a point. -/
theorem idxOut (t : Fin cfg0.N) : win0_9.index t = ![t.val / 4, 0, t.val % 4, 0] ∧ win0_10.index t = ![t.val / 4, 0, 0, t.val % 4]
    ∧ win0_11.index t = ![t.val / 4, 0, t.val % 4, 0] ∧ win0_12.index t = ![t.val / 4, 0, t.val % 4, 0]
    ∧ win0_13.index t = ![t.val / 4, t.val % 4, 0, 0] :=
  (by decide +kernel : ∀ t : Fin grid0.N, win0_9.index t = ![t.val / 4, 0, t.val % 4, 0] ∧ win0_10.index t = ![t.val / 4, 0, 0, t.val % 4]
    ∧ win0_11.index t = ![t.val / 4, 0, t.val % 4, 0] ∧ win0_12.index t = ![t.val / 4, 0, t.val % 4, 0]
    ∧ win0_13.index t = ![t.val / 4, t.val % 4, 0, 0]) t

variable {m : (ℓ : Loc nD τ sig) → Buf (Elt Ideal) ℓ} {c : Dev nD}

/-- The reshaped scale vectors at an index. -/
theorem V_md (b : Fin 32) (e : Fin 3072) :
    Cert.Kernel2Ideal.Gen.V m c main_v0 (ix3 b 0 e) = m ((c : Thread nD τ).loc main_arg1) (ix2 b e) := by
  entry_read
  pointwise

/-- The reshaped key norm weights at an index. -/
theorem V_kg (e : Fin 1024) : Cert.Kernel2Ideal.Gen.V m c main_v1 (ix2 0 e) = m ((c : Thread nD τ).loc main_arg2) (ix1 e) := by
  entry_read
  pointwise

/-- The reshaped query norm weights at an index. -/
theorem V_pg (e : Fin 1024) : Cert.Kernel2Ideal.Gen.V m c main_v2 (ix2 0 e) = m ((c : Thread nD τ).loc main_arg3) (ix1 e) := by
  entry_read
  pointwise

/-- A point's input blocks. -/
theorem reads (t : Fin cfg0.N) (b : Fin 32) (i : Fin 4) (hb : b.val = t.val / 4) (hi : i.val = t.val % 4) :
    Reads (inputsOf m c) b i (iblk m c 0 t) (iblk m c 1 t) (iblk m c 2 t) (iblk m c 3 t) (iblk m c 4 t) (iblk m c 5 t) (iblk m c 6 t)
      (iblk m c 7 t) (iblk m c 8 t) where
  h r e := by
    show _ = m ((c : Thread nD τ).loc main_arg0) (ix3 b ⟨512 * i.val + r.val, by omega⟩ e)
    blk_ext [iblk, Cert.Kernel2Ideal.Gen.V, (idxIn t).1]
  md e := by
    refine Eq.trans ?_ (V_md b e)
    blk_ext [iblk, (idxIn t).2.1]
  kg e := by
    refine Eq.trans ?_ (V_kg e)
    blk_ext [iblk, (idxIn t).2.2.1]
  pg e := by
    refine Eq.trans ?_ (V_pg e)
    blk_ext [iblk, (idxIn t).2.2.2.1]
  wk e f := by
    show _ = m ((c : Thread nD τ).loc main_arg4) (ix2 e f)
    blk_ext [iblk, Cert.Kernel2Ideal.Gen.V, (idxIn t).2.2.2.2.1]
  wv e f := by
    show _ = m ((c : Thread nD τ).loc main_arg5) (ix2 e f)
    blk_ext [iblk, Cert.Kernel2Ideal.Gen.V, (idxIn t).2.2.2.2.2.1]
  wi e f := by
    show _ = m ((c : Thread nD τ).loc main_arg6) (ix2 e f)
    blk_ext [iblk, Cert.Kernel2Ideal.Gen.V, (idxIn t).2.2.2.2.2.2.1]
  cos r d := by
    show _ = m ((c : Thread nD τ).loc main_arg7) (ix3 b ⟨512 * i.val + r.val, by omega⟩ d)
    blk_ext [iblk, Cert.Kernel2Ideal.Gen.V, (idxIn t).2.2.2.2.2.2.2.1]
  sin r d := by
    show _ = m ((c : Thread nD τ).loc main_arg8) (ix3 b ⟨512 * i.val + r.val, by omega⟩ d)
    blk_ext [iblk, Cert.Kernel2Ideal.Gen.V, (idxIn t).2.2.2.2.2.2.2.2]

/-- Result 0: `key`. -/
theorem key_array : (dats m 0 c).arrAt 9 cfg0.N = fun y : S32x8x2048x128.Idx => (inputsOf m c).key (y 0) (y 1) (y 2) (y 3) := by
  refine (dats m 0 c).arrAt_eq_of_covers 9 _ (by decide +kernel) fun t hf y => ?_
  have ht : t.val < 128 := t.isLt
  have hy : (y 0).val < 1 := (y 0).isLt
  have e := Value.flushed9_A m c t
  rw [out9 (reads t ⟨t.val / 4, by omega⟩ ⟨t.val % 4, by omega⟩ rfl rfl)] at e
  refine (congrFun e y).trans ?_
  show (inputsOf m c).key _ _ _ _ = (inputsOf m c).key _ _ _ _
  congr 1
  all_goals
    refine Fin.ext ?_
    blk_simp [(idxOut t).1]
    try simp
    try omega

/-- Result 1: `val`. -/
theorem val_array : (dats m 0 c).arrAt 10 cfg0.N = fun y : S32x8x144x2048.Idx => (inputsOf m c).val (y 0) (y 1) (y 2) (y 3) := by
  refine (dats m 0 c).arrAt_eq_of_covers 10 _ (by decide +kernel) fun t hf y => ?_
  have ht : t.val < 128 := t.isLt
  have hy : (y 0).val < 1 := (y 0).isLt
  have e := Value.flushed10_A m c t
  rw [out10 (reads t ⟨t.val / 4, by omega⟩ ⟨t.val % 4, by omega⟩ rfl rfl)] at e
  refine (congrFun e y).trans ?_
  show (inputsOf m c).val _ _ _ _ = (inputsOf m c).val _ _ _ _
  congr 1
  all_goals
    refine Fin.ext ?_
    blk_simp [(idxOut t).2.1]
    try simp
    try omega

/-- Result 2: `query`. -/
theorem query_array : (dats m 0 c).arrAt 11 cfg0.N = fun y : S32x8x2048x128.Idx => (inputsOf m c).query (y 0) (y 1) (y 2) (y 3) := by
  refine (dats m 0 c).arrAt_eq_of_covers 11 _ (by decide +kernel) fun t hf y => ?_
  have ht : t.val < 128 := t.isLt
  have hy : (y 0).val < 1 := (y 0).isLt
  have e := Value.flushed11_A m c t
  rw [out11 (reads t ⟨t.val / 4, by omega⟩ ⟨t.val % 4, by omega⟩ rfl rfl)] at e
  refine (congrFun e y).trans ?_
  show (inputsOf m c).query _ _ _ _ = (inputsOf m c).query _ _ _ _
  congr 1
  all_goals
    refine Fin.ext ?_
    blk_simp [(idxOut t).2.2.1]
    try simp
    try omega

/-- Result 3: `zed`. -/
theorem zed_array : (dats m 0 c).arrAt 12 cfg0.N = fun y : S32x8x2048x128.Idx => (inputsOf m c).zed (y 0) (y 1) (y 2) (y 3) := by
  refine (dats m 0 c).arrAt_eq_of_covers 12 _ (by decide +kernel) fun t hf y => ?_
  have ht : t.val < 128 := t.isLt
  have hy : (y 0).val < 1 := (y 0).isLt
  have e := Value.flushed12_A m c t
  rw [out12 (reads t ⟨t.val / 4, by omega⟩ ⟨t.val % 4, by omega⟩ rfl rfl)] at e
  refine (congrFun e y).trans ?_
  show (inputsOf m c).zed _ _ _ _ = (inputsOf m c).zed _ _ _ _
  congr 1
  all_goals
    refine Fin.ext ?_
    blk_simp [(idxOut t).2.2.2.1]
    try simp
    try omega

/-- Result 4: `mean`. -/
theorem mean_array : (dats m 0 c).arrAt 13 cfg0.N = fun y : S32x8x8x128.Idx => (inputsOf m c).mean (y 0) (y 1) (y 2) (y 3) := by
  refine (dats m 0 c).arrAt_eq_of_covers 13 _ (by decide +kernel) fun t hf y => ?_
  have ht : t.val < 128 := t.isLt
  have hy : (y 0).val < 1 := (y 0).isLt
  have e := Value.flushed13_A m c t
  rw [out13 (reads t ⟨t.val / 4, by omega⟩ ⟨t.val % 4, by omega⟩ rfl rfl)] at e
  refine (congrFun e y).trans ?_
  show (inputsOf m c).mean _ _ _ _ = (inputsOf m c).mean _ _ _ _
  congr 1
  all_goals
    refine Fin.ext ?_
    blk_simp [(idxOut t).2.2.2.2]
    try simp
    try omega

end Moba.Proj

end
-- ==== Proof.ProjAlgebraic.lean ====
/-
  The projection's value claim: from arguments that agree, with rotary tables whose halves agree, the kernel and the
  reference end with the same five results.
-/
module

public import proofs.«01_k».proof.Proof.ProjFrames
public import proofs.«01_k».proof.Proof.ProjPre
public import proofs.«01_k».proof.Proof.ProjValue

@[expose] public section

noncomputable section

namespace Moba.Proj

open Idealize.ShloMosaic Idealize.ShloMosaic.TcCoe Idealize.SL.Sem

/-- Both run, from arguments that agree, and end with equal results. -/
theorem algebraic : Cert.algebraic_Kernel2Ideal_Reference2Ideal_pre_rotary_tables := by
  intro m g m' g' hm hargs
  refine ⟨_, _, _, _, _, Cert.Kernel2Ideal.Value.run_blocks m g, ?_⟩
  refine (θ_run Cert.Reference2Ideal.defs _ _).mono (fun _ h c => ?_) (Cert.Reference2Ideal.Value.run (F := Ideal) m' g')
  obtain ⟨hk, hv, hq, hz, hkm, hrest⟩ := h c
  have H := pre_read _ _ _ _ _ _ _ _ _ (hm c)
  obtain ⟨a0, a1, a2, a3, a4, a5, a6, a7, a8⟩ := hargs c
  refine ⟨hk.trans ?_, hv.trans ?_, hq.trans ?_, hz.trans ?_, hkm.trans ?_, hrest⟩
  · rw [key_array, res_keys, a0, a2, a4, a7, a8]
    exact keys_result _ _ _ _ _ _ _ H
  · rw [val_array, a0, a2, a5]
    exact values_result _ _ _ _ _ _ _
  · rw [query_array, res_queries, a0, a1, a3, a6, a7, a8]
    exact queries_result _ _ _ _ _ _ _ H
  · rw [zed_array, a0, a1, a3, a6]
    exact gates_result _ _ _ _ _ _ _
  · rw [mean_array, res_means, a0, a2, a4, a7, a8]
    exact means_result _ _ _ _ _ _ _ H

end Moba.Proj

end
-- ==== Proof.lean ====
module

public import proofs.«01_k».proof.Defs
public import proofs.«01_k».proof.Proof.Frames
public import proofs.«01_k».proof.Proof.Algebraic
public import proofs.«01_k».proof.Proof.ProjFrames
public import proofs.«01_k».proof.Proof.ProjAlgebraic
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

/-- Every claim, of the attention's call and of the projection's: the frames, the named constants, and the equality of the
    kernel's and the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Moba.preFacts, Moba.Proj.preFacts,
  Moba.frame_kernel, Moba.frame_ideal, fun m ρ _ => Moba.frame_ideal m ρ trivial,
  Moba.frame_reference, fun m ρ _ => Moba.frame_reference m ρ trivial,
  Moba.Proj.frame_kernel, Moba.Proj.frame_ideal, fun m ρ _ => Moba.Proj.frame_ideal m ρ trivial,
  Moba.Proj.frame_reference, fun m ρ _ => Moba.Proj.frame_reference m ρ trivial,
  Moba.preserves, Moba.algebraic, Moba.Proj.preserves, Moba.Proj.algebraic⟩

end Cert.Proof

end
